-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inside_image [hPre_inside_image : Cert.Pre_inside_image.Facts] (m : (ℓ : Loc Cert.KernelIdeal.nD Cert.KernelIdeal.τ Cert.KernelIdeal.sig) → Buf (Elt Ideal) ℓ) : Prop :=
  ∀ c : Dev Cert.KernelIdeal.nD,
    (Cert.Pre_inside_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_inside_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inside_image [hPre_inside_image : Cert.Pre_inside_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inside_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_inside_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inside_image [hKernelIdeal : Cert.KernelIdeal.Facts] [hPre_inside_image : Cert.Pre_inside_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inside_image m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inside_image [hReferenceIdeal : Cert.ReferenceIdeal.Facts] [hPre_inside_image : Cert.Pre_inside_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inside_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inside_image [hKernelIdeal : Cert.KernelIdeal.Facts] [hReferenceIdeal : Cert.ReferenceIdeal.Facts] [hPre_inside_image : Cert.Pre_inside_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inside_image m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inside_image : Cert.Pre_inside_image.Facts),
    quiescent_Kernel (hKernel := hKernel)
    ∧ quiescent_KernelIdeal (hKernelIdeal := hKernelIdeal)
    ∧ quiescent_KernelIdeal_pre_inside_image (hKernelIdeal := hKernelIdeal) (hPre_inside_image := hPre_inside_image)
    ∧ quiescent_ReferenceIdeal (hReferenceIdeal := hReferenceIdeal)
    ∧ quiescent_ReferenceIdeal_pre_inside_image (hReferenceIdeal := hReferenceIdeal) (hPre_inside_image := hPre_inside_image)
    ∧ preserves_Kernel_KernelIdeal
    ∧ algebraic_KernelIdeal_ReferenceIdeal_pre_inside_image (hKernelIdeal := hKernelIdeal) (hReferenceIdeal := hReferenceIdeal) (hPre_inside_image := hPre_inside_image)
-- ==== Pre_inside_image.lean ====
abbrev S8x20000x4 : Shape := ⟨3, ![8, 20000, 4]⟩
abbrev S8x64x4 : Shape := ⟨3, ![8, 64, 4]⟩
abbrev S8x64 : Shape := ⟨2, ![8, 64]⟩
abbrev S8x20000x1 : Shape := ⟨3, ![8, 20000, 1]⟩
abbrev S8x20000 : Shape := ⟨2, ![8, 20000]⟩
abbrev S_ : Shape := ⟨0, ![]⟩

class Facts : Prop where
  slices_S8x20000x4_S8x20000x1_0_0_0 : S8x20000x4.Slices ![0, 0, 0] S8x20000x1
  shapeCasts_S8x20000x1_S8x20000 : S8x20000x1.ShapeCasts S8x20000
  bcast_S_S8x20000 : S_.BroadcastsInDim S8x20000 (![] : Fin 0 → Fin S8x20000.rank)
  slices_S8x20000x4_S8x20000x1_0_0_1 : S8x20000x4.Slices ![0, 0, 1] S8x20000x1
  slices_S8x20000x4_S8x20000x1_0_0_2 : S8x20000x4.Slices ![0, 0, 2] S8x20000x1
  slices_S8x20000x4_S8x20000x1_0_0_3 : S8x20000x4.Slices ![0, 0, 3] S8x20000x1
  bcast_S_S8x64 : S_.BroadcastsInDim S8x64 (![] : Fin 0 → Fin S8x64.rank)

variable [Facts]

def fn_part1 {F : FTy → Type} [FloatOps F] (main_arg2 : IVec S8x64 32) (main_v18 : IVec S8x20000 1) (main_c : IVec S_ 32) : IVec S8x20000 1 × IVec S8x64 1 :=
  let main_v19 : IVec S8x64 32 := broadcastInDim S8x64 ![] bcast_S_S8x64 main_c
  let main_v20 : IVec S8x64 1 := cmpi .slt main_arg2 main_v19
  (main_v18, main_v20)

def fn {F : FTy → Type} [FloatOps F] (main_arg0 : FVec F S8x20000x4 .f32) (main_arg1 : FVec F S8x64x4 .f32) (main_arg2 : IVec S8x64 32) : IVec S8x20000 1 × IVec S8x64 1 :=
  let main_v0 : FVec F S8x20000x1 .f32 := (extractStridedSlice S8x20000x1 ![0, 0, 0] · slices_S8x20000x4_S8x20000x1_0_0_0) main_arg0
  let main_v1 : FVec F S8x20000 .f32 := shapeCast S8x20000 main_v0 shapeCasts_S8x20000x1_S8x20000
  let main_cst : FVec F S_ .f32 := constant S_ .f32 0x00000000#32
  let main_v2 : FVec F S8x20000 .f32 := broadcastInDim S8x20000 ![] bcast_S_S8x20000 main_cst
  let main_v3 : IVec S8x20000 1 := cmpf .oge main_v1 main_v2
  let main_v4 : FVec F S8x20000x1 .f32 := (extractStridedSlice S8x20000x1 ![0, 0, 1] · slices_S8x20000x4_S8x20000x1_0_0_1) main_arg0
  let main_v5 : FVec F S8x20000 .f32 := shapeCast S8x20000 main_v4 shapeCasts_S8x20000x1_S8x20000
  let main_cst_0 : FVec F S_ .f32 := constant S_ .f32 0x00000000#32
  let main_v6 : FVec F S8x20000 .f32 := broadcastInDim S8x20000 ![] bcast_S_S8x20000 main_cst_0
  let main_v7 : IVec S8x20000 1 := cmpf .oge main_v5 main_v6
  let main_v8 : IVec S8x20000 1 := andi main_v3 main_v7
  let main_v9 : FVec F S8x20000x1 .f32 := (extractStridedSlice S8x20000x1 ![0, 0, 2] · slices_S8x20000x4_S8x20000x1_0_0_2) main_arg0
  let main_v10 : FVec F S8x20000 .f32 := shapeCast S8x20000 main_v9 shapeCasts_S8x20000x1_S8x20000
  let main_cst_1 : FVec F S_ .f32 := constant S_ .f32 0x44000000#32
  let main_v11 : FVec F S8x20000 .f32 := broadcastInDim S8x20000 ![] bcast_S_S8x20000 main_cst_1
  let main_v12 : IVec S8x20000 1 := cmpf .ole main_v10 main_v11
  let main_v13 : IVec S8x20000 1 := andi main_v8 main_v12
  let main_v14 : FVec F S8x20000x1 .f32 := (extractStridedSlice S8x20000x1 ![0, 0, 3] · slices_S8x20000x4_S8x20000x1_0_0_3) main_arg0
  let main_v15 : FVec F S8x20000 .f32 := shapeCast S8x20000 main_v14 shapeCasts_S8x20000x1_S8x20000
  let main_cst_2 : FVec F S_ .f32 := constant S_ .f32 0x44000000#32
  let main_v16 : FVec F S8x20000 .f32 := broadcastInDim S8x20000 ![] bcast_S_S8x20000 main_cst_2
  let main_v17 : IVec S8x20000 1 := cmpf .ole main_v15 main_v16
  let main_v18 : IVec S8x20000 1 := andi main_v13 main_v17
  let main_c : IVec S_ 32 := constantI S_ 32 2147483647#32
  fn_part1 (F := F) main_arg2 main_v18 main_c
-- ==== Kernel.lean ====
abbrev S8x20000x4 : Shape := ⟨3, ![8, 20000, 4]⟩
abbrev S8x64x4 : Shape := ⟨3, ![8, 64, 4]⟩
abbrev S8x64 : Shape := ⟨2, ![8, 64]⟩
abbrev S8x4x20000 : Shape := ⟨3, ![8, 4, 20000]⟩
abbrev S_ : Shape := ⟨0, ![]⟩
abbrev S8x4x20480 : Shape := ⟨3, ![8, 4, 20480]⟩
abbrev S8x4x64 : Shape := ⟨3, ![8, 4, 64]⟩
abbrev S8x1x64 : Shape := ⟨3, ![8, 1, 64]⟩
abbrev S8x3x64 : Shape := ⟨3, ![8, 3, 64]⟩
abbrev S8x8x64 : Shape := ⟨3, ![8, 8, 64]⟩
abbrev S8x1x20480 : Shape := ⟨3, ![8, 1, 20480]⟩
abbrev S1x4x20480 : Shape := ⟨3, ![1, 4, 20480]⟩
abbrev S1x64x4 : Shape := ⟨3, ![1, 64, 4]⟩
abbrev S1x8x64 : Shape := ⟨3, ![1, 8, 64]⟩
abbrev S1x1x20480 : Shape := ⟨3, ![1, 1, 20480]⟩
abbrev S64x20480 : Shape := ⟨2, ![64, 20480]⟩
abbrev S64x1 : Shape := ⟨2, ![64, 1]⟩
abbrev S1x20480 : Shape := ⟨2, ![1, 20480]⟩
abbrev S1 : Shape := ⟨1, ![1]⟩
abbrev S4x20480 : Shape := ⟨2, ![4, 20480]⟩
abbrev S64x4 : Shape := ⟨2, ![64, 4]⟩
abbrev S64 : Shape := ⟨1, ![64]⟩
abbrev S20480 : Shape := ⟨1, ![20480]⟩
abbrev S8x20480 : Shape := ⟨2, ![8, 20480]⟩
abbrev S160x128 : Shape := ⟨2, ![160, 128]⟩
abbrev S160x1 : Shape := ⟨2, ![160, 1]⟩
abbrev S1x1x1 : Shape := ⟨3, ![1, 1, 1]⟩
abbrev S8x20480x4 : Shape := ⟨3, ![8, 20480, 4]⟩
abbrev S8x1x20000 : Shape := ⟨3, ![8, 1, 20000]⟩
abbrev S8x20000 : Shape := ⟨2, ![8, 20000]⟩

abbrev nBuf : Space → Nat
  | .hbm => 25
  | .vmem => 19
  | .smem => 1
  | _ => 0

abbrev bufTy : (tb : Table) → Fin (tcTables nBuf tb) → BufTy
  | .hbm, ⟨0, _⟩ => ⟨S8x20000x4, .f32⟩
  | .hbm, ⟨1, _⟩ => ⟨S8x64x4, .f32⟩
  | .hbm, ⟨2, _⟩ => ⟨S8x64, .i32⟩
  | .hbm, ⟨3, _⟩ => ⟨S8x4x20000, .f32⟩
  | .hbm, ⟨4, _⟩ => ⟨S_, .i32⟩
  | .hbm, ⟨5, _⟩ => ⟨S_, .f32⟩
  | .hbm, ⟨6, _⟩ => ⟨S8x4x20480, .f32⟩
  | .hbm, ⟨7, _⟩ => ⟨S8x4x64, .f32⟩
  | .hbm, ⟨8, _⟩ => ⟨S8x64, .f32⟩
  | .hbm, ⟨9, _⟩ => ⟨S8x1x64, .f32⟩
  | .hbm, ⟨10, _⟩ => ⟨S_, .f32⟩
  | .hbm, ⟨11, _⟩ => ⟨S8x3x64, .f32⟩
  | .hbm, ⟨12, _⟩ => ⟨S8x8x64, .f32⟩
  | .hbm, ⟨13, _⟩ => ⟨S8x4x20480, .f32⟩
  | .hbm, ⟨14, _⟩ => ⟨S8x4x20480, .f32⟩
  | .hbm, ⟨15, _⟩ => ⟨S8x1x20480, .f32⟩
  | .hbm, ⟨16, _⟩ => ⟨S8x1x20480, .i32⟩
  | .hbm, ⟨17, _⟩ => ⟨S8x20480x4, .f32⟩
  | .hbm, ⟨18, _⟩ => ⟨S8x20000x4, .f32⟩
  | .hbm, ⟨19, _⟩ => ⟨S8x20480x4, .f32⟩
  | .hbm, ⟨20, _⟩ => ⟨S8x20000x4, .f32⟩
  | .hbm, ⟨21, _⟩ => ⟨S8x1x20000, .f32⟩
  | .hbm, ⟨22, _⟩ => ⟨S8x20000, .f32⟩
  | .hbm, ⟨23, _⟩ => ⟨S8x1x20000, .i32⟩
  | .hbm, ⟨24, _⟩ => ⟨S8x20000, .i32⟩
  | .local _ .vmem, ⟨0, _⟩ => ⟨S1x4x20480, .f32⟩
  | .local _ .vmem, ⟨1, _⟩ => ⟨S1x4x20480, .f32⟩
  | .local _ .vmem, ⟨2, _⟩ => ⟨S1x64x4, .f32⟩
  | .local _ .vmem, ⟨3, _⟩ => ⟨S1x64x4, .f32⟩
  | .local _ .vmem, ⟨4, _⟩ => ⟨S1x8x64, .f32⟩
  | .local _ .vmem, ⟨5, _⟩ => ⟨S1x8x64, .f32⟩
  | .local _ .vmem, ⟨6, _⟩ => ⟨S1x4x20480, .f32⟩
  | .local _ .vmem, ⟨7, _⟩ => ⟨S1x4x20480, .f32⟩
  | .local _ .vmem, ⟨8, _⟩ => ⟨S1x4x20480, .f32⟩
  | .local _ .vmem, ⟨9, _⟩ => ⟨S1x4x20480, .f32⟩
  | .local _ .vmem, ⟨10, _⟩ => ⟨S1x1x20480, .f32⟩
  | .local _ .vmem, ⟨11, _⟩ => ⟨S1x1x20480, .f32⟩
  | .local _ .vmem, ⟨12, _⟩ => ⟨S1x1x20480, .i32⟩
  | .local _ .vmem, ⟨13, _⟩ => ⟨S1x1x20480, .i32⟩
  | .local _ .vmem, ⟨14, _⟩ => ⟨S64x20480, .f32⟩
  | .local _ .vmem, ⟨15, _⟩ => ⟨S64x1, .f32⟩
  | .local _ .vmem, ⟨16, _⟩ => ⟨S1x20480, .f32⟩
  | .local _ .vmem, ⟨17, _⟩ => ⟨S1x20480, .f32⟩
  | .local _ .vmem, ⟨18, _⟩ => ⟨S1x20480, .f32⟩
  | .local _ .smem, ⟨0, _⟩ => ⟨S1, .i32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x20480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x20480 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x20480 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x20480 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x20480 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x20000x4 : Shape := ⟨3, ![8, 20000, 4]⟩
abbrev S8x64x4 : Shape := ⟨3, ![8, 64, 4]⟩
abbrev S8x64 : Shape := ⟨2, ![8, 64]⟩
abbrev S8x20000x1 : Shape := ⟨3, ![8, 20000, 1]⟩
abbrev S8x20000 : Shape := ⟨2, ![8, 20000]⟩
abbrev S_ : Shape := ⟨0, ![]⟩
abbrev S8x20000x2 : Shape := ⟨3, ![8, 20000, 2]⟩
abbrev S8x20000x1x2 : Shape := ⟨4, ![8, 20000, 1, 2]⟩
abbrev S8x64x2 : Shape := ⟨3, ![8, 64, 2]⟩
abbrev S8x1x64x2 : Shape := ⟨4, ![8, 1, 64, 2]⟩
abbrev S8x20000x64x2 : Shape := ⟨4, ![8, 20000, 64, 2]⟩
abbrev S8x20000x64x1 : Shape := ⟨4, ![8, 20000, 64, 1]⟩
abbrev S8x20000x64 : Shape := ⟨3, ![8, 20000, 64]⟩
abbrev S8x64x1 : Shape := ⟨3, ![8, 64, 1]⟩
abbrev S8x1x64 : Shape := ⟨3, ![8, 1, 64]⟩
abbrev S8 : Shape := ⟨1, ![8]⟩
abbrev S8x1 : Shape := ⟨2, ![8, 1]⟩
abbrev S1 : Shape := ⟨1, ![1]⟩
abbrev S1x1x1 : Shape := ⟨3, ![1, 1, 1]⟩

abbrev nBuf : Space → Nat
  | .hbm => 318
  | .vmem => 0
  | .smem => 0
  | _ => 0

abbrev hbmTy0_0 (i : Nat) : BufTy := match i % 128 with
  | 0 => ⟨S8x20000x4, .f32⟩
  | 1 => ⟨S8x64x4, .f32⟩
  | 2 => ⟨S8x64, .i32⟩
  | 3 => ⟨S8x20000x1, .f32⟩
  | 4 => ⟨S8x20000, .f32⟩
  | 5 => ⟨S_, .f32⟩
  | 6 => ⟨S8x20000, .f32⟩
  | 7 => ⟨S8x20000, .i1⟩
  | 8 => ⟨S8x20000x1, .f32⟩
  | 9 => ⟨S8x20000, .f32⟩
  | 10 => ⟨S_, .f32⟩
  | 11 => ⟨S8x20000, .f32⟩
  | 12 => ⟨S8x20000, .i1⟩
  | 13 => ⟨S8x20000, .i1⟩
  | 14 => ⟨S8x20000x1, .f32⟩
  | 15 => ⟨S8x20000, .f32⟩
  | 16 => ⟨S_, .f32⟩
  | 17 => ⟨S8x20000, .f32⟩
  | 18 => ⟨S8x20000, .i1⟩
  | 19 => ⟨S8x20000, .i1⟩
  | 20 => ⟨S8x20000x1, .f32⟩
  | 21 => ⟨S8x20000, .f32⟩
  | 22 => ⟨S_, .f32⟩
  | 23 => ⟨S8x20000, .f32⟩
  | 24 => ⟨S8x20000, .i1⟩
  | 25 => ⟨S8x20000, .i1⟩
  | 26 => ⟨S8x20000x2, .f32⟩
  | 27 => ⟨S8x20000x1x2, .f32⟩
  | 28 => ⟨S8x64x2, .f32⟩
  | 29 => ⟨S8x1x64x2, .f32⟩
  | 30 => ⟨S8x20000x64x2, .f32⟩
  | 31 => ⟨S8x20000x64x2, .f32⟩
  | 32 => ⟨S8x20000x64x2, .f32⟩
  | 33 => ⟨S8x20000x2, .f32⟩
  | 34 => ⟨S8x20000x1x2, .f32⟩
  | 35 => ⟨S8x64x2, .f32⟩
  | 36 => ⟨S8x1x64x2, .f32⟩
  | 37 => ⟨S8x20000x64x2, .f32⟩
  | 38 => ⟨S8x20000x64x2, .f32⟩
  | 39 => ⟨S8x20000x64x2, .f32⟩
  | 40 => ⟨S8x20000x64x2, .f32⟩
  | 41 => ⟨S_, .f32⟩
  | 42 => ⟨S_, .f32⟩
  | 43 => ⟨S8x20000x64x2, .f32⟩
  | 44 => ⟨S8x20000x64x2, .f32⟩
  | 45 => ⟨S8x20000x64x1, .f32⟩
  | 46 => ⟨S8x20000x64, .f32⟩
  | 47 => ⟨S8x20000x64x1, .f32⟩
  | 48 => ⟨S8x20000x64, .f32⟩
  | 49 => ⟨S8x20000x64, .f32⟩
  | 50 => ⟨S8x20000x1, .f32⟩
  | 51 => ⟨S8x20000, .f32⟩
  | 52 => ⟨S8x20000x1, .f32⟩
  | 53 => ⟨S8x20000, .f32⟩
  | 54 => ⟨S8x20000, .f32⟩
  | 55 => ⟨S_, .f32⟩
  | 56 => ⟨S_, .f32⟩
  | 57 => ⟨S8x20000, .f32⟩
  | 58 => ⟨S8x20000, .f32⟩
  | 59 => ⟨S8x20000x1, .f32⟩
  | 60 => ⟨S8x20000, .f32⟩
  | 61 => ⟨S8x20000x1, .f32⟩
  | 62 => ⟨S8x20000, .f32⟩
  | 63 => ⟨S8x20000, .f32⟩
  | 64 => ⟨S_, .f32⟩
  | 65 => ⟨S_, .f32⟩
  | 66 => ⟨S8x20000, .f32⟩
  | 67 => ⟨S8x20000, .f32⟩
  | 68 => ⟨S8x20000, .f32⟩
  | 69 => ⟨S8x64x1, .f32⟩
  | 70 => ⟨S8x64, .f32⟩
  | 71 => ⟨S8x64x1, .f32⟩
  | 72 => ⟨S8x64, .f32⟩
  | 73 => ⟨S8x64, .f32⟩
  | 74 => ⟨S_, .f32⟩
  | 75 => ⟨S_, .f32⟩
  | 76 => ⟨S8x64, .f32⟩
  | 77 => ⟨S8x64, .f32⟩
  | 78 => ⟨S8x64x1, .f32⟩
  | 79 => ⟨S8x64, .f32⟩
  | 80 => ⟨S8x64x1, .f32⟩
  | 81 => ⟨S8x64, .f32⟩
  | 82 => ⟨S8x64, .f32⟩
  | 83 => ⟨S_, .f32⟩
  | 84 => ⟨S_, .f32⟩
  | 85 => ⟨S8x64, .f32⟩
  | 86 => ⟨S8x64, .f32⟩
  | 87 => ⟨S8x64, .f32⟩
  | 88 => ⟨S8x20000x1, .f32⟩
  | 89 => ⟨S8x1x64, .f32⟩
  | 90 => ⟨S8x20000x64, .f32⟩
  | 91 => ⟨S8x20000x64, .f32⟩
  | 92 => ⟨S8x20000x64, .f32⟩
  | 93 => ⟨S8x20000x64, .f32⟩
  | 94 => ⟨S_, .f32⟩
  | 95 => ⟨S8x20000x64, .f32⟩
  | 96 => ⟨S8x20000x64, .f32⟩
  | 97 => ⟨S8x20000x64, .f32⟩
  | 98 => ⟨S8x20000x1, .i1⟩
  | 99 => ⟨S_, .f32⟩
  | 100 => ⟨S_, .f32⟩
  | 101 => ⟨S8x20000x64, .i1⟩
  | 102 => ⟨S8x20000x64, .f32⟩
  | 103 => ⟨S8x20000x64, .f32⟩
  | 104 => ⟨S_, .f32⟩
  | 105 => ⟨S8x20000, .f32⟩
  | 106 => ⟨S8x20000x64, .i32⟩
  | 107 => ⟨S_, .f32⟩
  | 108 => ⟨S_, .i32⟩
  | 109 => ⟨S8x20000, .f32⟩
  | 110 => ⟨S8x20000, .i32⟩
  | 111 => ⟨S_, .f32⟩
  | 112 => ⟨S8x20000, .f32⟩
  | 113 => ⟨S_, .f32⟩
  | 114 => ⟨S8x20000, .f32⟩
  | 115 => ⟨S8x20000, .i1⟩
  | 116 => ⟨S_, .f32⟩
  | 117 => ⟨S8x20000, .f32⟩
  | 118 => ⟨S8x20000, .f32⟩
  | 119 => ⟨S_, .f32⟩
  | 120 => ⟨S8x64, .f32⟩
  | 121 => ⟨S8x1x64, .f32⟩
  | 122 => ⟨S8x20000x64, .f32⟩
  | 123 => ⟨S8x20000x64, .i1⟩
  | 124 => ⟨S_, .f32⟩
  | 125 => ⟨S8x1x64, .f32⟩
  | 126 => ⟨S8x1x64, .i1⟩
  | 127 => ⟨S8x20000x64, .i1⟩
  | _ => ⟨S8x20000x4, .f32⟩

abbrev hbmTy0_1 (i : Nat) : BufTy := match i % 128 with
  | 0 => ⟨S8x20000x64, .i1⟩
  | 1 => ⟨S_, .i1⟩
  | 2 => ⟨S8x20000, .i1⟩
  | 3 => ⟨S_, .f32⟩
  | 4 => ⟨S8x20000, .f32⟩
  | 5 => ⟨S8x20000, .f32⟩
  | 6 => ⟨S_, .f32⟩
  | 7 => ⟨S8x20000, .f32⟩
  | 8 => ⟨S8x20000, .i1⟩
  | 9 => ⟨S_, .f32⟩
  | 10 => ⟨S8x20000, .f32⟩
  | 11 => ⟨S8x20000, .f32⟩
  | 12 => ⟨S_, .f32⟩
  | 13 => ⟨S8x20000, .f32⟩
  | 14 => ⟨S8x20000, .f32⟩
  | 15 => ⟨S_, .f32⟩
  | 16 => ⟨S8x20000, .f32⟩
  | 17 => ⟨S8x20000, .i1⟩
  | 18 => ⟨S8x20000, .i32⟩
  | 19 => ⟨S_, .i32⟩
  | 20 => ⟨S_, .i32⟩
  | 21 => ⟨S8x20000, .i32⟩
  | 22 => ⟨S_, .i32⟩
  | 23 => ⟨S8x20000, .i32⟩
  | 24 => ⟨S8x20000, .i1⟩
  | 25 => ⟨S_, .i1⟩
  | 26 => ⟨S8x20000, .i1⟩
  | 27 => ⟨S8x20000, .i1⟩
  | 28 => ⟨S8x20000, .i1⟩
  | 29 => ⟨S8x20000, .i1⟩
  | 30 => ⟨S_, .f32⟩
  | 31 => ⟨S8x20000, .f32⟩
  | 32 => ⟨S8x20000, .f32⟩
  | 33 => ⟨S8x20000, .i32⟩
  | 34 => ⟨S_, .i32⟩
  | 35 => ⟨S8, .i32⟩
  | 36 => ⟨S_, .i32⟩
  | 37 => ⟨S8, .i32⟩
  | 38 => ⟨S8, .i32⟩
  | 39 => ⟨S_, .f32⟩
  | 40 => ⟨S8x20000, .f32⟩
  | 41 => ⟨S8x20000, .i1⟩
  | 42 => ⟨S8x20000, .i32⟩
  | 43 => ⟨S_, .i32⟩
  | 44 => ⟨S_, .i32⟩
  | 45 => ⟨S8x20000, .i32⟩
  | 46 => ⟨S_, .i32⟩
  | 47 => ⟨S8, .i32⟩
  | 48 => ⟨S8, .i32⟩
  | 49 => ⟨S8x1, .i32⟩
  | 50 => ⟨S8x20000, .i32⟩
  | 51 => ⟨S8x20000, .i1⟩
  | 52 => ⟨S_, .i1⟩
  | 53 => ⟨S8x20000, .i1⟩
  | 54 => ⟨S8x20000, .i1⟩
  | 55 => ⟨S8x20000, .i1⟩
  | 56 => ⟨S8x20000, .i1⟩
  | 57 => ⟨S_, .f32⟩
  | 58 => ⟨S8x20000, .f32⟩
  | 59 => ⟨S8x20000, .f32⟩
  | 60 => ⟨S8x20000x1, .i32⟩
  | 61 => ⟨S_, .i32⟩
  | 62 => ⟨S8x20000x1, .i32⟩
  | 63 => ⟨S8x20000x1, .i1⟩
  | 64 => ⟨S_, .i32⟩
  | 65 => ⟨S8x20000x1, .i32⟩
  | 66 => ⟨S8x20000x1, .i32⟩
  | 67 => ⟨S8x20000x1, .i32⟩
  | 68 => ⟨S1, .i32⟩
  | 69 => ⟨S_, .i32⟩
  | 70 => ⟨S8x20000x1, .i32⟩
  | 71 => ⟨S8x20000x1, .i1⟩
  | 72 => ⟨S1x1x1, .i32⟩
  | 73 => ⟨S8x20000x1, .i32⟩
  | 74 => ⟨S8x20000x1, .i1⟩
  | 75 => ⟨S8x20000x1, .i1⟩
  | 76 => ⟨S_, .i1⟩
  | 77 => ⟨S8x20000, .i1⟩
  | 78 => ⟨S8x20000x4, .f32⟩
  | 79 => ⟨S8x20000x4, .i1⟩
  | 80 => ⟨S_, .f32⟩
  | 81 => ⟨S8x20000x4, .f32⟩
  | 82 => ⟨S8x20000x4, .f32⟩
  | 83 => ⟨S_, .i32⟩
  | 84 => ⟨S8x20000, .i32⟩
  | 85 => ⟨S8x20000, .i1⟩
  | 86 => ⟨S_, .i32⟩
  | 87 => ⟨S8x20000, .i32⟩
  | 88 => ⟨S8x20000, .i32⟩
  | 89 => ⟨S8x20000, .i32⟩
  | 90 => ⟨S8x20000x1, .i32⟩
  | 91 => ⟨S1, .i32⟩
  | 92 => ⟨S_, .i32⟩
  | 93 => ⟨S8x20000x1, .i32⟩
  | 94 => ⟨S8x20000x1, .i1⟩
  | 95 => ⟨S1x1x1, .i32⟩
  | 96 => ⟨S8x20000x1, .i32⟩
  | 97 => ⟨S8x20000x1, .i1⟩
  | 98 => ⟨S8x20000x1, .i1⟩
  | 99 => ⟨S_, .i1⟩
  | 100 => ⟨S8x20000, .i1⟩
  | 101 => ⟨S8x20000, .i32⟩
  | 102 => ⟨S_, .i32⟩
  | 103 => ⟨S8x20000, .i32⟩
  | 104 => ⟨S8x20000, .i32⟩
  | 105 => ⟨S_, .f32⟩
  | 106 => ⟨S8x20000, .f32⟩
  | 107 => ⟨S8x20000, .i1⟩
  | 108 => ⟨S_, .i32⟩
  | 109 => ⟨S8x20000, .i32⟩
  | 110 => ⟨S8x20000, .i32⟩
  | 111 => ⟨S_, .f32⟩
  | 112 => ⟨S8x20000, .f32⟩
  | 113 => ⟨S8x20000, .i1⟩
  | 114 => ⟨S_, .i32⟩
  | 115 => ⟨S_, .i32⟩
  | 116 => ⟨S8x20000, .i32⟩
  | 117 => ⟨S8x20000, .i32⟩
  | 118 => ⟨S8x20000, .i32⟩
  | 119 => ⟨S8x20000, .i32⟩
  | 120 => ⟨S8x20000, .i32⟩
  | 121 => ⟨S8x20000x1, .f32⟩
  | 122 => ⟨S8x20000, .f32⟩
  | 123 => ⟨S8x20000x1, .f32⟩
  | 124 => ⟨S8x20000, .f32⟩
  | 125 => ⟨S8x20000, .f32⟩
  | 126 => ⟨S_, .f32⟩
  | 127 => ⟨S8x20000, .f32⟩
  | _ => ⟨S8x20000x4, .f32⟩

abbrev hbmTy0_2 (i : Nat) : BufTy := match i % 128 with
  | 0 => ⟨S8x20000, .f32⟩
  | 1 => ⟨S8x20000x1, .f32⟩
  | 2 => ⟨S8x20000, .f32⟩
  | 3 => ⟨S8x20000x1, .f32⟩
  | 4 => ⟨S8x20000, .f32⟩
  | 5 => ⟨S8x20000, .f32⟩
  | 6 => ⟨S_, .f32⟩
  | 7 => ⟨S8x20000, .f32⟩
  | 8 => ⟨S8x20000, .f32⟩
  | 9 => ⟨S8x20000x1, .f32⟩
  | 10 => ⟨S8x20000, .f32⟩
  | 11 => ⟨S_, .f32⟩
  | 12 => ⟨S8x20000, .f32⟩
  | 13 => ⟨S8x20000, .f32⟩
  | 14 => ⟨S8x20000, .f32⟩
  | 15 => ⟨S8x20000x1, .f32⟩
  | 16 => ⟨S8x20000, .f32⟩
  | 17 => ⟨S_, .f32⟩
  | 18 => ⟨S8x20000, .f32⟩
  | 19 => ⟨S8x20000, .f32⟩
  | 20 => ⟨S8x20000, .f32⟩
  | 21 => ⟨S8x20000x1, .f32⟩
  | 22 => ⟨S8x20000, .f32⟩
  | 23 => ⟨S8x20000x1, .f32⟩
  | 24 => ⟨S8x20000, .f32⟩
  | 25 => ⟨S8x20000, .f32⟩
  | 26 => ⟨S_, .f32⟩
  | 27 => ⟨S8x20000, .f32⟩
  | 28 => ⟨S8x20000, .f32⟩
  | 29 => ⟨S8x20000x1, .f32⟩
  | 30 => ⟨S8x20000, .f32⟩
  | 31 => ⟨S8x20000x1, .f32⟩
  | 32 => ⟨S8x20000, .f32⟩
  | 33 => ⟨S8x20000, .f32⟩
  | 34 => ⟨S_, .f32⟩
  | 35 => ⟨S8x20000, .f32⟩
  | 36 => ⟨S8x20000, .f32⟩
  | 37 => ⟨S8x20000x1, .f32⟩
  | 38 => ⟨S8x20000, .f32⟩
  | 39 => ⟨S_, .f32⟩
  | 40 => ⟨S8x20000, .f32⟩
  | 41 => ⟨S8x20000, .f32⟩
  | 42 => ⟨S8x20000, .f32⟩
  | 43 => ⟨S8x20000x1, .f32⟩
  | 44 => ⟨S8x20000, .f32⟩
  | 45 => ⟨S_, .f32⟩
  | 46 => ⟨S8x20000, .f32⟩
  | 47 => ⟨S8x20000, .f32⟩
  | 48 => ⟨S8x20000, .f32⟩
  | 49 => ⟨S8x20000, .f32⟩
  | 50 => ⟨S8x20000, .f32⟩
  | 51 => ⟨S8x20000, .f32⟩
  | 52 => ⟨S8x20000, .f32⟩
  | 53 => ⟨S8x20000, .f32⟩
  | 54 => ⟨S8x20000, .f32⟩
  | 55 => ⟨S8x20000, .f32⟩
  | 56 => ⟨S8x20000, .f32⟩
  | 57 => ⟨S8x20000x1, .f32⟩
  | 58 => ⟨S8x20000x1, .f32⟩
  | 59 => ⟨S8x20000x1, .f32⟩
  | 60 => ⟨S8x20000x1, .f32⟩
  | 61 => ⟨S8x20000x4, .f32⟩
  | _ => ⟨S8x20000x4, .f32⟩

abbrev hbmTy (i : Nat) : BufTy := match i / 128 with
  | 0 => hbmTy0_0 i
  | 1 => hbmTy0_1 i
  | 2 => hbmTy0_2 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_call3_v0 : Ref sig .tc := ⟨.hbm, 75, rfl⟩
abbrev main_call3_v1 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_call4_v0 : Ref sig .tc := ⟨.hbm, 84, rfl⟩
abbrev main_call4_v1 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_call6_v0 : Ref sig .tc := ⟨.hbm, 106, rfl⟩
abbrev main_call6_cst : Ref sig .tc := ⟨.hbm, 107, rfl⟩
abbrev main_call6_c : Ref sig .tc := ⟨.hbm, 108, rfl⟩
abbrev main_call6_v1_0 : Ref sig .tc := ⟨.hbm, 109, rfl⟩
abbrev main_v78 : Ref sig .tc := ⟨.hbm, 110, rfl⟩
abbrev main_cst_11 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_call7_v0 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c : Ref sig .tc := ⟨.hbm, 129, rfl⟩
abbrev main_v91 : Ref sig .tc := ⟨.hbm, 130, rfl⟩
abbrev main_cst_16 : Ref sig .tc := ⟨.hbm, 131, rfl⟩
abbrev main_call8_v0 : Ref sig .tc := ⟨.hbm, 132, rfl⟩
abbrev main_v92 : Ref sig .tc := ⟨.hbm, 133, rfl⟩
abbrev main_cst_17 : Ref sig .tc := ⟨.hbm, 134, rfl⟩
abbrev main_v93 : Ref sig .tc := ⟨.hbm, 135, rfl⟩
abbrev main_v94 : Ref sig .tc := ⟨.hbm, 136, rfl⟩
abbrev main_cst_18 : Ref sig .tc := ⟨.hbm, 137, rfl⟩
abbrev main_call9_v0 : Ref sig .tc := ⟨.hbm, 138, rfl⟩
abbrev main_v95 : Ref sig .tc := ⟨.hbm, 139, rfl⟩
abbrev main_cst_19 : Ref sig .tc := ⟨.hbm, 140, rfl⟩
abbrev main_call10_v0 : Ref sig .tc := ⟨.hbm, 141, rfl⟩
abbrev main_v96 : Ref sig .tc := ⟨.hbm, 142, rfl⟩
abbrev main_cst_20 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call11_call0_c : Ref sig .tc := ⟨.hbm, 147, rfl⟩
abbrev main_call11_call0_v0 : Ref sig .tc := ⟨.hbm, 148, rfl⟩
abbrev main_v100 : Ref sig .tc := ⟨.hbm, 149, rfl⟩
abbrev main_c_21 : Ref sig .tc := ⟨.hbm, 150, rfl⟩
abbrev main_v101 : Ref sig .tc := ⟨.hbm, 151, rfl⟩
abbrev main_v102 : Ref sig .tc := ⟨.hbm, 152, rfl⟩
abbrev main_c_22 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_23 : Ref sig .tc := ⟨.hbm, 158, rfl⟩
abbrev main_call12_v0 : Ref sig .tc := ⟨.hbm, 159, rfl⟩
abbrev main_v107 : Ref sig .tc := ⟨.hbm, 160, rfl⟩
abbrev main_v108 : Ref sig .tc := ⟨.hbm, 161, rfl⟩
abbrev main_c_24 : Ref sig .tc := ⟨.hbm, 162, rfl⟩
abbrev main_v109 : Ref sig .tc := ⟨.hbm, 163, rfl⟩
abbrev main_c_25 : Ref sig .tc := ⟨.hbm, 164, rfl⟩
abbrev main_v110 : Ref sig .tc := ⟨.hbm, 165, rfl⟩
abbrev main_v111 : Ref sig .tc := ⟨.hbm, 166, rfl⟩
abbrev main_cst_26 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call13_call0_c : Ref sig .tc := ⟨.hbm, 171, rfl⟩
abbrev main_call13_call0_v0 : Ref sig .tc := ⟨.hbm, 172, rfl⟩
abbrev main_v115 : Ref sig .tc := ⟨.hbm, 173, rfl⟩
abbrev main_c_27 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_c_28 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_29 : Ref sig .tc := ⟨.hbm, 185, rfl⟩
abbrev main_call14_v0 : Ref sig .tc := ⟨.hbm, 186, rfl⟩
abbrev main_v125 : Ref sig .tc := ⟨.hbm, 187, rfl⟩
abbrev main_v126 : Ref sig .tc := ⟨.hbm, 188, rfl⟩
abbrev main_call15_c : Ref sig .tc := ⟨.hbm, 189, rfl⟩
abbrev main_call15_v0 : Ref sig .tc := ⟨.hbm, 190, rfl⟩
abbrev main_call15_v1 : Ref sig .tc := ⟨.hbm, 191, rfl⟩
abbrev main_call15_c_0 : Ref sig .tc := ⟨.hbm, 192, rfl⟩
abbrev main_call15_v2 : Ref sig .tc := ⟨.hbm, 193, rfl⟩
abbrev main_call15_v3 : Ref sig .tc := ⟨.hbm, 194, rfl⟩
abbrev main_call15_v4 : Ref sig .tc := ⟨.hbm, 195, rfl⟩
abbrev main_call15_c_1 : Ref sig .tc := ⟨.hbm, 196, rfl⟩
abbrev main_call15_c_2 : Ref sig .tc := ⟨.hbm, 197, rfl⟩
abbrev main_call15_v5 : Ref sig .tc := ⟨.hbm, 198, rfl⟩
abbrev main_call15_v6 : Ref sig .tc := ⟨.hbm, 199, rfl⟩
abbrev main_call15_v7 : Ref sig .tc := ⟨.hbm, 200, rfl⟩
abbrev main_call15_v8 : Ref sig .tc := ⟨.hbm, 201, rfl⟩
abbrev main_call15_v9 : Ref sig .tc := ⟨.hbm, 202, rfl⟩
abbrev main_call15_v10 : Ref sig .tc := ⟨.hbm, 203, rfl⟩
abbrev main_call15_c_3 : Ref sig .tc := ⟨.hbm, 204, rfl⟩
abbrev main_call15_v11 : Ref sig .tc := ⟨.hbm, 205, rfl⟩
abbrev main_call15_v12 : Ref sig .tc := ⟨.hbm, 206, rfl⟩
abbrev main_call15_v13 : Ref sig .tc := ⟨.hbm, 207, rfl⟩
abbrev main_call15_cst : Ref sig .tc := ⟨.hbm, 208, rfl⟩
abbrev main_call15_v14 : Ref sig .tc := ⟨.hbm, 209, rfl⟩
abbrev main_v127 : Ref sig .tc := ⟨.hbm, 210, rfl⟩
abbrev main_call16_c : Ref sig .tc := ⟨.hbm, 211, rfl⟩
abbrev main_call16_v0 : Ref sig .tc := ⟨.hbm, 212, rfl⟩
abbrev main_call16_v1 : Ref sig .tc := ⟨.hbm, 213, rfl⟩
abbrev main_call16_c_0 : Ref sig .tc := ⟨.hbm, 214, rfl⟩
abbrev main_call16_v2 : Ref sig .tc := ⟨.hbm, 215, rfl⟩
abbrev main_call16_v3 : Ref sig .tc := ⟨.hbm, 216, rfl⟩
abbrev main_call16_v4 : Ref sig .tc := ⟨.hbm, 217, rfl⟩
abbrev main_call16_v5 : Ref sig .tc := ⟨.hbm, 218, rfl⟩
abbrev main_call16_c_1 : Ref sig .tc := ⟨.hbm, 219, rfl⟩
abbrev main_call16_c_2 : Ref sig .tc := ⟨.hbm, 220, rfl⟩
abbrev main_call16_v6 : Ref sig .tc := ⟨.hbm, 221, rfl⟩
abbrev main_call16_v7 : Ref sig .tc := ⟨.hbm, 222, rfl⟩
abbrev main_call16_v8 : Ref sig .tc := ⟨.hbm, 223, rfl⟩
abbrev main_call16_v9 : Ref sig .tc := ⟨.hbm, 224, rfl⟩
abbrev main_call16_v10 : Ref sig .tc := ⟨.hbm, 225, rfl⟩
abbrev main_call16_v11 : Ref sig .tc := ⟨.hbm, 226, rfl⟩
abbrev main_call16_c_3 : Ref sig .tc := ⟨.hbm, 227, rfl⟩
abbrev main_call16_v12 : Ref sig .tc := ⟨.hbm, 228, rfl⟩
abbrev main_call16_v13 : Ref sig .tc := ⟨.hbm, 229, rfl⟩
abbrev main_call16_c_4 : Ref sig .tc := ⟨.hbm, 230, rfl⟩
abbrev main_call16_v14 : Ref sig .tc := ⟨.hbm, 231, rfl⟩
abbrev main_v128 : Ref sig .tc := ⟨.hbm, 232, rfl⟩
abbrev main_cst_30 : Ref sig .tc := ⟨.hbm, 233, rfl⟩
abbrev main_v129 : Ref sig .tc := ⟨.hbm, 234, rfl⟩
abbrev main_v130 : Ref sig .tc := ⟨.hbm, 235, rfl⟩
abbrev main_c_31 : Ref sig .tc := ⟨.hbm, 236, rfl⟩
abbrev main_v131 : Ref sig .tc := ⟨.hbm, 237, rfl⟩
abbrev main_v132 : Ref sig .tc := ⟨.hbm, 238, rfl⟩
abbrev main_cst_32 : Ref sig .tc := ⟨.hbm, 239, rfl⟩
abbrev main_v133 : Ref sig .tc := ⟨.hbm, 240, rfl⟩
abbrev main_v134 : Ref sig .tc := ⟨.hbm, 241, rfl⟩
abbrev main_c_33 : Ref sig .tc := ⟨.hbm, 242, rfl⟩
abbrev main_c_34 : Ref sig .tc := ⟨.hbm, 243, rfl⟩
abbrev main_call17_v0 : Ref sig .tc := ⟨.hbm, 244, rfl⟩
abbrev main_call17_v1 : Ref sig .tc := ⟨.hbm, 245, rfl⟩
abbrev main_v135 : Ref sig .tc := ⟨.hbm, 246, rfl⟩
abbrev main_call18_v0 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_cst_35 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_cst_36 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_cst_37 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_cst_38 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_cst_39 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_40 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_cst_41 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_cst_42 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩

abbrev nD : Nat := 1
abbrev τ : Topo := Topo.v7x

variable {F : FTy → Type} [FloatOps F]
-- ==== Proof.Steps.lean ====
/- The kernel body, one grid point at a time: each of the three phases (the branches of the body's three conditions)
   run on whole buffers at named contents, with the contents it leaves. -/
module

public import proofs.«01_k».proof.Proof.Gen.KernelIdeal.Frame
public import proofs.«01_k».proof.Proof.Gen.KernelIdeal.Skeleton
public import Idealize.ShloMosaic.Lib.Exec
public import Idealize.ShloMosaic.Lib.VecWindow
public import Idealize.ShloMosaic.Lib.Pipeline.Value
public import Idealize.ShloMosaic.Lib.Claim

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_0 : ∀ t : Fin cfg0.N, cond0_0 (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the points ≡ 1 (mod 3) — by arithmetic of the point. -/
theorem hcond0_1 : ∀ t : Fin cfg0.N, cond0_1 (grid0.coords t) ↔ t.val % 3 = 1 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 1)

/-- The condition of the body's `scf.if` 2 (`k0_h3`), from the grid coordinates (the skeleton's scalar
    chain substituted). -/
abbrev cond0_2 (i : grid0.Coords) : Prop := k0_cond3 i = 1#1
/-- It holds at the points ≡ 2 (mod 3) — by arithmetic of the point. -/
theorem hcond0_2 : ∀ t : Fin cfg0.N, cond0_2 (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## The memrefs of a point -/

/-- Each window's current staging memref at point `t`, spelled as the pipeline passes it (`bodyAt0`), and its wholeness. -/
abbrev ms0_0 (t : Fin cfg0.N) : Memref sig .tc .vmem S1x4x20480 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x20480 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x20480 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x20480 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x20480 .i32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S64x20480 .f32 := Memref.whole cc0_scratch0
abbrev scM0_1 : Memref sig .tc .vmem S64x1 .f32 := Memref.whole cc0_scratch1
abbrev scM0_2 : Memref sig .tc .vmem S1x20480 .f32 := Memref.whole cc0_scratch2
abbrev scM0_3 : Memref sig .tc .vmem S1x20480 .f32 := Memref.whole cc0_scratch3
abbrev scM0_4 : Memref sig .tc .vmem S1x20480 .f32 := Memref.whole cc0_scratch4
abbrev scM0_5 : Memref sig .tc .smem S1 .i32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## Whole reads and whole stores -/

/-- Reading a whole buffer at its own extents gives what it holds. -/
theorem readAt_all {κ : Kind} {sp : Space} {s : Shape} {e : EltTy} {M : Memref sig κ sp s e} (h : M.IsWhole) {off : Fin s.rank → ℕ}
    (ho : off = fun _ => 0) (inb : ∀ a, off a + s.size a ≤ s.size a) (x : s.Idx → Elt F e) :
    M.view.readAt (Elt F) (Rect.unit off s.size inb).toLoadRect (h.unread x) = x := by
  rw [View.readAt_eq_ld, h.read_unread, View.ld_unit_zero ho]

theorem z1 : (![0] : Fin 1 → ℕ) = fun _ => 0 := funext fun a => by fin_cases a <;> rfl
theorem z2 : (![0, 0] : Fin 2 → ℕ) = fun _ => 0 := funext fun a => by fin_cases a <;> rfl
theorem z3 : (![0, 0, 0] : Fin 3 → ℕ) = fun _ => 0 := funext fun a => by fin_cases a <;> rfl

/-! ## What each phase computes -/

/-- The one word of a one-word buffer. -/
def wordOf (s : Vec F S1 .i32) : Elt F .i32 := s (Shape.Idx.first (by decide))

/-- Phase 0: the overlap table of a batch, from its anchors and its boxes. -/
def iouOf (x0 : Vec F S1x4x20480 .f32) (x1 : Vec F S1x64x4 .f32) : Vec F S64x20480 .f32 := k0_pay2 (k0_pay19 x0 x1) (k0_pay20 x0 x1)
/-- Phase 0: each box's best overlap. -/
def gtbOf (x0 : Vec F S1x4x20480 .f32) (x1 : Vec F S1x64x4 .f32) : Vec F S64x1 .f32 := k0_pay3 (k0_pay19 x0 x1) (k0_pay20 x0 x1)
/-- Phase 1: the encoded offsets. -/
def locOf (x0 : Vec F S1x4x20480 .f32) (x2 : Vec F S1x8x64 .f32) (s0 : Vec F S64x20480 .f32) : Vec F S1x4x20480 .f32 :=
  k0_pay34 (k0_pay23 s0 x2) (k0_pay24 s0 x2) (k0_pay25 s0 x2) (k0_pay26 s0 x2) (k0_pay30 x0) (k0_pay31 x0) (k0_pay32 x0) (k0_pay33 x0)
    (Scalar.ofBits .f32 0x358637BD#32)
/-- Phase 1: the positive anchors. -/
def posOf (s0 : Vec F S64x20480 .f32) (s1 : Vec F S64x1 .f32) : IVec S1x20480 1 := k0_pay37 (k0_pay21 s0) (k0_pay35 s0 s1)
/-- Phase 1: the two running counts, packed in one word. -/
def cumOf (s0 : Vec F S64x20480 .f32) (s1 : Vec F S64x1 .f32) : IVec S1x20480 32 :=
  let v115 : IVec S160x128 32 := iota .tc S160x128 32 [1] iota_S160x128_d1_w32
  let v127 := k0_pay38 (k0_pay21 s0) (k0_pay35 s0 s1)
  let v132 := k0_pay39 (k0_pay21 s0) (k0_pay35 s0 s1)
  k0_pay44 (k0_pay40 v115 v127 v132) (k0_pay41 v115 v127 v132) (iota .tc S160x1 32 [0] iota_S160x1_d0_w32) (k0_pay42 v115 v127 v132) k0_pay43
/-- Phase 1: the number of positives. -/
def nposOf (s0 : Vec F S64x20480 .f32) (s1 : Vec F S64x1 .f32) : Vec F S1 .i32 :=
  fun _ => extractAt ![0, 0, 0] (k0_pay45 (posOf s0 s1)) inpos_S1x1x1_p0_0_0
/-- Phase 1: the labels before the negatives are sampled. -/
def labOf (s0 : Vec F S64x20480 .f32) (s1 : Vec F S64x1 .f32) : Vec F S1x20480 .f32 :=
  k0_pay5 (k0_pay36 (k0_pay21 s0) (k0_pay35 s0 s1)) (posOf s0 s1) (cumOf s0 s1)

set_option maxHeartbeats 1000000 in
/-- Phase 0 stores the overlap table and its row maxima; every other buffer is left as it was. -/
theorem runA (c : Dev nD) (i : grid0.Coords) (arg2 : Memref sig .tc .vmem S1x4x20480 .f32) (harg2 : arg2.IsWhole) (arg3 : Memref sig .tc .vmem S1x64x4 .f32) (harg3 : arg3.IsWhole) (arg4 : Memref sig .tc .vmem S1x8x64 .f32) (harg4 : arg4.IsWhole) (arg5 : Memref sig .tc .vmem S1x4x20480 .f32) (harg5 : arg5.IsWhole) (arg6 : Memref sig .tc .vmem S1x4x20480 .f32) (harg6 : arg6.IsWhole) (arg7 : Memref sig .tc .vmem S1x1x20480 .f32) (harg7 : arg7.IsWhole) (arg8 : Memref sig .tc .vmem S1x1x20480 .i32) (harg8 : arg8.IsWhole) (arg9 : Memref sig .tc .vmem S64x20480 .f32) (harg9 : arg9.IsWhole) (arg10 : Memref sig .tc .vmem S64x1 .f32) (harg10 : arg10.IsWhole) (arg11 : Memref sig .tc .vmem S1x20480 .f32) (harg11 : arg11.IsWhole) (arg12 : Memref sig .tc .vmem S1x20480 .f32) (harg12 : arg12.IsWhole) (arg13 : Memref sig .tc .vmem S1x20480 .f32) (harg13 : arg13.IsWhole) (arg14 : Memref sig .tc .smem S1 .i32) (harg14 : arg14.IsWhole)
    (hc0 : cond0_0 i) (hc1 : ¬cond0_1 i) (hc2 : ¬cond0_2 i)
    (x0 : Vec F S1x4x20480 .f32) (x1 : Vec F S1x64x4 .f32) (x2 : Vec F S1x8x64 .f32) (y3 : Vec F S1x4x20480 .f32) (y4 : Vec F S1x4x20480 .f32) (y5 : Vec F S1x1x20480 .f32) (y6 : Vec F S1x1x20480 .i32) (s0 : Vec F S64x20480 .f32) (s1 : Vec F S64x1 .f32) (s2 : Vec F S1x20480 .f32) (s3 : Vec F S1x20480 .f32) (s4 : Vec F S1x20480 .f32) (s5 : Vec F S1 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare s0 ∗ owns (c : Thread nD τ) arg10 fullShare s1 ∗ owns (c : Thread nD τ) arg11 fullShare s2 ∗ owns (c : Thread nD τ) arg12 fullShare s3 ∗ owns (c : Thread nD τ) arg13 fullShare s4 ∗ owns (c : Thread nD τ) arg14 fullShare s5
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare (iouOf x0 x1) ∗ owns (c : Thread nD τ) arg10 fullShare (gtbOf x0 x1) ∗ owns (c : Thread nD τ) arg11 fullShare s2 ∗ owns (c : Thread nD τ) arg12 fullShare s3 ∗ owns (c : Thread nD τ) arg13 fullShare s4 ∗ owns (c : Thread nD τ) arg14 fullShare s5) -∗ K ⟨⟩))
      ⊢ wp frame (wpE (defs₀ (F := F)) Variants.none c none) E (cc0__tg_kernel i arg2 harg2 arg3 harg3 arg4 harg4 arg5 harg5 arg6 harg6 arg7 harg7 arg8 harg8 arg9 harg9 arg10 harg10 arg11 harg11 arg12 harg12 arg13 harg13 arg14 harg14) K := by
  simp only [cc0__tg_kernel_eq_skeleton]; unfold cc0__tg_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; refine (View.read_writes_full _ _ _ _ _).trans ?_; sl_unfold_words; rw [readAt_all harg2 z3 inb_S1x4x20480_S1x4x20480_0_0_0 x0, readAt_all harg3 z3 inb_S1x64x4_S1x64x4_0_0_0 x1]; rfl
  isplitl [H8]
  · iexists _; isplitr; swap; · iexact H8
    ipureintro; refine (View.read_writes_full _ _ _ _ _).trans ?_; sl_unfold_words; rw [readAt_all harg2 z3 inb_S1x4x20480_S1x4x20480_0_0_0 x0, readAt_all harg3 z3 inb_S1x64x4_S1x64x4_0_0_0 x1]; rfl
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; · ipureintro; exact harg14.read_unread _
  iexact H12

set_option maxHeartbeats 1000000 in
/-- Phase 1 stores the gathered boxes, the offsets, the labels, the ranks, the matched labels and the count. -/
theorem runB (c : Dev nD) (i : grid0.Coords) (arg2 : Memref sig .tc .vmem S1x4x20480 .f32) (harg2 : arg2.IsWhole) (arg3 : Memref sig .tc .vmem S1x64x4 .f32) (harg3 : arg3.IsWhole) (arg4 : Memref sig .tc .vmem S1x8x64 .f32) (harg4 : arg4.IsWhole) (arg5 : Memref sig .tc .vmem S1x4x20480 .f32) (harg5 : arg5.IsWhole) (arg6 : Memref sig .tc .vmem S1x4x20480 .f32) (harg6 : arg6.IsWhole) (arg7 : Memref sig .tc .vmem S1x1x20480 .f32) (harg7 : arg7.IsWhole) (arg8 : Memref sig .tc .vmem S1x1x20480 .i32) (harg8 : arg8.IsWhole) (arg9 : Memref sig .tc .vmem S64x20480 .f32) (harg9 : arg9.IsWhole) (arg10 : Memref sig .tc .vmem S64x1 .f32) (harg10 : arg10.IsWhole) (arg11 : Memref sig .tc .vmem S1x20480 .f32) (harg11 : arg11.IsWhole) (arg12 : Memref sig .tc .vmem S1x20480 .f32) (harg12 : arg12.IsWhole) (arg13 : Memref sig .tc .vmem S1x20480 .f32) (harg13 : arg13.IsWhole) (arg14 : Memref sig .tc .smem S1 .i32) (harg14 : arg14.IsWhole)
    (hc0 : ¬cond0_0 i) (hc1 : cond0_1 i) (hc2 : ¬cond0_2 i)
    (x0 : Vec F S1x4x20480 .f32) (x1 : Vec F S1x64x4 .f32) (x2 : Vec F S1x8x64 .f32) (y3 : Vec F S1x4x20480 .f32) (y4 : Vec F S1x4x20480 .f32) (y5 : Vec F S1x1x20480 .f32) (y6 : Vec F S1x1x20480 .i32) (s0 : Vec F S64x20480 .f32) (s1 : Vec F S64x1 .f32) (s2 : Vec F S1x20480 .f32) (s3 : Vec F S1x20480 .f32) (s4 : Vec F S1x20480 .f32) (s5 : Vec F S1 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare s0 ∗ owns (c : Thread nD τ) arg10 fullShare s1 ∗ owns (c : Thread nD τ) arg11 fullShare s2 ∗ owns (c : Thread nD τ) arg12 fullShare s3 ∗ owns (c : Thread nD τ) arg13 fullShare s4 ∗ owns (c : Thread nD τ) arg14 fullShare s5
        ∗ (iprop(owns (c : Thread nD τ) arg2 fullShare x0 ∗ owns (c : Thread nD τ) arg3 fullShare x1 ∗ owns (c : Thread nD τ) arg4 fullShare x2 ∗ owns (c : Thread nD τ) arg5 fullShare (k0_pay27 s0 x2) ∗ owns (c : Thread nD τ) arg6 fullShare (locOf x0 x2 s0) ∗ owns (c : Thread nD τ) arg7 fullShare y5 ∗ owns (c : Thread nD τ) arg8 fullShare y6 ∗ owns (c : Thread nD τ) arg9 fullShare s0 ∗ owns (c : Thread nD τ) arg10 fullShare s1 ∗ owns (c : Thread nD τ) arg11 fullShare (labOf s0 s1) ∗ owns (c : Thread nD τ) arg12 fullShare (k0_pay4 (F := F) (cumOf s0 s1)) ∗ owns (c : Thread nD τ) arg13 fullShare (k0_pay28 s0 x2) ∗ owns (c : Thread nD τ) arg14 fullShare (nposOf s0 s1)) -∗ K ⟨⟩))
      ⊢ wp frame (wpE (defs₀ (F := F)) Variants.none c none) E (cc0__tg_kernel i arg2 harg2 arg3 harg3 arg4 harg4 arg5 harg5 arg6 harg6 arg7 harg7 arg8 harg8 arg9 harg9 arg10 harg10 arg11 harg11 arg12 harg12 arg13 harg13 arg14 harg14) K := by
  simp only [cc0__tg_kernel_eq_skeleton]; unfold cc0__tg_kernel_skel
  simp only [k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; refine (View.read_writes_full _ _ _ _ _).trans ?_; sl_unfold_words; rw [readAt_all harg9 z2 inb_S64x20480_S64x20480_0_0 s0, readAt_all harg4 z3 inb_S1x8x64_S1x8x64_0_0_0 x2]
  isplitl [H4]
  · iexists _; isplitr; swap; · iexact H4
    ipureintro; refine (View.read_writes_full _ _ _ _ _).trans ?_; sl_unfold_words; rw [readAt_all harg9 z2 inb_S64x20480_S64x20480_0_0 s0, readAt_all harg4 z3 inb_S1x8x64_S1x8x64_0_0_0 x2, readAt_all harg2 z3 inb_S1x4x20480_S1x4x20480_0_0_0 x0]; rfl
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (View.read_writes_full _ _ _ _ _).trans ?_; sl_unfold_words; rw [readAt_all harg9 z2 inb_S64x20480_S64x20480_0_0 s0, readAt_all harg10 z2 inb_S64x1_S64x1_0_0 s1]; rfl
  isplitl [H10]
  · iexists _; isplitr; swap; · iexact H10
    ipureintro; refine (View.read_writes_full _ _ _ _ _).trans ?_; sl_unfold_words; rw [readAt_all harg9 z2 inb_S64x20480_S64x20480_0_0 s0, readAt_all harg10 z2 inb_S64x1_S64x1_0_0 s1]; rfl
  isplitl [H11]
  · iexists _; isplitr; swap; · iexact H11
    ipureintro; refine (View.read_writes_full _ _ _ _ _).trans ?_; sl_unfold_words; rw [readAt_all harg9 z2 inb_S64x20480_S64x20480_0_0 s0, readAt_all harg4 z3 inb_S1x8x64_S1x8x64_0_0_0 x2]
  iexists _; isplitr; swap; · iexact H12
  ipureintro; refine (View.read_writes_full _ _ _ _ _).trans ?_; sl_unfold_words; rw [readAt_all harg9 z2 inb_S64x20480_S64x20480_0_0 s0, readAt_all harg10 z2 inb_S64x1_S64x1_0_0 s1]; rfl

set_option maxHeartbeats 1000000 in
/-- Phase 2 stores the final labels and the class labels. -/
theorem runC (c : Dev nD) (i : grid0.Coords) (arg2 : Memref sig .tc .vmem S1x4x20480 .f32) (harg2 : arg2.IsWhole) (arg3 : Memref sig .tc .vmem S1x64x4 .f32) (harg3 : arg3.IsWhole) (arg4 : Memref sig .tc .vmem S1x8x64 .f32) (harg4 : arg4.IsWhole) (arg5 : Memref sig .tc .vmem S1x4x20480 .f32) (harg5 : arg5.IsWhole) (arg6 : Memref sig .tc .vmem S1x4x20480 .f32) (harg6 : arg6.IsWhole) (arg7 : Memref sig .tc .vmem S1x1x20480 .f32) (harg7 : arg7.IsWhole) (arg8 : Memref sig .tc .vmem S1x1x20480 .i32) (harg8 : arg8.IsWhole) (arg9 : Memref sig .tc .vmem S64x20480 .f32) (harg9 : arg9.IsWhole) (arg10 : Memref sig .tc .vmem S64x1 .f32) (harg10 : arg10.IsWhole) (arg11 : Memref sig .tc .vmem S1x20480 .f32) (harg11 : arg11.IsWhole) (arg12 : Memref sig .tc .vmem S1x20480 .f32) (harg12 : arg12.IsWhole) (arg13 : Memref sig .tc .vmem S1x20480 .f32) (harg13 : arg13.IsWhole) (arg14 : Memref sig .tc .smem S1 .i32) (harg14 : arg14.IsWhole)
    (hc0 : ¬cond0_0 i) (hc1 : ¬cond0_1 i) (hc2 : cond0_2 i)
    (x0 : Vec F S1x4x20480 .f32) (x1 : Vec F S1x64x4 .f32) (x2 : Vec F S1x8x64 .f32) (y3 : Vec F S1x4x20480 .f32) (y4 : Vec F S1x4x20480 .f32) (y5 : Vec F S1x1x20480 .f32) (y6 : Vec F S1x1x20480 .i32) (s0 : Vec F S64x20480 .f32) (s1 : Vec F S64x1 .f32) (s2 : Vec F S1x20480 .f32) (s3 : Vec F S1x20480 .f32) (s4 : Vec F S1x20480 .f32) (s5 : Vec F S1 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare s0 ∗ owns (c : Thread nD τ) arg10 fullShare s1 ∗ owns (c : Thread nD τ) arg11 fullShare s2 ∗ owns (c : Thread nD τ) arg12 fullShare s3 ∗ owns (c : Thread nD τ) arg13 fullShare s4 ∗ owns (c : Thread nD τ) arg14 fullShare s5
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (k0_pay7 (wordOf s5) s2 s3) ∗ owns (c : Thread nD τ) arg8 fullShare (k0_pay8 (wordOf s5) s2 s3 s4) ∗ owns (c : Thread nD τ) arg9 fullShare s0 ∗ owns (c : Thread nD τ) arg10 fullShare s1 ∗ owns (c : Thread nD τ) arg11 fullShare s2 ∗ owns (c : Thread nD τ) arg12 fullShare s3 ∗ owns (c : Thread nD τ) arg13 fullShare s4 ∗ owns (c : Thread nD τ) arg14 fullShare s5) -∗ K ⟨⟩))
      ⊢ wp frame (wpE (defs₀ (F := F)) Variants.none c none) E (cc0__tg_kernel i arg2 harg2 arg3 harg3 arg4 harg4 arg5 harg5 arg6 harg6 arg7 harg7 arg8 harg8 arg9 harg9 arg10 harg10 arg11 harg11 arg12 harg12 arg13 harg13 arg14 harg14) K := by
  simp only [cc0__tg_kernel_eq_skeleton]; unfold cc0__tg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; refine (View.read_writes_full _ _ _ _ _).trans ?_; sl_unfold_words; rw [readAt_all harg14 z1 inb_S1_S1_0 s5, readAt_all harg11 z2 inb_S1x20480_S1x20480_0_0 s2, readAt_all harg12 z2 inb_S1x20480_S1x20480_0_0 s3]; rfl
  isplitl [H6]
  · iexists _; isplitr; swap; · iexact H6
    ipureintro; refine (View.read_writes_full _ _ _ _ _).trans ?_; sl_unfold_words; rw [readAt_all harg14 z1 inb_S1_S1_0 s5, readAt_all harg11 z2 inb_S1x20480_S1x20480_0_0 s2, readAt_all harg12 z2 inb_S1x20480_S1x20480_0_0 s3, readAt_all harg13 z2 inb_S1x20480_S1x20480_0_0 s4]; rfl
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; · ipureintro; exact harg14.read_unread _
  iexact H12

end Cert.KernelIdeal.Steps

end
-- ==== Proof.Run.lean ====
/- The launch of the kernel over its grid: what every buffer holds at every point, the three phases of each batch
   chained through the scratch buffers, and the contents of every buffer when the program returns. -/
module

public import proofs.«01_k».proof.Proof.Steps
public import Idealize.ShloMosaic.Lib.Exec
public import Idealize.ShloMosaic.Lib.VecWindow
public import Idealize.ShloMosaic.Lib.Pipeline.Value
public import Idealize.ShloMosaic.Lib.Claim

@[expose] public section

set_option maxRecDepth 16384

noncomputable section

namespace Cert.KernelIdeal.Run

open Cert.KernelIdeal Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A batch's blocks and what the phases leave -/

/-- The first point of the batch a point belongs to. -/
def bp (t : Fin cfg0.N) : Fin cfg0.N := ⟨t.val / 3 * 3, lt_of_le_of_lt (by omega) t.isLt⟩

theorem bp_eq {t t' : Fin cfg0.N} (h : t.val / 3 = t'.val / 3) : bp t = bp t' := Fin.ext (by simp only [bp, h])

/-- The anchors' block at a point, the boxes' block and the block of boxes and labels to gather from. -/
def X0 (c : Dev nD) (t : Fin cfg0.N) : Vec F S1x4x20480 .f32 := iblk m c 0 t
def X1 (c : Dev nD) (t : Fin cfg0.N) : Vec F S1x64x4 .f32 := iblk m c 1 t
def X2 (c : Dev nD) (t : Fin cfg0.N) : Vec F S1x8x64 .f32 := iblk m c 2 t

/-- What the phases leave in the scratch buffers. -/
def Sc0 (c : Dev nD) (t : Fin cfg0.N) : Vec F S64x20480 .f32 := iouOf (X0 m c t) (X1 m c t)
def Sc1 (c : Dev nD) (t : Fin cfg0.N) : Vec F S64x1 .f32 := gtbOf (X0 m c t) (X1 m c t)
def Sc2 (c : Dev nD) (t : Fin cfg0.N) : Vec F S1x20480 .f32 := labOf (Sc0 m c t) (Sc1 m c t)
def Sc3 (c : Dev nD) (t : Fin cfg0.N) : Vec F S1x20480 .f32 := k0_pay4 (cumOf (Sc0 m c t) (Sc1 m c t))
def Sc4 (c : Dev nD) (t : Fin cfg0.N) : Vec F S1x20480 .f32 := k0_pay28 (Sc0 m c t) (X2 m c t)
def Sc5 (c : Dev nD) (t : Fin cfg0.N) : Vec F S1 .i32 := nposOf (Sc0 m c t) (Sc1 m c t)

/-- What the phases leave in the result windows. -/
def Y3 (c : Dev nD) (t : Fin cfg0.N) : Vec F S1x4x20480 .f32 := k0_pay27 (Sc0 m c t) (X2 m c t)
def Y4 (c : Dev nD) (t : Fin cfg0.N) : Vec F S1x4x20480 .f32 := locOf (X0 m c t) (X2 m c t) (Sc0 m c t)
def Y5 (c : Dev nD) (t : Fin cfg0.N) : Vec F S1x1x20480 .f32 := k0_pay7 (wordOf (Sc5 m c t)) (Sc2 m c t) (Sc3 m c t)
def Y6 (c : Dev nD) (t : Fin cfg0.N) : Vec F S1x1x20480 .i32 := k0_pay8 (wordOf (Sc5 m c t)) (Sc2 m c t) (Sc3 m c t) (Sc4 m c t)

/-- What is known of the scratch buffers when the body runs at a point. -/
def Good (c : Dev nD) (n : ℕ) (d0 : Vec F S64x20480 .f32) (d1 : Vec F S64x1 .f32) (d2 d3 d4 : Vec F S1x20480 .f32)
    (d5 : Vec F S1 .i32) : Prop :=
  ∀ t : Fin cfg0.N, t.val = n →
    (t.val % 3 = 1 → d0 = Sc0 m c (bp t) ∧ d1 = Sc1 m c (bp t))
    ∧ (t.val % 3 = 2 → d2 = Sc2 m c (bp t) ∧ d3 = Sc3 m c (bp t) ∧ d4 = Sc4 m c (bp t) ∧ d5 = Sc5 m c (bp t))

/-- The region's invariant before position `n`. -/
def Inv (c : Dev nD) (n : ℕ) : sProp 𝕄 :=
  iprop((∃ d0, ∃ d1, ∃ d2, ∃ d3, ∃ d4, ∃ d5, ⌜Good m c n d0 d1 d2 d3 d4 d5⌝
      ∗ owns (c : Thread nD τ) scM0_0 fullShare d0 ∗ owns (c : Thread nD τ) scM0_1 fullShare d1
      ∗ owns (c : Thread nD τ) scM0_2 fullShare d2 ∗ owns (c : Thread nD τ) scM0_3 fullShare d3
      ∗ owns (c : Thread nD τ) scM0_4 fullShare d4 ∗ owns (c : Thread nD τ) scM0_5 fullShare d5)
    ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Y3 m c (bp t)
    | ⟨4, _⟩ => Y4 m c (bp t)
    | ⟨5, _⟩ => Y5 m c (bp t)
    | ⟨6, _⟩ => Y6 m c (bp t)
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = Y3 m c (bp t) := by dsimp only [dats]
theorem after4 (c : Dev nD) (t : Fin cfg0.N) : (dats m 0 c).after 4 t = Y4 m c (bp t) := by dsimp only [dats]
theorem after5 (c : Dev nD) (t : Fin cfg0.N) : (dats m 0 c).after 5 t = Y5 m c (bp t) := by dsimp only [dats]
theorem after6 (c : Dev nD) (t : Fin cfg0.N) : (dats m 0 c).after 6 t = Y6 m c (bp t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem coord_eq {t t' : Fin cfg0.N} (h : t.val / 3 = t'.val / 3) : grid0.coords t 0 = grid0.coords t' 0 := by
  have e0 : (grid0.coords t 0).val = t.val / 3 % 8 := Pipeline.Grid.coords_val t 0 (by decide) rfl
  have e1 : (grid0.coords t' 0).val = t'.val / 3 % 8 := Pipeline.Grid.coords_val t' 0 (by decide) rfl
  exact Fin.ext (by rw [e0, e1, h])

/-- The input block 0 is the same at every point of a batch. -/
theorem X0_congr (c : Dev nD) {t t' : Fin cfg0.N} (h : t.val / 3 = t'.val / 3) : X0 m c t = X0 m c t' := by
  have hi : (cfg0.win 0).index t = (cfg0.win 0).index t' := by
    show cc0_transform_0 (grid0.coords t) = cc0_transform_0 (grid0.coords t')
    unfold cc0_transform_0; rw [coord_eq h]
  have e : ∀ s : Fin cfg0.N, (dats m 0 c).fetched 0 s (fun _ => Classical.arbitrary _) = X0 m c s := fun s => by
    unfold X0 Dat.fetched Dat.blockOf iblk; rw [A_eq m c 0]; try rfl
  rw [← e t, ← e t']
  exact (dats m 0 c).fetched_congr 0 hi rfl _

/-- The input block 1 is the same at every point of a batch. -/
theorem X1_congr (c : Dev nD) {t t' : Fin cfg0.N} (h : t.val / 3 = t'.val / 3) : X1 m c t = X1 m c t' := by
  have hi : (cfg0.win 1).index t = (cfg0.win 1).index t' := by
    show cc0_transform_1 (grid0.coords t) = cc0_transform_1 (grid0.coords t')
    unfold cc0_transform_1; rw [coord_eq h]
  have e : ∀ s : Fin cfg0.N, (dats m 0 c).fetched 1 s (fun _ => Classical.arbitrary _) = X1 m c s := fun s => by
    unfold X1 Dat.fetched Dat.blockOf iblk; rw [A_eq m c 1]; try rfl
  rw [← e t, ← e t']
  exact (dats m 0 c).fetched_congr 1 hi rfl _

/-- The input block 2 is the same at every point of a batch. -/
theorem X2_congr (c : Dev nD) {t t' : Fin cfg0.N} (h : t.val / 3 = t'.val / 3) : X2 m c t = X2 m c t' := by
  have hi : (cfg0.win 2).index t = (cfg0.win 2).index t' := by
    show cc0_transform_2 (grid0.coords t) = cc0_transform_2 (grid0.coords t')
    unfold cc0_transform_2; rw [coord_eq h]
  have e : ∀ s : Fin cfg0.N, (dats m 0 c).fetched 2 s (fun _ => Classical.arbitrary _) = X2 m c s := fun s => by
    unfold X2 Dat.fetched Dat.blockOf iblk; rw [A_eq m c 2]; try rfl
  rw [← e t, ← e t']
  exact (dats m 0 c).fetched_congr 2 hi rfl _

theorem X0_bp (c : Dev nD) (t : Fin cfg0.N) : X0 m c t = X0 m c (bp t) := X0_congr m c (by simp only [bp]; omega)
theorem X1_bp (c : Dev nD) (t : Fin cfg0.N) : X1 m c t = X1 m c (bp t) := X1_congr m c (by simp only [bp]; omega)
theorem X2_bp (c : Dev nD) (t : Fin cfg0.N) : X2 m c t = X2 m c (bp t) := X2_congr m c (by simp only [bp]; omega)

/-! ## Which windows a point leaves alone -/

theorem idle3 (t : Fin cfg0.N) (h : ¬t.val % 3 = 1) : cfg0.idle 3 (cfg0.grid.coords t) = true := by
  show (!(k0_cond2 (grid0.coords t) == 1#1)) = true
  have := fun e => h ((hcond0_1 t).mp e)
  simp only [Bool.not_eq_true', beq_eq_false_iff_ne, ne_eq]; exact this
theorem live3 (t : Fin cfg0.N) (h : t.val % 3 = 1) : cfg0.idle 3 (cfg0.grid.coords t) = false := by
  show (!(k0_cond2 (grid0.coords t) == 1#1)) = false
  have := (hcond0_1 t).mpr h
  simp only [Bool.not_eq_false', beq_iff_eq]; exact this
theorem idle5 (t : Fin cfg0.N) (h : ¬t.val % 3 = 2) : cfg0.idle 5 (cfg0.grid.coords t) = true := by
  show (!(k0_cond3 (grid0.coords t) == 1#1)) = true
  have := fun e => h ((hcond0_2 t).mp e)
  simp only [Bool.not_eq_true', beq_eq_false_iff_ne, ne_eq]; exact this
theorem live5 (t : Fin cfg0.N) (h : t.val % 3 = 2) : cfg0.idle 5 (cfg0.grid.coords t) = false := by
  show (!(k0_cond3 (grid0.coords t) == 1#1)) = false
  have := (hcond0_2 t).mpr h
  simp only [Bool.not_eq_false', beq_iff_eq]; exact this
theorem idle4 (t : Fin cfg0.N) (h : ¬t.val % 3 = 1) : cfg0.idle 4 (cfg0.grid.coords t) = true := idle3 t h
theorem live4 (t : Fin cfg0.N) (h : t.val % 3 = 1) : cfg0.idle 4 (cfg0.grid.coords t) = false := live3 t h
theorem idle6 (t : Fin cfg0.N) (h : ¬t.val % 3 = 2) : cfg0.idle 6 (cfg0.grid.coords t) = true := idle5 t h
theorem live6 (t : Fin cfg0.N) (h : t.val % 3 = 2) : cfg0.idle 6 (cfg0.grid.coords t) = false := live5 t h

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem leaves_idle (c : Dev nD) (w : Fin cfg0.W) (t : Fin cfg0.N) (h : cfg0.idle w (cfg0.grid.coords t) = true)
    (hf : (cfg0.win w).flush t = false) :
    (dats m 0 c).leavesExact w t = iprop(∃ d, owns (c : Thread nD τ) ((cfg0.win w).stage (cfg0.slots t w)) fullShare ((dats m 0 c).before w t d)) := by
  unfold Dat.leavesExact; rw [h, hf]
theorem leaves_flush (c : Dev nD) (w : Fin cfg0.W) (t : Fin cfg0.N) (h : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

/-- In the last phase window 3 still holds what the middle phase stored. -/
theorem before3 (c : Dev nD) (t : Fin cfg0.N) (h : t.val % 3 = 2) (d) : (dats m 0 c).before 3 t d = Y3 m c (bp t) := by
  rw [(dats m 0 c).before_of_pos 3 t (by omega) rfl d]
  have hlt : t.val - 1 < cfg0.N := lt_of_le_of_lt (Nat.sub_le _ _) t.isLt
  have hf : (cfg0.win 3).flush ⟨t.val - 1, hlt⟩ = false := by
    rw [← Bool.not_eq_true, flush0_3]; show ¬(t.val - 1) % 3 = 2; omega
  have hl : cfg0.idle 3 (cfg0.grid.coords ⟨t.val - 1, hlt⟩) = false := live3 _ (by show (t.val - 1) % 3 = 1; omega)
  rw [hf, if_neg Bool.false_ne_true]
  unfold Dat.left; rw [hl]
  show (dats m 0 c).kept 3 ⟨t.val - 1, hlt⟩ d = _
  have e : (dats m 0 c).kept 3 ⟨t.val - 1, hlt⟩ d = (dats m 0 c).after 3 ⟨t.val - 1, hlt⟩ := rfl
  rw [e, after3, bp_eq (t' := t)]
  show (t.val - 1) / 3 = t.val / 3; omega

/-- In the last phase window 4 still holds what the middle phase stored. -/
theorem before4 (c : Dev nD) (t : Fin cfg0.N) (h : t.val % 3 = 2) (d) : (dats m 0 c).before 4 t d = Y4 m c (bp t) := by
  rw [(dats m 0 c).before_of_pos 4 t (by omega) rfl d]
  have hlt : t.val - 1 < cfg0.N := lt_of_le_of_lt (Nat.sub_le _ _) t.isLt
  have hf : (cfg0.win 4).flush ⟨t.val - 1, hlt⟩ = false := by
    rw [← Bool.not_eq_true, flush0_4]; show ¬(t.val - 1) % 3 = 2; omega
  have hl : cfg0.idle 4 (cfg0.grid.coords ⟨t.val - 1, hlt⟩) = false := live4 _ (by show (t.val - 1) % 3 = 1; omega)
  rw [hf, if_neg Bool.false_ne_true]
  unfold Dat.left; rw [hl]
  show (dats m 0 c).kept 4 ⟨t.val - 1, hlt⟩ d = _
  have e : (dats m 0 c).kept 4 ⟨t.val - 1, hlt⟩ d = (dats m 0 c).after 4 ⟨t.val - 1, hlt⟩ := rfl
  rw [e, after4, bp_eq (t' := t)]
  show (t.val - 1) / 3 = t.val / 3; omega

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem Phi_castSucc (c : Dev nD) (t : Fin cfg0.N) : (dats m 0 c).Φ t.castSucc = Inv m c t.val := rfl
theorem Phi_succ (c : Dev nD) (t : Fin cfg0.N) : (dats m 0 c).Φ t.succ = Inv m c (t.val + 1) := rfl

set_option maxHeartbeats 4000000 in
theorem soundA (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_castSucc, Phi_succ]
  unfold Inv
  rw [leaves_live m c 0 t rfl, leaves_live m c 1 t rfl, leaves_live m c 2 t rfl, after0, after1, after2]
  have hb : ∀ w : Fin 7, 3 ≤ w.val → ((cfg0.win w).flush t = true ↔ t.val % 3 = 2) := by
    intro w hw; fin_cases w <;> first | exact flush0_3 t | exact flush0_4 t | exact flush0_5 t | exact flush0_6 t | (exfalso; revert hw; decide)
  rw [leaves_idle m c 3 t (idle3 t (by omega)) (by rw [← Bool.not_eq_true, hb 3 (by decide), h]; decide)]
  rw [leaves_idle m c 4 t (idle4 t (by omega)) (by rw [← Bool.not_eq_true, hb 4 (by decide), h]; decide)]
  rw [leaves_idle m c 5 t (idle5 t (by omega)) (by rw [← Bool.not_eq_true, hb 5 (by decide), h]; decide)]
  rw [leaves_idle m c 6 t (idle6 t (by omega)) (by rw [← Bool.not_eq_true, hb 6 (by decide), h]; decide)]
  simp only [before0, before1, before2]
  iintro ⟨⟨⟨%e0, %e1, %e2, %e3, %e4, %e5, %hg, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply (runA c (grid0.coords t) _ _ _ _ _ _ _ _ _ _ _ _ _ _ _ _ _ _ _ _ _ _ _ _ _ _ ((hcond0_0 t).mpr h) (fun e => absurd ((hcond0_1 t).mp e) (by omega)) (fun e => absurd ((hcond0_2 t).mp e) (by omega)) (X0 m c t) (X1 m c t) (X2 m c t) _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · iexists _; iexists _; iexists _; iexists _; iexists _; iexists _
      isplitr
      swap
      · isplitl [HS0]; · iexact HS0
        isplitl [HS1]; · iexact HS1
        isplitl [HS2]; · iexact HS2
        isplitl [HS3]; · iexact HS3
        isplitl [HS4]; · iexact HS4
        iexact HS5
      · ipureintro
        intro t' ht'
        have hbp : bp t' = bp t := bp_eq (by omega)
        refine ⟨fun _ => ?_, fun h' => absurd h' (by omega)⟩
        rw [hbp]; unfold Sc0 Sc1; rw [X0_bp m c t, X1_bp m c t]; exact ⟨rfl, rfl⟩
    · iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iexists _; iexact H6

set_option maxHeartbeats 4000000 in
theorem soundB (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_castSucc, Phi_succ]
  unfold Inv
  rw [leaves_live m c 0 t rfl, leaves_live m c 1 t rfl, leaves_live m c 2 t rfl, after0, after1, after2]
  have hb : ∀ w : Fin 7, 3 ≤ w.val → ((cfg0.win w).flush t = true ↔ t.val % 3 = 2) := by
    intro w hw; fin_cases w <;> first | exact flush0_3 t | exact flush0_4 t | exact flush0_5 t | exact flush0_6 t | (exfalso; revert hw; decide)
  rw [leaves_live m c 3 t (live3 t h), after3]
  rw [leaves_live m c 4 t (live4 t h), after4]
  rw [leaves_idle m c 5 t (idle5 t (by omega)) (by rw [← Bool.not_eq_true, hb 5 (by decide), h]; decide)]
  rw [leaves_idle m c 6 t (idle6 t (by omega)) (by rw [← Bool.not_eq_true, hb 6 (by decide), h]; decide)]
  simp only [before0, before1, before2]
  iintro ⟨⟨⟨%e0, %e1, %e2, %e3, %e4, %e5, %hg, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  obtain ⟨rfl, rfl⟩ := (hg t rfl).1 h
  have hy3 : Y3 m c (bp t) = k0_pay27 (Sc0 m c (bp t)) (X2 m c t) := by rw [X2_bp m c t]; rfl
  have hy4 : Y4 m c (bp t) = locOf (X0 m c t) (X2 m c t) (Sc0 m c (bp t)) := by rw [X2_bp m c t, X0_bp m c t]; rfl
  rw [hy3, hy4]
  iapply (runB c (grid0.coords t) _ _ _ _ _ _ _ _ _ _ _ _ _ _ _ _ _ _ _ _ _ _ _ _ _ _ (fun e => absurd ((hcond0_0 t).mp e) (by omega)) ((hcond0_1 t).mpr h) (fun e => absurd ((hcond0_2 t).mp e) (by omega)) (X0 m c t) (X1 m c t) (X2 m c t) _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · iexists _; iexists _; iexists _; iexists _; iexists _; iexists _
      isplitr
      swap
      · isplitl [HS0]; · iexact HS0
        isplitl [HS1]; · iexact HS1
        isplitl [HS2]; · iexact HS2
        isplitl [HS3]; · iexact HS3
        isplitl [HS4]; · iexact HS4
        iexact HS5
      · ipureintro
        intro t' ht'
        have hbp : bp t' = bp t := bp_eq (by omega)
        refine ⟨fun h' => absurd h' (by omega), fun _ => ?_⟩
        rw [hbp, X2_bp m c t]; exact ⟨rfl, rfl, rfl, rfl⟩
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4000000 in
theorem soundC (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_castSucc, Phi_succ]
  unfold Inv
  rw [leaves_live m c 0 t rfl, leaves_live m c 1 t rfl, leaves_live m c 2 t rfl, after0, after1, after2]
  have hb : ∀ w : Fin 7, 3 ≤ w.val → ((cfg0.win w).flush t = true ↔ t.val % 3 = 2) := by
    intro w hw; fin_cases w <;> first | exact flush0_3 t | exact flush0_4 t | exact flush0_5 t | exact flush0_6 t | (exfalso; revert hw; decide)
  rw [leaves_flush m c 3 t (idle3 t (by omega)) ((hb 3 (by decide)).mpr h), after3]
  rw [leaves_flush m c 4 t (idle4 t (by omega)) ((hb 4 (by decide)).mpr h), after4]
  rw [leaves_live m c 5 t (live5 t h), after5]
  rw [leaves_live m c 6 t (live6 t h), after6]
  simp only [before3 m c t h, before4 m c t h]
  simp only [before0, before1, before2]
  iintro ⟨⟨⟨%e0, %e1, %e2, %e3, %e4, %e5, %hg, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  obtain ⟨rfl, rfl, rfl, rfl⟩ := (hg t rfl).2 h
  iapply (runC c (grid0.coords t) _ _ _ _ _ _ _ _ _ _ _ _ _ _ _ _ _ _ _ _ _ _ _ _ _ _ (fun e => absurd ((hcond0_0 t).mp e) (by omega)) (fun e => absurd ((hcond0_1 t).mp e) (by omega)) ((hcond0_2 t).mpr h) (X0 m c t) (X1 m c t) (X2 m c t) _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · iexists _; iexists _; iexists _; iexists _; iexists _; iexists _
      isplitr
      swap
      · isplitl [HS0]; · iexact HS0
        isplitl [HS1]; · iexact HS1
        isplitl [HS2]; · iexact HS2
        isplitl [HS3]; · iexact HS3
        isplitl [HS4]; · iexact HS4
        iexact HS5
      · ipureintro
        intro t' ht'
        exact ⟨fun h' => absurd h' (by omega), fun h' => absurd h' (by omega)⟩
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact soundA m c t h
  · exact soundB m c t h
  · exact soundC m c t h

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl, PhiA0_eq]
  unfold Inv
  iintro ⟨⟨⟨%e0, H0⟩, ⟨%e1, H1⟩, ⟨%e2, H2⟩, ⟨%e3, H3⟩, ⟨%e4, H4⟩, ⟨%e5, H5⟩⟩, Hg⟩
  isplitl [H0 H1 H2 H3 H4 H5]
  · iexists e0; iexists e1; iexists e2; iexists e3; iexists e4; iexists e5
    isplitr
    · ipureintro
      exact fun t ht => ⟨fun h => absurd h (by omega), fun h => absurd h (by omega)⟩
    isplitl [H0]; · iexact H0
    isplitl [H1]; · iexact H1
    isplitl [H2]; · iexact H2
    isplitl [H3]; · iexact H3
    isplitl [H4]; · iexact H4
    iexact H5
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, PhiA0_eq]
  unfold Inv
  iintro ⟨⟨%e0, %e1, %e2, %e3, %e4, %e5, %hg, H0, H1, H2, H3, H4, H5⟩, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-! ## The run -/

set_option backward.isDefEq.respectTransparency.types false in
set_option maxHeartbeats 1600000 in
/-- Every execution terminates, the arrays and the host's buffers end at named contents, every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.RefOps.lean ====
/- The reference program's @main as a list of its host operations (`ops`), with the facts the library's run of a
   list of host operations asks for. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v197`, named. It packs its operands into a list of dependent pairs
    whose shapes a later argument's type mentions, so `simp` cannot rewrite an operand where it stands; applied by
    name, the operands are plain arguments, which the window lemmas below rewrite before the name unfolds. -/
def fn_main_v197 : (main_v193 : Ref sig .tc).ty.Contents (Elt F) → (main_v194 : Ref sig .tc).ty.Contents (Elt F) → (main_v195 : Ref sig .tc).ty.Contents (Elt F) → (main_v196 : Ref sig .tc).ty.Contents (Elt F) → (main_v197 : Ref sig .tc).ty.Contents (Elt F) :=
  (fun u0 u1 u2 u3 => (concatenate S8x20000x4 2 [⟨S8x20000x1, (u0 : (⟨S8x20000x1, .f32⟩ : BufTy).Contents (Elt F))⟩, ⟨S8x20000x1, (u1 : (⟨S8x20000x1, .f32⟩ : BufTy).Contents (Elt F))⟩, ⟨S8x20000x1, (u2 : (⟨S8x20000x1, .f32⟩ : BufTy).Contents (Elt F))⟩, ⟨S8x20000x1, (u3 : (⟨S8x20000x1, .f32⟩ : BufTy).Contents (Elt F))⟩] concatenates_S8x20000x1_S8x20000x1_S8x20000x1_S8x20000x1_S8x20000x4_d2 : (⟨S8x20000x4, .f32⟩ : BufTy).Contents (Elt F)))

/-- @main's operations 1 … 30 of 315 (window `main_part0`). -/
abbrev ops_part0_0 : List (HloOp τ sig (Elt F)) :=
  [ unary main_arg0 main_v0 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v0 main_v1 (rfl : (.f32 : EltTy) = .f32) shapeCasts_S8x20000x1_S8x20000,
    nullary main_cst (constant S_ .f32 0x00000000#32),
    unary main_cst main_v2 (broadcastInDim S8x20000 ![] bcast_S_S8x20000 : (⟨S_, .f32⟩ : BufTy).Contents (Elt F) → (⟨S8x20000, .f32⟩ : BufTy).Contents (Elt F)),
    binary main_v1 main_v2 main_v3 (cmpf .oge : (⟨S8x20000, .f32⟩ : BufTy).Contents (Elt F) → (⟨S8x20000, .f32⟩ : BufTy).Contents (Elt F) → (⟨S8x20000, .i1⟩ : BufTy).Contents (Elt F)),
    unary main_arg0 main_v4 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v4 main_v5 (rfl : (.f32 : EltTy) = .f32) shapeCasts_S8x20000x1_S8x20000,
    nullary main_cst_0 (constant S_ .f32 0x00000000#32),
    unary main_cst_0 main_v6 (broadcastInDim S8x20000 ![] bcast_S_S8x20000 : (⟨S_, .f32⟩ : BufTy).Contents (Elt F) → (⟨S8x20000, .f32⟩ : BufTy).Contents (Elt F)),
    binary main_v5 main_v6 main_v7 (cmpf .oge : (⟨S8x20000, .f32⟩ : BufTy).Contents (Elt F) → (⟨S8x20000, .f32⟩ : BufTy).Contents (Elt F) → (⟨S8x20000, .i1⟩ : BufTy).Contents (Elt F)),
    binary main_v3 main_v7 main_v8 (andi : (⟨S8x20000, .i1⟩ : BufTy).Contents (Elt F) → (⟨S8x20000, .i1⟩ : BufTy).Contents (Elt F) → (⟨S8x20000, .i1⟩ : BufTy).Contents (Elt F)),
    unary main_arg0 main_v9 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v9 main_v10 (rfl : (.f32 : EltTy) = .f32) shapeCasts_S8x20000x1_S8x20000,
    nullary main_cst_1 (constant S_ .f32 0x44000000#32),
    unary main_cst_1 main_v11 (broadcastInDim S8x20000 ![] bcast_S_S8x20000 : (⟨S_, .f32⟩ : BufTy).Contents (Elt F) → (⟨S8x20000, .f32⟩ : BufTy).Contents (Elt F)),
    binary main_v10 main_v11 main_v12 (cmpf .ole : (⟨S8x20000, .f32⟩ : BufTy).Contents (Elt F) → (⟨S8x20000, .f32⟩ : BufTy).Contents (Elt F) → (⟨S8x20000, .i1⟩ : BufTy).Contents (Elt F)),
    binary main_v8 main_v12 main_v13 (andi : (⟨S8x20000, .i1⟩ : BufTy).Contents (Elt F) → (⟨S8x20000, .i1⟩ : BufTy).Contents (Elt F) → (⟨S8x20000, .i1⟩ : BufTy).Contents (Elt F)),
    unary main_arg0 main_v14 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v14 main_v15 (rfl : (.f32 : EltTy) = .f32) shapeCasts_S8x20000x1_S8x20000,
    nullary main_cst_2 (constant S_ .f32 0x44000000#32),
    unary main_cst_2 main_v16 (broadcastInDim S8x20000 ![] bcast_S_S8x20000 : (⟨S_, .f32⟩ : BufTy).Contents (Elt F) → (⟨S8x20000, .f32⟩ : BufTy).Contents (Elt F)),
    binary main_v15 main_v16 main_v17 (cmpf .ole : (⟨S8x20000, .f32⟩ : BufTy).Contents (Elt F) → (⟨S8x20000, .f32⟩ : BufTy).Contents (Elt F) → (⟨S8x20000, .i1⟩ : BufTy).Contents (Elt F)),
    binary main_v13 main_v17 main_v18 (andi : (⟨S8x20000, .i1⟩ : BufTy).Contents (Elt F) → (⟨S8x20000, .i1⟩ : BufTy).Contents (Elt F) → (⟨S8x20000, .i1⟩ : BufTy).Contents (Elt F)),
    unary main_arg0 main_v19 ((extractStridedSlice S8x20000x2 ![0, 0, 0] · slices_S8x20000x4_S8x20000x2_0_0_0) : (⟨S8x20000x4, .f32⟩ : BufTy).Contents (Elt F) → (⟨S8x20000x2, .f32⟩ : BufTy).Contents (Elt F)),
    unary main_v19 main_v20 (broadcastInDim S8x20000x1x2 ![0, 1, 3] bcast_S8x20000x2_S8x20000x1x2_0_1_3 : (⟨S8x20000x2, .f32⟩ : BufTy).Contents (Elt F) → (⟨S8x20000x1x2, .f32⟩ : BufTy).Contents (Elt F)),
    unary main_arg1 main_v21 ((extractStridedSlice S8x64x2 ![0, 0, 0] · slices_S8x64x4_S8x64x2_0_0_0) : (⟨S8x64x4, .f32⟩ : BufTy).Contents (Elt F) → (⟨S8x64x2, .f32⟩ : BufTy).Contents (Elt F)),
    unary main_v21 main_v22 (broadcastInDim S8x1x64x2 ![0, 2, 3] bcast_S8x64x2_S8x1x64x2_0_2_3 : (⟨S8x64x2, .f32⟩ : BufTy).Contents (Elt F) → (⟨S8x1x64x2, .f32⟩ : BufTy).Contents (Elt F)),
    unary main_v20 main_v23 (broadcastInDim S8x20000x64x2 ![0, 1, 2, 3] bcast_S8x20000x1x2_S8x20000x64x2_0_1_2_3 : (⟨S8x20000x1x2, .f32⟩ : BufTy).Contents (Elt F) → (⟨S8x20000x64x2, .f32⟩ : BufTy).Contents (Elt F)),
    unary main_v22 main_v24 (broadcastInDim S8x20000x64x2 ![0, 1, 2, 3] bcast_S8x1x64x2_S8x20000x64x2_0_1_2_3 : (⟨S8x1x64x2, .f32⟩ : BufTy).Contents (Elt F) → (⟨S8x20000x64x2, .f32⟩ : BufTy).Contents (Elt F)),
    binary main_v23 main_v24 main_v25 (maximumf : (⟨S8x20000x64x2, .f32⟩ : BufTy).Contents (Elt F) → (⟨S8x20000x64x2, .f32⟩ : BufTy).Contents (Elt F) → (⟨S8x20000x64x2, .f32⟩ : BufTy).Contents (Elt F)) ]

/-- @main's operations 31 … 60 of 315 (window `main_part0`). -/
abbrev ops_part0_1 : List (HloOp τ sig (Elt F)) :=
  [ unary main_arg0 main_v26 ((extractStridedSlice S8x20000x2 ![0, 0, 2] · slices_S8x20000x4_S8x20000x2_0_0_2) : (⟨S8x20000x4, .f32⟩ : BufTy).Contents (Elt F) → (⟨S8x20000x2, .f32⟩ : BufTy).Contents (Elt F)),
    unary main_v26 main_v27 (broadcastInDim S8x20000x1x2 ![0, 1, 3] bcast_S8x20000x2_S8x20000x1x2_0_1_3 : (⟨S8x20000x2, .f32⟩ : BufTy).Contents (Elt F) → (⟨S8x20000x1x2, .f32⟩ : BufTy).Contents (Elt F)),
    unary main_arg1 main_v28 ((extractStridedSlice S8x64x2 ![0, 0, 2] · slices_S8x64x4_S8x64x2_0_0_2) : (⟨S8x64x4, .f32⟩ : BufTy).Contents (Elt F) → (⟨S8x64x2, .f32⟩ : BufTy).Contents (Elt F)),
    unary main_v28 main_v29 (broadcastInDim S8x1x64x2 ![0, 2, 3] bcast_S8x64x2_S8x1x64x2_0_2_3 : (⟨S8x64x2, .f32⟩ : BufTy).Contents (Elt F) → (⟨S8x1x64x2, .f32⟩ : BufTy).Contents (Elt F)),
    unary main_v27 main_v30 (broadcastInDim S8x20000x64x2 ![0, 1, 2, 3] bcast_S8x20000x1x2_S8x20000x64x2_0_1_2_3 : (⟨S8x20000x1x2, .f32⟩ : BufTy).Contents (Elt F) → (⟨S8x20000x64x2, .f32⟩ : BufTy).Contents (Elt F)),
    unary main_v29 main_v31 (broadcastInDim S8x20000x64x2 ![0, 1, 2, 3] bcast_S8x1x64x2_S8x20000x64x2_0_1_2_3 : (⟨S8x1x64x2, .f32⟩ : BufTy).Contents (Elt F) → (⟨S8x20000x64x2, .f32⟩ : BufTy).Contents (Elt F)),
    binary main_v30 main_v31 main_v32 (minimumf : (⟨S8x20000x64x2, .f32⟩ : BufTy).Contents (Elt F) → (⟨S8x20000x64x2, .f32⟩ : BufTy).Contents (Elt F) → (⟨S8x20000x64x2, .f32⟩ : BufTy).Contents (Elt F)),
    binary main_v32 main_v25 main_v33 (subf : (⟨S8x20000x64x2, .f32⟩ : BufTy).Contents (Elt F) → (⟨S8x20000x64x2, .f32⟩ : BufTy).Contents (Elt F) → (⟨S8x20000x64x2, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8x20000x64x2, .f32⟩) main_call0_v1) (broadcastInDim S8x20000x64x2 ![] bcast_S_S8x20000x64x2),
    TRef.binary (TRef.of (T := ⟨S8x20000x64x2, .f32⟩) main_call0_v1) (TRef.of (T := ⟨S8x20000x64x2, .f32⟩) main_v33) (TRef.of (T := ⟨S8x20000x64x2, .f32⟩) main_v34) maximumf,
    unary main_v34 main_v35 ((extractStridedSlice S8x20000x64x1 ![0, 0, 0, 0] · slices_S8x20000x64x2_S8x20000x64x1_0_0_0_0) : (⟨S8x20000x64x2, .f32⟩ : BufTy).Contents (Elt F) → (⟨S8x20000x64x1, .f32⟩ : BufTy).Contents (Elt F)),
    reshape main_v35 main_v36 (rfl : (.f32 : EltTy) = .f32) shapeCasts_S8x20000x64x1_S8x20000x64,
    unary main_v34 main_v37 ((extractStridedSlice S8x20000x64x1 ![0, 0, 0, 1] · slices_S8x20000x64x2_S8x20000x64x1_0_0_0_1) : (⟨S8x20000x64x2, .f32⟩ : BufTy).Contents (Elt F) → (⟨S8x20000x64x1, .f32⟩ : BufTy).Contents (Elt F)),
    reshape main_v37 main_v38 (rfl : (.f32 : EltTy) = .f32) shapeCasts_S8x20000x64x1_S8x20000x64,
    binary main_v36 main_v38 main_v39 (mulf : (⟨S8x20000x64, .f32⟩ : BufTy).Contents (Elt F) → (⟨S8x20000x64, .f32⟩ : BufTy).Contents (Elt F) → (⟨S8x20000x64, .f32⟩ : BufTy).Contents (Elt F)),
    unary main_arg0 main_v40 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v40 main_v41 (rfl : (.f32 : EltTy) = .f32) shapeCasts_S8x20000x1_S8x20000,
    unary main_arg0 main_v42 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v42 main_v43 (rfl : (.f32 : EltTy) = .f32) shapeCasts_S8x20000x1_S8x20000,
    binary main_v41 main_v43 main_v44 (subf : (⟨S8x20000, .f32⟩ : BufTy).Contents (Elt F) → (⟨S8x20000, .f32⟩ : BufTy).Contents (Elt F) → (⟨S8x20000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8x20000, .f32⟩) main_call1_v1) (broadcastInDim S8x20000 ![] bcast_S_S8x20000),
    TRef.binary (TRef.of (T := ⟨S8x20000, .f32⟩) main_call1_v1) (TRef.of (T := ⟨S8x20000, .f32⟩) main_v44) (TRef.of (T := ⟨S8x20000, .f32⟩) main_v45) maximumf,
    unary main_arg0 main_v46 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v46 main_v47 (rfl : (.f32 : EltTy) = .f32) shapeCasts_S8x20000x1_S8x20000,
    unary main_arg0 main_v48 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v48 main_v49 (rfl : (.f32 : EltTy) = .f32) shapeCasts_S8x20000x1_S8x20000 ]

/-- @main's operations 61 … 66 of 315 (window `main_part0`). -/
abbrev ops_part0_2 : List (HloOp τ sig (Elt F)) :=
  [ binary main_v47 main_v49 main_v50 (subf : (⟨S8x20000, .f32⟩ : BufTy).Contents (Elt F) → (⟨S8x20000, .f32⟩ : BufTy).Contents (Elt F) → (⟨S8x20000, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8x20000, .f32⟩) main_call2_v1) (broadcastInDim S8x20000 ![] bcast_S_S8x20000),
    TRef.binary (TRef.of (T := ⟨S8x20000, .f32⟩) main_call2_v1) (TRef.of (T := ⟨S8x20000, .f32⟩) main_v50) (TRef.of (T := ⟨S8x20000, .f32⟩) main_v51) maximumf,
    binary main_v45 main_v51 main_v52 (mulf : (⟨S8x20000, .f32⟩ : BufTy).Contents (Elt F) → (⟨S8x20000, .f32⟩ : BufTy).Contents (Elt F) → (⟨S8x20000, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 67 … 96 of 315 (window `main_part1`). -/
abbrev ops_part1_0 : List (HloOp τ sig (Elt F)) :=
  [ unary main_arg1 main_v53 ((extractStridedSlice S8x64x1 ![0, 0, 2] · slices_S8x64x4_S8x64x1_0_0_2) : (⟨S8x64x4, .f32⟩ : BufTy).Contents (Elt F) → (⟨S8x64x1, .f32⟩ : BufTy).Contents (Elt F)),
    reshape main_v53 main_v54 (rfl : (.f32 : EltTy) = .f32) shapeCasts_S8x64x1_S8x64,
    unary main_arg1 main_v55 ((extractStridedSlice S8x64x1 ![0, 0, 0] · slices_S8x64x4_S8x64x1_0_0_0) : (⟨S8x64x4, .f32⟩ : BufTy).Contents (Elt F) → (⟨S8x64x1, .f32⟩ : BufTy).Contents (Elt F)),
    reshape main_v55 main_v56 (rfl : (.f32 : EltTy) = .f32) shapeCasts_S8x64x1_S8x64,
    binary main_v54 main_v56 main_v57 (subf : (⟨S8x64, .f32⟩ : BufTy).Contents (Elt F) → (⟨S8x64, .f32⟩ : BufTy).Contents (Elt F) → (⟨S8x64, .f32⟩ : BufTy).Contents (Elt F)),
    nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S8x64, .f32⟩) main_call3_v1) (broadcastInDim S8x64 ![] bcast_S_S8x64),
    TRef.binary (TRef.of (T := ⟨S8x64, .f32⟩) main_call3_v1) (TRef.of (T := ⟨S8x64, .f32⟩) main_v57) (TRef.of (T := ⟨S8x64, .f32⟩) main_v58) maximumf,
    unary main_arg1 main_v59 ((extractStridedSlice S8x64x1 ![0, 0, 3] · slices_S8x64x4_S8x64x1_0_0_3) : (⟨S8x64x4, .f32⟩ : BufTy).Contents (Elt F) → (⟨S8x64x1, .f32⟩ : BufTy).Contents (Elt F)),
    reshape main_v59 main_v60 (rfl : (.f32 : EltTy) = .f32) shapeCasts_S8x64x1_S8x64,
    unary main_arg1 main_v61 ((extractStridedSlice S8x64x1 ![0, 0, 1] · slices_S8x64x4_S8x64x1_0_0_1) : (⟨S8x64x4, .f32⟩ : BufTy).Contents (Elt F) → (⟨S8x64x1, .f32⟩ : BufTy).Contents (Elt F)),
    reshape main_v61 main_v62 (rfl : (.f32 : EltTy) = .f32) shapeCasts_S8x64x1_S8x64,
    binary main_v60 main_v62 main_v63 (subf : (⟨S8x64, .f32⟩ : BufTy).Contents (Elt F) → (⟨S8x64, .f32⟩ : BufTy).Contents (Elt F) → (⟨S8x64, .f32⟩ : BufTy).Contents (Elt F)),
    nullary main_cst_7 (constant S_ .f32 0x00000000#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S8x64, .f32⟩) main_call4_v1) (broadcastInDim S8x64 ![] bcast_S_S8x64),
    TRef.binary (TRef.of (T := ⟨S8x64, .f32⟩) main_call4_v1) (TRef.of (T := ⟨S8x64, .f32⟩) main_v63) (TRef.of (T := ⟨S8x64, .f32⟩) main_v64) maximumf,
    binary main_v58 main_v64 main_v65 (mulf : (⟨S8x64, .f32⟩ : BufTy).Contents (Elt F) → (⟨S8x64, .f32⟩ : BufTy).Contents (Elt F) → (⟨S8x64, .f32⟩ : BufTy).Contents (Elt F)),
    unary main_v52 main_v66 (broadcastInDim S8x20000x1 ![0, 1] bcast_S8x20000_S8x20000x1_0_1 : (⟨S8x20000, .f32⟩ : BufTy).Contents (Elt F) → (⟨S8x20000x1, .f32⟩ : BufTy).Contents (Elt F)),
    unary main_v65 main_v67 (broadcastInDim S8x1x64 ![0, 2] bcast_S8x64_S8x1x64_0_2 : (⟨S8x64, .f32⟩ : BufTy).Contents (Elt F) → (⟨S8x1x64, .f32⟩ : BufTy).Contents (Elt F)),
    unary main_v66 main_v68 (broadcastInDim S8x20000x64 ![0, 1, 2] bcast_S8x20000x1_S8x20000x64_0_1_2 : (⟨S8x20000x1, .f32⟩ : BufTy).Contents (Elt F) → (⟨S8x20000x64, .f32⟩ : BufTy).Contents (Elt F)),
    unary main_v67 main_v69 (broadcastInDim S8x20000x64 ![0, 1, 2] bcast_S8x1x64_S8x20000x64_0_1_2 : (⟨S8x1x64, .f32⟩ : BufTy).Contents (Elt F) → (⟨S8x20000x64, .f32⟩ : BufTy).Contents (Elt F)),
    binary main_v68 main_v69 main_v70 (addf : (⟨S8x20000x64, .f32⟩ : BufTy).Contents (Elt F) → (⟨S8x20000x64, .f32⟩ : BufTy).Contents (Elt F) → (⟨S8x20000x64, .f32⟩ : BufTy).Contents (Elt F)),
    binary main_v70 main_v39 main_v71 (subf : (⟨S8x20000x64, .f32⟩ : BufTy).Contents (Elt F) → (⟨S8x20000x64, .f32⟩ : BufTy).Contents (Elt F) → (⟨S8x20000x64, .f32⟩ : BufTy).Contents (Elt F)),
    nullary main_cst_8 (constant S_ .f32 0x322BCC77#32),
    unary main_cst_8 main_v72 (broadcastInDim S8x20000x64 ![] bcast_S_S8x20000x64 : (⟨S_, .f32⟩ : BufTy).Contents (Elt F) → (⟨S8x20000x64, .f32⟩ : BufTy).Contents (Elt F)),
    binary main_v71 main_v72 main_v73 (addf : (⟨S8x20000x64, .f32⟩ : BufTy).Contents (Elt F) → (⟨S8x20000x64, .f32⟩ : BufTy).Contents (Elt F) → (⟨S8x20000x64, .f32⟩ : BufTy).Contents (Elt F)),
    binary main_v39 main_v73 main_v74 (Host.divf : (⟨S8x20000x64, .f32⟩ : BufTy).Contents (Elt F) → (⟨S8x20000x64, .f32⟩ : BufTy).Contents (Elt F) → (⟨S8x20000x64, .f32⟩ : BufTy).Contents (Elt F)),
    unary main_v18 main_v75 (broadcastInDim S8x20000x1 ![0, 1] bcast_S8x20000_S8x20000x1_0_1 : (⟨S8x20000, .i1⟩ : BufTy).Contents (Elt F) → (⟨S8x20000x1, .i1⟩ : BufTy).Contents (Elt F)) ]

/-- @main's operations 97 … 126 of 315 (window `main_part1`). -/
abbrev ops_part1_1 : List (HloOp τ sig (Elt F)) :=
  [ nullary main_cst_9 (constant S_ .f32 0x00000000#32),
    TRef.unary (TRef.of (T := ⟨S_, .f32⟩) main_cst_9) (TRef.of (T := ⟨S_, .f32⟩) main_call5_v0) id,
    TRef.unary (TRef.of (T := ⟨S8x20000x1, .i1⟩) main_v75) (TRef.of (T := ⟨S8x20000x64, .i1⟩) main_call5_v1) (broadcastInDim S8x20000x64 ![0, 1, 2] bcast_S8x20000x1_S8x20000x64_0_1_2),
    TRef.unary (TRef.of (T := ⟨S_, .f32⟩) main_call5_v0) (TRef.of (T := ⟨S8x20000x64, .f32⟩) main_call5_v2) (broadcastInDim S8x20000x64 ![] bcast_S_S8x20000x64),
    TRef.ternary (TRef.of (T := ⟨S8x20000x64, .i1⟩) main_call5_v1) (TRef.of (T := ⟨S8x20000x64, .f32⟩) main_v74) (TRef.of (T := ⟨S8x20000x64, .f32⟩) main_call5_v2) (TRef.of (T := ⟨S8x20000x64, .f32⟩) main_v76) select,
    nullary main_cst_10 (constant S_ .f32 0xFF800000#32),
    binary main_v76 main_cst_10 main_v77 ((fun x v => Host.reduce FloatOps.maximumf x v reducesTo_S8x20000x64_S8x20000_d2 h_S_) : (⟨S8x20000x64, .f32⟩ : BufTy).Contents (Elt F) → (⟨S_, .f32⟩ : BufTy).Contents (Elt F) → (⟨S8x20000, .f32⟩ : BufTy).Contents (Elt F)),
    TRef.nullary (TRef.of (T := ⟨S8x20000x64, .i32⟩) main_call6_v0) (iotaInDim S8x20000x64 32 2),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S8x20000x64, .f32⟩) main_v76) (TRef.of (T := ⟨S8x20000x64, .i32⟩) main_call6_v0) (TRef.of (T := ⟨S_, .f32⟩) main_call6_cst) (TRef.of (T := ⟨S_, .i32⟩) main_call6_c) (TRef.of (T := ⟨S8x20000, .f32⟩) main_call6_v1_0) (fun x y u v j => (Host.argReduce reducer_argmax_f32_i32 x y u v reducesTo_S8x20000x64_S8x20000_d2 h_S_ j).1),
    TRef.quaternary (TRef.of (T := ⟨S8x20000x64, .f32⟩) main_v76) (TRef.of (T := ⟨S8x20000x64, .i32⟩) main_call6_v0) (TRef.of (T := ⟨S_, .f32⟩) main_call6_cst) (TRef.of (T := ⟨S_, .i32⟩) main_call6_c) (TRef.of (T := ⟨S8x20000, .i32⟩) main_v78) (fun x y u v j => (Host.argReduce reducer_argmax_f32_i32 x y u v reducesTo_S8x20000x64_S8x20000_d2 h_S_ j).2),
    nullary main_cst_11 (constant S_ .f32 0xBF800000#32),
    unary main_cst_11 main_v79 (broadcastInDim S8x20000 ![] bcast_S_S8x20000 : (⟨S_, .f32⟩ : BufTy).Contents (Elt F) → (⟨S8x20000, .f32⟩ : BufTy).Contents (Elt F)),
    nullary main_cst_12 (constant S_ .f32 0x3E99999A#32),
    unary main_cst_12 main_v80 (broadcastInDim S8x20000 ![] bcast_S_S8x20000 : (⟨S_, .f32⟩ : BufTy).Contents (Elt F) → (⟨S8x20000, .f32⟩ : BufTy).Contents (Elt F)),
    binary main_v77 main_v80 main_v81 (cmpf .olt : (⟨S8x20000, .f32⟩ : BufTy).Contents (Elt F) → (⟨S8x20000, .f32⟩ : BufTy).Contents (Elt F) → (⟨S8x20000, .i1⟩ : BufTy).Contents (Elt F)),
    nullary main_cst_13 (constant S_ .f32 0x00000000#32),
    TRef.unary (TRef.of (T := ⟨S_, .f32⟩) main_cst_13) (TRef.of (T := ⟨S8x20000, .f32⟩) main_call7_v0) (broadcastInDim S8x20000 ![] bcast_S_S8x20000),
    TRef.ternary (TRef.of (T := ⟨S8x20000, .i1⟩) main_v81) (TRef.of (T := ⟨S8x20000, .f32⟩) main_call7_v0) (TRef.of (T := ⟨S8x20000, .f32⟩) main_v79) (TRef.of (T := ⟨S8x20000, .f32⟩) main_v82) select,
    nullary main_cst_14 (constant S_ .f32 0xFF800000#32),
    binary main_v76 main_cst_14 main_v83 ((fun x v => Host.reduce FloatOps.maximumf x v reducesTo_S8x20000x64_S8x64_d1 h_S_) : (⟨S8x20000x64, .f32⟩ : BufTy).Contents (Elt F) → (⟨S_, .f32⟩ : BufTy).Contents (Elt F) → (⟨S8x64, .f32⟩ : BufTy).Contents (Elt F)),
    unary main_v83 main_v84 (broadcastInDim S8x1x64 ![0, 2] bcast_S8x64_S8x1x64_0_2 : (⟨S8x64, .f32⟩ : BufTy).Contents (Elt F) → (⟨S8x1x64, .f32⟩ : BufTy).Contents (Elt F)),
    unary main_v84 main_v85 (broadcastInDim S8x20000x64 ![0, 1, 2] bcast_S8x1x64_S8x20000x64_0_1_2 : (⟨S8x1x64, .f32⟩ : BufTy).Contents (Elt F) → (⟨S8x20000x64, .f32⟩ : BufTy).Contents (Elt F)),
    binary main_v76 main_v85 main_v86 (cmpf .oeq : (⟨S8x20000x64, .f32⟩ : BufTy).Contents (Elt F) → (⟨S8x20000x64, .f32⟩ : BufTy).Contents (Elt F) → (⟨S8x20000x64, .i1⟩ : BufTy).Contents (Elt F)),
    nullary main_cst_15 (constant S_ .f32 0x00000000#32),
    unary main_cst_15 main_v87 (broadcastInDim S8x1x64 ![] bcast_S_S8x1x64 : (⟨S_, .f32⟩ : BufTy).Contents (Elt F) → (⟨S8x1x64, .f32⟩ : BufTy).Contents (Elt F)),
    binary main_v84 main_v87 main_v88 (cmpf .ogt : (⟨S8x1x64, .f32⟩ : BufTy).Contents (Elt F) → (⟨S8x1x64, .f32⟩ : BufTy).Contents (Elt F) → (⟨S8x1x64, .i1⟩ : BufTy).Contents (Elt F)),
    unary main_v88 main_v89 (broadcastInDim S8x20000x64 ![0, 1, 2] bcast_S8x1x64_S8x20000x64_0_1_2 : (⟨S8x1x64, .i1⟩ : BufTy).Contents (Elt F) → (⟨S8x20000x64, .i1⟩ : BufTy).Contents (Elt F)),
    binary main_v86 main_v89 main_v90 (andi : (⟨S8x20000x64, .i1⟩ : BufTy).Contents (Elt F) → (⟨S8x20000x64, .i1⟩ : BufTy).Contents (Elt F) → (⟨S8x20000x64, .i1⟩ : BufTy).Contents (Elt F)) ]

/-- @main's operations 127 … 141 of 315 (window `main_part1`). -/
abbrev ops_part1_2 : List (HloOp τ sig (Elt F)) :=
  [ nullary main_c (constantI S_ 1 0#1),
    binary main_v90 main_c main_v91 ((fun x v => Host.reduce IntOp.ori x v reducesTo_S8x20000x64_S8x20000_d2 h_S_) : (⟨S8x20000x64, .i1⟩ : BufTy).Contents (Elt F) → (⟨S_, .i1⟩ : BufTy).Contents (Elt F) → (⟨S8x20000, .i1⟩ : BufTy).Contents (Elt F)),
    nullary main_cst_16 (constant S_ .f32 0x3F800000#32),
    TRef.unary (TRef.of (T := ⟨S_, .f32⟩) main_cst_16) (TRef.of (T := ⟨S8x20000, .f32⟩) main_call8_v0) (broadcastInDim S8x20000 ![] bcast_S_S8x20000),
    TRef.ternary (TRef.of (T := ⟨S8x20000, .i1⟩) main_v91) (TRef.of (T := ⟨S8x20000, .f32⟩) main_call8_v0) (TRef.of (T := ⟨S8x20000, .f32⟩) main_v82) (TRef.of (T := ⟨S8x20000, .f32⟩) main_v92) select,
    nullary main_cst_17 (constant S_ .f32 0x3F333333#32),
    unary main_cst_17 main_v93 (broadcastInDim S8x20000 ![] bcast_S_S8x20000 : (⟨S_, .f32⟩ : BufTy).Contents (Elt F) → (⟨S8x20000, .f32⟩ : BufTy).Contents (Elt F)),
    binary main_v77 main_v93 main_v94 (cmpf .oge : (⟨S8x20000, .f32⟩ : BufTy).Contents (Elt F) → (⟨S8x20000, .f32⟩ : BufTy).Contents (Elt F) → (⟨S8x20000, .i1⟩ : BufTy).Contents (Elt F)),
    nullary main_cst_18 (constant S_ .f32 0x3F800000#32),
    TRef.unary (TRef.of (T := ⟨S_, .f32⟩) main_cst_18) (TRef.of (T := ⟨S8x20000, .f32⟩) main_call9_v0) (broadcastInDim S8x20000 ![] bcast_S_S8x20000),
    TRef.ternary (TRef.of (T := ⟨S8x20000, .i1⟩) main_v94) (TRef.of (T := ⟨S8x20000, .f32⟩) main_call9_v0) (TRef.of (T := ⟨S8x20000, .f32⟩) main_v92) (TRef.of (T := ⟨S8x20000, .f32⟩) main_v95) select,
    nullary main_cst_19 (constant S_ .f32 0xBF800000#32),
    TRef.unary (TRef.of (T := ⟨S_, .f32⟩) main_cst_19) (TRef.of (T := ⟨S8x20000, .f32⟩) main_call10_v0) (broadcastInDim S8x20000 ![] bcast_S_S8x20000),
    TRef.ternary (TRef.of (T := ⟨S8x20000, .i1⟩) main_v18) (TRef.of (T := ⟨S8x20000, .f32⟩) main_v95) (TRef.of (T := ⟨S8x20000, .f32⟩) main_call10_v0) (TRef.of (T := ⟨S8x20000, .f32⟩) main_v96) select,
    nullary main_cst_20 (constant S_ .f32 0x3F800000#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 142 … 171 of 315 (window `main_part2`). -/
abbrev ops_part2_0 : List (HloOp τ sig (Elt F)) :=
  [ unary main_cst_20 main_v97 (broadcastInDim S8x20000 ![] bcast_S_S8x20000 : (⟨S_, .f32⟩ : BufTy).Contents (Elt F) → (⟨S8x20000, .f32⟩ : BufTy).Contents (Elt F)),
    binary main_v96 main_v97 main_v98 (cmpf .oeq : (⟨S8x20000, .f32⟩ : BufTy).Contents (Elt F) → (⟨S8x20000, .f32⟩ : BufTy).Contents (Elt F) → (⟨S8x20000, .i1⟩ : BufTy).Contents (Elt F)),
    unary main_v98 main_v99 ((extui 32 · natLt_1_32) : (⟨S8x20000, .i1⟩ : BufTy).Contents (Elt F) → (⟨S8x20000, .i32⟩ : BufTy).Contents (Elt F)),
    TRef.nullary (TRef.of (T := ⟨S_, .i32⟩) main_call11_call0_c) (constantI S_ 32 0#32),
    TRef.unary (TRef.of (T := ⟨S_, .i32⟩) main_call11_call0_c) (TRef.of (T := ⟨S_, .i32⟩) main_call11_call0_v0) (broadcastInDim S_ ![] bcast_S_S_),
    TRef.binary (TRef.of (T := ⟨S8x20000, .i32⟩) main_v99) (TRef.of (T := ⟨S_, .i32⟩) main_call11_call0_v0) (TRef.of (T := ⟨S8x20000, .i32⟩) main_v100) (fun x v => Host.reduceWindow IntOp.addi ![1, 20000] ![1, 1] ![0, 19999] ![0, 0] x v reduceWindows_S8x20000_S8x20000_w1s1p0_0_w20000s1p19999_0 h_S_),
    nullary main_c_21 (constantI S_ 32 128#32),
    unary main_c_21 main_v101 (broadcastInDim S8x20000 ![] bcast_S_S8x20000 : (⟨S_, .i32⟩ : BufTy).Contents (Elt F) → (⟨S8x20000, .i32⟩ : BufTy).Contents (Elt F)),
    binary main_v100 main_v101 main_v102 (cmpi .sgt : (⟨S8x20000, .i32⟩ : BufTy).Contents (Elt F) → (⟨S8x20000, .i32⟩ : BufTy).Contents (Elt F) → (⟨S8x20000, .i1⟩ : BufTy).Contents (Elt F)),
    nullary main_c_22 (constantI S_ 1 0#1),
    unary main_c_22 main_v103 (broadcastInDim S8x20000 ![] bcast_S_S8x20000 : (⟨S_, .i1⟩ : BufTy).Contents (Elt F) → (⟨S8x20000, .i1⟩ : BufTy).Contents (Elt F)),
    binary main_v98 main_v103 main_v104 (cmpi .ne : (⟨S8x20000, .i1⟩ : BufTy).Contents (Elt F) → (⟨S8x20000, .i1⟩ : BufTy).Contents (Elt F) → (⟨S8x20000, .i1⟩ : BufTy).Contents (Elt F)),
    unary main_v104 main_v105 (id : (⟨S8x20000, .i1⟩ : BufTy).Contents (Elt F) → (⟨S8x20000, .i1⟩ : BufTy).Contents (Elt F)),
    binary main_v105 main_v102 main_v106 (andi : (⟨S8x20000, .i1⟩ : BufTy).Contents (Elt F) → (⟨S8x20000, .i1⟩ : BufTy).Contents (Elt F) → (⟨S8x20000, .i1⟩ : BufTy).Contents (Elt F)),
    nullary main_cst_23 (constant S_ .f32 0xBF800000#32),
    TRef.unary (TRef.of (T := ⟨S_, .f32⟩) main_cst_23) (TRef.of (T := ⟨S8x20000, .f32⟩) main_call12_v0) (broadcastInDim S8x20000 ![] bcast_S_S8x20000),
    TRef.ternary (TRef.of (T := ⟨S8x20000, .i1⟩) main_v106) (TRef.of (T := ⟨S8x20000, .f32⟩) main_call12_v0) (TRef.of (T := ⟨S8x20000, .f32⟩) main_v96) (TRef.of (T := ⟨S8x20000, .f32⟩) main_v107) select,
    unary main_v98 main_v108 ((extui 32 · natLt_1_32) : (⟨S8x20000, .i1⟩ : BufTy).Contents (Elt F) → (⟨S8x20000, .i32⟩ : BufTy).Contents (Elt F)),
    nullary main_c_24 (constantI S_ 32 0#32),
    binary main_v108 main_c_24 main_v109 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    nullary main_c_25 (constantI S_ 32 128#32),
    unary main_c_25 main_v110 (broadcastInDim S8 ![] bcast_S_S8 : (⟨S_, .i32⟩ : BufTy).Contents (Elt F) → (⟨S8, .i32⟩ : BufTy).Contents (Elt F)),
    binary main_v109 main_v110 main_v111 (minsi : (⟨S8, .i32⟩ : BufTy).Contents (Elt F) → (⟨S8, .i32⟩ : BufTy).Contents (Elt F) → (⟨S8, .i32⟩ : BufTy).Contents (Elt F)),
    nullary main_cst_26 (constant S_ .f32 0x00000000#32),
    unary main_cst_26 main_v112 (broadcastInDim S8x20000 ![] bcast_S_S8x20000 : (⟨S_, .f32⟩ : BufTy).Contents (Elt F) → (⟨S8x20000, .f32⟩ : BufTy).Contents (Elt F)),
    binary main_v107 main_v112 main_v113 (cmpf .oeq : (⟨S8x20000, .f32⟩ : BufTy).Contents (Elt F) → (⟨S8x20000, .f32⟩ : BufTy).Contents (Elt F) → (⟨S8x20000, .i1⟩ : BufTy).Contents (Elt F)),
    unary main_v113 main_v114 ((extui 32 · natLt_1_32) : (⟨S8x20000, .i1⟩ : BufTy).Contents (Elt F) → (⟨S8x20000, .i32⟩ : BufTy).Contents (Elt F)),
    TRef.nullary (TRef.of (T := ⟨S_, .i32⟩) main_call13_call0_c) (constantI S_ 32 0#32),
    TRef.unary (TRef.of (T := ⟨S_, .i32⟩) main_call13_call0_c) (TRef.of (T := ⟨S_, .i32⟩) main_call13_call0_v0) (broadcastInDim S_ ![] bcast_S_S_),
    TRef.binary (TRef.of (T := ⟨S8x20000, .i32⟩) main_v114) (TRef.of (T := ⟨S_, .i32⟩) main_call13_call0_v0) (TRef.of (T := ⟨S8x20000, .i32⟩) main_v115) (fun x v => Host.reduceWindow IntOp.addi ![1, 20000] ![1, 1] ![0, 19999] ![0, 0] x v reduceWindows_S8x20000_S8x20000_w1s1p0_0_w20000s1p19999_0 h_S_) ]

/-- @main's operations 172 … 201 of 315 (window `main_part2`). -/
abbrev ops_part2_1 : List (HloOp τ sig (Elt F)) :=
  [ nullary main_c_27 (constantI S_ 32 256#32),
    unary main_c_27 main_v116 (broadcastInDim S8 ![] bcast_S_S8 : (⟨S_, .i32⟩ : BufTy).Contents (Elt F) → (⟨S8, .i32⟩ : BufTy).Contents (Elt F)),
    binary main_v116 main_v111 main_v117 (subi : (⟨S8, .i32⟩ : BufTy).Contents (Elt F) → (⟨S8, .i32⟩ : BufTy).Contents (Elt F) → (⟨S8, .i32⟩ : BufTy).Contents (Elt F)),
    unary main_v117 main_v118 (broadcastInDim S8x1 ![0] bcast_S8_S8x1_0 : (⟨S8, .i32⟩ : BufTy).Contents (Elt F) → (⟨S8x1, .i32⟩ : BufTy).Contents (Elt F)),
    unary main_v118 main_v119 (broadcastInDim S8x20000 ![0, 1] bcast_S8x1_S8x20000_0_1 : (⟨S8x1, .i32⟩ : BufTy).Contents (Elt F) → (⟨S8x20000, .i32⟩ : BufTy).Contents (Elt F)),
    binary main_v115 main_v119 main_v120 (cmpi .sgt : (⟨S8x20000, .i32⟩ : BufTy).Contents (Elt F) → (⟨S8x20000, .i32⟩ : BufTy).Contents (Elt F) → (⟨S8x20000, .i1⟩ : BufTy).Contents (Elt F)),
    nullary main_c_28 (constantI S_ 1 0#1),
    unary main_c_28 main_v121 (broadcastInDim S8x20000 ![] bcast_S_S8x20000 : (⟨S_, .i1⟩ : BufTy).Contents (Elt F) → (⟨S8x20000, .i1⟩ : BufTy).Contents (Elt F)),
    binary main_v113 main_v121 main_v122 (cmpi .ne : (⟨S8x20000, .i1⟩ : BufTy).Contents (Elt F) → (⟨S8x20000, .i1⟩ : BufTy).Contents (Elt F) → (⟨S8x20000, .i1⟩ : BufTy).Contents (Elt F)),
    unary main_v122 main_v123 (id : (⟨S8x20000, .i1⟩ : BufTy).Contents (Elt F) → (⟨S8x20000, .i1⟩ : BufTy).Contents (Elt F)),
    binary main_v123 main_v120 main_v124 (andi : (⟨S8x20000, .i1⟩ : BufTy).Contents (Elt F) → (⟨S8x20000, .i1⟩ : BufTy).Contents (Elt F) → (⟨S8x20000, .i1⟩ : BufTy).Contents (Elt F)),
    nullary main_cst_29 (constant S_ .f32 0xBF800000#32),
    TRef.unary (TRef.of (T := ⟨S_, .f32⟩) main_cst_29) (TRef.of (T := ⟨S8x20000, .f32⟩) main_call14_v0) (broadcastInDim S8x20000 ![] bcast_S_S8x20000),
    TRef.ternary (TRef.of (T := ⟨S8x20000, .i1⟩) main_v124) (TRef.of (T := ⟨S8x20000, .f32⟩) main_call14_v0) (TRef.of (T := ⟨S8x20000, .f32⟩) main_v107) (TRef.of (T := ⟨S8x20000, .f32⟩) main_v125) select,
    unary main_v78 main_v126 (broadcastInDim S8x20000x1 ![0, 1] bcast_S8x20000_S8x20000x1_0_1 : (⟨S8x20000, .i32⟩ : BufTy).Contents (Elt F) → (⟨S8x20000x1, .i32⟩ : BufTy).Contents (Elt F)),
    TRef.nullary (TRef.of (T := ⟨S_, .i32⟩) main_call15_c) (constantI S_ 32 0#32),
    TRef.unary (TRef.of (T := ⟨S_, .i32⟩) main_call15_c) (TRef.of (T := ⟨S8x20000x1, .i32⟩) main_call15_v0) (broadcastInDim S8x20000x1 ![] bcast_S_S8x20000x1),
    TRef.binary (TRef.of (T := ⟨S8x20000x1, .i32⟩) main_v126) (TRef.of (T := ⟨S8x20000x1, .i32⟩) main_call15_v0) (TRef.of (T := ⟨S8x20000x1, .i1⟩) main_call15_v1) (cmpi .slt),
    TRef.nullary (TRef.of (T := ⟨S_, .i32⟩) main_call15_c_0) (constantI S_ 32 64#32),
    TRef.unary (TRef.of (T := ⟨S_, .i32⟩) main_call15_c_0) (TRef.of (T := ⟨S8x20000x1, .i32⟩) main_call15_v2) (broadcastInDim S8x20000x1 ![] bcast_S_S8x20000x1),
    TRef.binary (TRef.of (T := ⟨S8x20000x1, .i32⟩) main_v126) (TRef.of (T := ⟨S8x20000x1, .i32⟩) main_call15_v2) (TRef.of (T := ⟨S8x20000x1, .i32⟩) main_call15_v3) addi,
    TRef.ternary (TRef.of (T := ⟨S8x20000x1, .i1⟩) main_call15_v1) (TRef.of (T := ⟨S8x20000x1, .i32⟩) main_call15_v3) (TRef.of (T := ⟨S8x20000x1, .i32⟩) main_v126) (TRef.of (T := ⟨S8x20000x1, .i32⟩) main_call15_v4) select,
    TRef.nullary (TRef.of (T := ⟨S1, .i32⟩) main_call15_c_1) (constantI S1 32 63#32),
    TRef.nullary (TRef.of (T := ⟨S_, .i32⟩) main_call15_c_2) (constantI S_ 32 0#32),
    TRef.unary (TRef.of (T := ⟨S_, .i32⟩) main_call15_c_2) (TRef.of (T := ⟨S8x20000x1, .i32⟩) main_call15_v5) (broadcastInDim S8x20000x1 ![] bcast_S_S8x20000x1),
    TRef.binary (TRef.of (T := ⟨S8x20000x1, .i32⟩) main_call15_v4) (TRef.of (T := ⟨S8x20000x1, .i32⟩) main_call15_v5) (TRef.of (T := ⟨S8x20000x1, .i1⟩) main_call15_v6) (cmpi .sge),
    TRef.unary (TRef.of (T := ⟨S1, .i32⟩) main_call15_c_1) (TRef.of (T := ⟨S1x1x1, .i32⟩) main_call15_v7) (broadcastInDim S1x1x1 ![2] bcast_S1_S1x1x1_2),
    TRef.unary (TRef.of (T := ⟨S1x1x1, .i32⟩) main_call15_v7) (TRef.of (T := ⟨S8x20000x1, .i32⟩) main_call15_v8) (broadcastInDim S8x20000x1 ![0, 1, 2] bcast_S1x1x1_S8x20000x1_0_1_2),
    TRef.binary (TRef.of (T := ⟨S8x20000x1, .i32⟩) main_call15_v4) (TRef.of (T := ⟨S8x20000x1, .i32⟩) main_call15_v8) (TRef.of (T := ⟨S8x20000x1, .i1⟩) main_call15_v9) (cmpi .sle),
    TRef.binary (TRef.of (T := ⟨S8x20000x1, .i1⟩) main_call15_v6) (TRef.of (T := ⟨S8x20000x1, .i1⟩) main_call15_v9) (TRef.of (T := ⟨S8x20000x1, .i1⟩) main_call15_v10) andi ]

/-- @main's operations 202 … 231 of 315 (window `main_part2`). -/
abbrev ops_part2_2 : List (HloOp τ sig (Elt F)) :=
  [ TRef.nullary (TRef.of (T := ⟨S_, .i1⟩) main_call15_c_3) (constantI S_ 1 1#1),
    TRef.binary (TRef.of (T := ⟨S8x20000x1, .i1⟩) main_call15_v10) (TRef.of (T := ⟨S_, .i1⟩) main_call15_c_3) (TRef.of (T := ⟨S8x20000, .i1⟩) main_call15_v11) (fun x v => Host.reduce IntOp.andi x v reducesTo_S8x20000x1_S8x20000_d2 h_S_),
    TRef.binary (TRef.of (T := ⟨S8x64x4, .f32⟩) main_arg1) (TRef.of (T := ⟨S8x20000x1, .i32⟩) main_call15_v4) (TRef.of (T := ⟨S8x20000x4, .f32⟩) main_call15_v12) (fun x i => Host.gather gather_S8x64x4_S8x20000x1_S8x20000x4_2_1_0_0_1_2_114 x i),
    TRef.unary (TRef.of (T := ⟨S8x20000, .i1⟩) main_call15_v11) (TRef.of (T := ⟨S8x20000x4, .i1⟩) main_call15_v13) (broadcastInDim S8x20000x4 ![0, 1] bcast_S8x20000_S8x20000x4_0_1),
    TRef.nullary (TRef.of (T := ⟨S_, .f32⟩) main_call15_cst) (constant S_ .f32 0x7FC00000#32),
    TRef.unary (TRef.of (T := ⟨S_, .f32⟩) main_call15_cst) (TRef.of (T := ⟨S8x20000x4, .f32⟩) main_call15_v14) (broadcastInDim S8x20000x4 ![] bcast_S_S8x20000x4),
    TRef.ternary (TRef.of (T := ⟨S8x20000x4, .i1⟩) main_call15_v13) (TRef.of (T := ⟨S8x20000x4, .f32⟩) main_call15_v12) (TRef.of (T := ⟨S8x20000x4, .f32⟩) main_call15_v14) (TRef.of (T := ⟨S8x20000x4, .f32⟩) main_v127) select,
    TRef.nullary (TRef.of (T := ⟨S_, .i32⟩) main_call16_c) (constantI S_ 32 0#32),
    TRef.unary (TRef.of (T := ⟨S_, .i32⟩) main_call16_c) (TRef.of (T := ⟨S8x20000, .i32⟩) main_call16_v0) (broadcastInDim S8x20000 ![] bcast_S_S8x20000),
    TRef.binary (TRef.of (T := ⟨S8x20000, .i32⟩) main_v78) (TRef.of (T := ⟨S8x20000, .i32⟩) main_call16_v0) (TRef.of (T := ⟨S8x20000, .i1⟩) main_call16_v1) (cmpi .slt),
    TRef.nullary (TRef.of (T := ⟨S_, .i32⟩) main_call16_c_0) (constantI S_ 32 64#32),
    TRef.unary (TRef.of (T := ⟨S_, .i32⟩) main_call16_c_0) (TRef.of (T := ⟨S8x20000, .i32⟩) main_call16_v2) (broadcastInDim S8x20000 ![] bcast_S_S8x20000),
    TRef.binary (TRef.of (T := ⟨S8x20000, .i32⟩) main_v78) (TRef.of (T := ⟨S8x20000, .i32⟩) main_call16_v2) (TRef.of (T := ⟨S8x20000, .i32⟩) main_call16_v3) addi,
    TRef.ternary (TRef.of (T := ⟨S8x20000, .i1⟩) main_call16_v1) (TRef.of (T := ⟨S8x20000, .i32⟩) main_call16_v3) (TRef.of (T := ⟨S8x20000, .i32⟩) main_v78) (TRef.of (T := ⟨S8x20000, .i32⟩) main_call16_v4) select,
    TRef.reshape (TRef.of (T := ⟨S8x20000, .i32⟩) main_call16_v4) (TRef.of (T := ⟨S8x20000x1, .i32⟩) main_call16_v5) (rfl : (.i32 : EltTy) = .i32) shapeCasts_S8x20000_S8x20000x1,
    TRef.nullary (TRef.of (T := ⟨S1, .i32⟩) main_call16_c_1) (constantI S1 32 63#32),
    TRef.nullary (TRef.of (T := ⟨S_, .i32⟩) main_call16_c_2) (constantI S_ 32 0#32),
    TRef.unary (TRef.of (T := ⟨S_, .i32⟩) main_call16_c_2) (TRef.of (T := ⟨S8x20000x1, .i32⟩) main_call16_v6) (broadcastInDim S8x20000x1 ![] bcast_S_S8x20000x1),
    TRef.binary (TRef.of (T := ⟨S8x20000x1, .i32⟩) main_call16_v5) (TRef.of (T := ⟨S8x20000x1, .i32⟩) main_call16_v6) (TRef.of (T := ⟨S8x20000x1, .i1⟩) main_call16_v7) (cmpi .sge),
    TRef.unary (TRef.of (T := ⟨S1, .i32⟩) main_call16_c_1) (TRef.of (T := ⟨S1x1x1, .i32⟩) main_call16_v8) (broadcastInDim S1x1x1 ![2] bcast_S1_S1x1x1_2),
    TRef.unary (TRef.of (T := ⟨S1x1x1, .i32⟩) main_call16_v8) (TRef.of (T := ⟨S8x20000x1, .i32⟩) main_call16_v9) (broadcastInDim S8x20000x1 ![0, 1, 2] bcast_S1x1x1_S8x20000x1_0_1_2),
    TRef.binary (TRef.of (T := ⟨S8x20000x1, .i32⟩) main_call16_v5) (TRef.of (T := ⟨S8x20000x1, .i32⟩) main_call16_v9) (TRef.of (T := ⟨S8x20000x1, .i1⟩) main_call16_v10) (cmpi .sle),
    TRef.binary (TRef.of (T := ⟨S8x20000x1, .i1⟩) main_call16_v7) (TRef.of (T := ⟨S8x20000x1, .i1⟩) main_call16_v10) (TRef.of (T := ⟨S8x20000x1, .i1⟩) main_call16_v11) andi,
    TRef.nullary (TRef.of (T := ⟨S_, .i1⟩) main_call16_c_3) (constantI S_ 1 1#1),
    TRef.binary (TRef.of (T := ⟨S8x20000x1, .i1⟩) main_call16_v11) (TRef.of (T := ⟨S_, .i1⟩) main_call16_c_3) (TRef.of (T := ⟨S8x20000, .i1⟩) main_call16_v12) (fun x v => Host.reduce IntOp.andi x v reducesTo_S8x20000x1_S8x20000_d2 h_S_),
    TRef.binary (TRef.of (T := ⟨S8x64, .i32⟩) main_arg2) (TRef.of (T := ⟨S8x20000x1, .i32⟩) main_call16_v5) (TRef.of (T := ⟨S8x20000, .i32⟩) main_call16_v13) (fun x i => Host.gather gather_S8x64_S8x20000x1_S8x20000_n_1_0_0_1_2_11 x i),
    TRef.nullary (TRef.of (T := ⟨S_, .i32⟩) main_call16_c_4) (constantI S_ 32 2147483648#32),
    TRef.unary (TRef.of (T := ⟨S_, .i32⟩) main_call16_c_4) (TRef.of (T := ⟨S8x20000, .i32⟩) main_call16_v14) (broadcastInDim S8x20000 ![] bcast_S_S8x20000),
    TRef.ternary (TRef.of (T := ⟨S8x20000, .i1⟩) main_call16_v12) (TRef.of (T := ⟨S8x20000, .i32⟩) main_call16_v13) (TRef.of (T := ⟨S8x20000, .i32⟩) main_call16_v14) (TRef.of (T := ⟨S8x20000, .i32⟩) main_v128) select,
    nullary main_cst_30 (constant S_ .f32 0x3F800000#32) ]

/-- @main's operations 232 … 252 of 315 (window `main_part2`). -/
abbrev ops_part2_3 : List (HloOp τ sig (Elt F)) :=
  [ unary main_cst_30 main_v129 (broadcastInDim S8x20000 ![] bcast_S_S8x20000 : (⟨S_, .f32⟩ : BufTy).Contents (Elt F) → (⟨S8x20000, .f32⟩ : BufTy).Contents (Elt F)),
    binary main_v125 main_v129 main_v130 (cmpf .oeq : (⟨S8x20000, .f32⟩ : BufTy).Contents (Elt F) → (⟨S8x20000, .f32⟩ : BufTy).Contents (Elt F) → (⟨S8x20000, .i1⟩ : BufTy).Contents (Elt F)),
    nullary main_c_31 (constantI S_ 32 1#32),
    unary main_c_31 main_v131 (broadcastInDim S8x20000 ![] bcast_S_S8x20000 : (⟨S_, .i32⟩ : BufTy).Contents (Elt F) → (⟨S8x20000, .i32⟩ : BufTy).Contents (Elt F)),
    binary main_v128 main_v131 main_v132 (addi : (⟨S8x20000, .i32⟩ : BufTy).Contents (Elt F) → (⟨S8x20000, .i32⟩ : BufTy).Contents (Elt F) → (⟨S8x20000, .i32⟩ : BufTy).Contents (Elt F)),
    nullary main_cst_32 (constant S_ .f32 0x00000000#32),
    unary main_cst_32 main_v133 (broadcastInDim S8x20000 ![] bcast_S_S8x20000 : (⟨S_, .f32⟩ : BufTy).Contents (Elt F) → (⟨S8x20000, .f32⟩ : BufTy).Contents (Elt F)),
    binary main_v125 main_v133 main_v134 (cmpf .oeq : (⟨S8x20000, .f32⟩ : BufTy).Contents (Elt F) → (⟨S8x20000, .f32⟩ : BufTy).Contents (Elt F) → (⟨S8x20000, .i1⟩ : BufTy).Contents (Elt F)),
    nullary main_c_33 (constantI S_ 32 0#32),
    nullary main_c_34 (constantI S_ 32 4294967295#32),
    TRef.unary (TRef.of (T := ⟨S_, .i32⟩) main_c_33) (TRef.of (T := ⟨S8x20000, .i32⟩) main_call17_v0) (broadcastInDim S8x20000 ![] bcast_S_S8x20000),
    TRef.unary (TRef.of (T := ⟨S_, .i32⟩) main_c_34) (TRef.of (T := ⟨S8x20000, .i32⟩) main_call17_v1) (broadcastInDim S8x20000 ![] bcast_S_S8x20000),
    TRef.ternary (TRef.of (T := ⟨S8x20000, .i1⟩) main_v134) (TRef.of (T := ⟨S8x20000, .i32⟩) main_call17_v0) (TRef.of (T := ⟨S8x20000, .i32⟩) main_call17_v1) (TRef.of (T := ⟨S8x20000, .i32⟩) main_v135) select,
    TRef.unary (TRef.of (T := ⟨S8x20000, .i32⟩) main_v135) (TRef.of (T := ⟨S8x20000, .i32⟩) main_call18_v0) id,
    TRef.ternary (TRef.of (T := ⟨S8x20000, .i1⟩) main_v130) (TRef.of (T := ⟨S8x20000, .i32⟩) main_v132) (TRef.of (T := ⟨S8x20000, .i32⟩) main_call18_v0) (TRef.of (T := ⟨S8x20000, .i32⟩) main_v136) select,
    unary main_arg0 main_v137 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v137 main_v138 (rfl : (.f32 : EltTy) = .f32) shapeCasts_S8x20000x1_S8x20000,
    unary main_arg0 main_v139 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v139 main_v140 (rfl : (.f32 : EltTy) = .f32) shapeCasts_S8x20000x1_S8x20000,
    binary main_v138 main_v140 main_v141 (subf : (⟨S8x20000, .f32⟩ : BufTy).Contents (Elt F) → (⟨S8x20000, .f32⟩ : BufTy).Contents (Elt F) → (⟨S8x20000, .f32⟩ : BufTy).Contents (Elt F)),
    nullary main_cst_35 (constant S_ .f32 0x358637BD#32) ]

/-- Window `main_part2`'s operations. Not an abbreviation: `main_eq` below splits `ops` into the windows and no further. -/
def ops_part2 : List (HloOp τ sig (Elt F)) :=
  ops_part2_0 ++ (ops_part2_1 ++ (ops_part2_2 ++ (ops_part2_3)))

/-- @main's operations 253 … 312 of 315 (window `main_part3`). -/
abbrev ops_part3 : List (HloOp τ sig (Elt F)) :=
  [ unary main_cst_35 main_v142 (broadcastInDim S8x20000 ![] bcast_S_S8x20000 : (⟨S_, .f32⟩ : BufTy).Contents (Elt F) → (⟨S8x20000, .f32⟩ : BufTy).Contents (Elt F)),
    binary main_v141 main_v142 main_v143 (maximumf : (⟨S8x20000, .f32⟩ : BufTy).Contents (Elt F) → (⟨S8x20000, .f32⟩ : BufTy).Contents (Elt F) → (⟨S8x20000, .f32⟩ : BufTy).Contents (Elt F)),
    unary main_arg0 main_v144 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v144 main_v145 (rfl : (.f32 : EltTy) = .f32) shapeCasts_S8x20000x1_S8x20000,
    unary main_arg0 main_v146 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v146 main_v147 (rfl : (.f32 : EltTy) = .f32) shapeCasts_S8x20000x1_S8x20000,
    binary main_v145 main_v147 main_v148 (subf : (⟨S8x20000, .f32⟩ : BufTy).Contents (Elt F) → (⟨S8x20000, .f32⟩ : BufTy).Contents (Elt F) → (⟨S8x20000, .f32⟩ : BufTy).Contents (Elt F)),
    nullary main_cst_36 (constant S_ .f32 0x358637BD#32),
    unary main_cst_36 main_v149 (broadcastInDim S8x20000 ![] bcast_S_S8x20000 : (⟨S_, .f32⟩ : BufTy).Contents (Elt F) → (⟨S8x20000, .f32⟩ : BufTy).Contents (Elt F)),
    binary main_v148 main_v149 main_v150 (maximumf : (⟨S8x20000, .f32⟩ : BufTy).Contents (Elt F) → (⟨S8x20000, .f32⟩ : BufTy).Contents (Elt F) → (⟨S8x20000, .f32⟩ : BufTy).Contents (Elt F)),
    unary main_arg0 main_v151 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v151 main_v152 (rfl : (.f32 : EltTy) = .f32) shapeCasts_S8x20000x1_S8x20000,
    nullary main_cst_37 (constant S_ .f32 0x3F000000#32),
    unary main_cst_37 main_v153 (broadcastInDim S8x20000 ![] bcast_S_S8x20000 : (⟨S_, .f32⟩ : BufTy).Contents (Elt F) → (⟨S8x20000, .f32⟩ : BufTy).Contents (Elt F)),
    binary main_v153 main_v143 main_v154 (mulf : (⟨S8x20000, .f32⟩ : BufTy).Contents (Elt F) → (⟨S8x20000, .f32⟩ : BufTy).Contents (Elt F) → (⟨S8x20000, .f32⟩ : BufTy).Contents (Elt F)),
    binary main_v152 main_v154 main_v155 (addf : (⟨S8x20000, .f32⟩ : BufTy).Contents (Elt F) → (⟨S8x20000, .f32⟩ : BufTy).Contents (Elt F) → (⟨S8x20000, .f32⟩ : BufTy).Contents (Elt F)),
    unary main_arg0 main_v156 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v156 main_v157 (rfl : (.f32 : EltTy) = .f32) shapeCasts_S8x20000x1_S8x20000,
    nullary main_cst_38 (constant S_ .f32 0x3F000000#32),
    unary main_cst_38 main_v158 (broadcastInDim S8x20000 ![] bcast_S_S8x20000 : (⟨S_, .f32⟩ : BufTy).Contents (Elt F) → (⟨S8x20000, .f32⟩ : BufTy).Contents (Elt F)),
    binary main_v158 main_v150 main_v159 (mulf : (⟨S8x20000, .f32⟩ : BufTy).Contents (Elt F) → (⟨S8x20000, .f32⟩ : BufTy).Contents (Elt F) → (⟨S8x20000, .f32⟩ : BufTy).Contents (Elt F)),
    binary main_v157 main_v159 main_v160 (addf : (⟨S8x20000, .f32⟩ : BufTy).Contents (Elt F) → (⟨S8x20000, .f32⟩ : BufTy).Contents (Elt F) → (⟨S8x20000, .f32⟩ : BufTy).Contents (Elt F)),
    unary main_v127 main_v161 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v161 main_v162 (rfl : (.f32 : EltTy) = .f32) shapeCasts_S8x20000x1_S8x20000,
    unary main_v127 main_v163 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v163 main_v164 (rfl : (.f32 : EltTy) = .f32) shapeCasts_S8x20000x1_S8x20000,
    binary main_v162 main_v164 main_v165 (subf : (⟨S8x20000, .f32⟩ : BufTy).Contents (Elt F) → (⟨S8x20000, .f32⟩ : BufTy).Contents (Elt F) → (⟨S8x20000, .f32⟩ : BufTy).Contents (Elt F)),
    nullary main_cst_39 (constant S_ .f32 0x358637BD#32),
    unary main_cst_39 main_v166 (broadcastInDim S8x20000 ![] bcast_S_S8x20000 : (⟨S_, .f32⟩ : BufTy).Contents (Elt F) → (⟨S8x20000, .f32⟩ : BufTy).Contents (Elt F)),
    binary main_v165 main_v166 main_v167 (maximumf : (⟨S8x20000, .f32⟩ : BufTy).Contents (Elt F) → (⟨S8x20000, .f32⟩ : BufTy).Contents (Elt F) → (⟨S8x20000, .f32⟩ : BufTy).Contents (Elt F)),
    unary main_v127 main_v168 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v168 main_v169 (rfl : (.f32 : EltTy) = .f32) shapeCasts_S8x20000x1_S8x20000,
    unary main_v127 main_v170 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v170 main_v171 (rfl : (.f32 : EltTy) = .f32) shapeCasts_S8x20000x1_S8x20000,
    binary main_v169 main_v171 main_v172 (subf : (⟨S8x20000, .f32⟩ : BufTy).Contents (Elt F) → (⟨S8x20000, .f32⟩ : BufTy).Contents (Elt F) → (⟨S8x20000, .f32⟩ : BufTy).Contents (Elt F)),
    nullary main_cst_40 (constant S_ .f32 0x358637BD#32),
    unary main_cst_40 main_v173 (broadcastInDim S8x20000 ![] bcast_S_S8x20000 : (⟨S_, .f32⟩ : BufTy).Contents (Elt F) → (⟨S8x20000, .f32⟩ : BufTy).Contents (Elt F)),
    binary main_v172 main_v173 main_v174 (maximumf : (⟨S8x20000, .f32⟩ : BufTy).Contents (Elt F) → (⟨S8x20000, .f32⟩ : BufTy).Contents (Elt F) → (⟨S8x20000, .f32⟩ : BufTy).Contents (Elt F)),
    unary main_v127 main_v175 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v175 main_v176 (rfl : (.f32 : EltTy) = .f32) shapeCasts_S8x20000x1_S8x20000,
    nullary main_cst_41 (constant S_ .f32 0x3F000000#32),
    unary main_cst_41 main_v177 (broadcastInDim S8x20000 ![] bcast_S_S8x20000 : (⟨S_, .f32⟩ : BufTy).Contents (Elt F) → (⟨S8x20000, .f32⟩ : BufTy).Contents (Elt F)),
    binary main_v177 main_v167 main_v178 (mulf : (⟨S8x20000, .f32⟩ : BufTy).Contents (Elt F) → (⟨S8x20000, .f32⟩ : BufTy).Contents (Elt F) → (⟨S8x20000, .f32⟩ : BufTy).Contents (Elt F)),
    binary main_v176 main_v178 main_v179 (addf : (⟨S8x20000, .f32⟩ : BufTy).Contents (Elt F) → (⟨S8x20000, .f32⟩ : BufTy).Contents (Elt F) → (⟨S8x20000, .f32⟩ : BufTy).Contents (Elt F)),
    unary main_v127 main_v180 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v180 main_v181 (rfl : (.f32 : EltTy) = .f32) shapeCasts_S8x20000x1_S8x20000,
    nullary main_cst_42 (constant S_ .f32 0x3F000000#32),
    unary main_cst_42 main_v182 (broadcastInDim S8x20000 ![] bcast_S_S8x20000 : (⟨S_, .f32⟩ : BufTy).Contents (Elt F) → (⟨S8x20000, .f32⟩ : BufTy).Contents (Elt F)),
    binary main_v182 main_v174 main_v183 (mulf : (⟨S8x20000, .f32⟩ : BufTy).Contents (Elt F) → (⟨S8x20000, .f32⟩ : BufTy).Contents (Elt F) → (⟨S8x20000, .f32⟩ : BufTy).Contents (Elt F)),
    binary main_v181 main_v183 main_v184 (addf : (⟨S8x20000, .f32⟩ : BufTy).Contents (Elt F) → (⟨S8x20000, .f32⟩ : BufTy).Contents (Elt F) → (⟨S8x20000, .f32⟩ : BufTy).Contents (Elt F)),
    binary main_v179 main_v155 main_v185 (subf : (⟨S8x20000, .f32⟩ : BufTy).Contents (Elt F) → (⟨S8x20000, .f32⟩ : BufTy).Contents (Elt F) → (⟨S8x20000, .f32⟩ : BufTy).Contents (Elt F)),
    binary main_v185 main_v143 main_v186 (Host.divf : (⟨S8x20000, .f32⟩ : BufTy).Contents (Elt F) → (⟨S8x20000, .f32⟩ : BufTy).Contents (Elt F) → (⟨S8x20000, .f32⟩ : BufTy).Contents (Elt F)),
    binary main_v184 main_v160 main_v187 (subf : (⟨S8x20000, .f32⟩ : BufTy).Contents (Elt F) → (⟨S8x20000, .f32⟩ : BufTy).Contents (Elt F) → (⟨S8x20000, .f32⟩ : BufTy).Contents (Elt F)),
    binary main_v187 main_v150 main_v188 (Host.divf : (⟨S8x20000, .f32⟩ : BufTy).Contents (Elt F) → (⟨S8x20000, .f32⟩ : BufTy).Contents (Elt F) → (⟨S8x20000, .f32⟩ : BufTy).Contents (Elt F)),
    binary main_v167 main_v143 main_v189 (Host.divf : (⟨S8x20000, .f32⟩ : BufTy).Contents (Elt F) → (⟨S8x20000, .f32⟩ : BufTy).Contents (Elt F) → (⟨S8x20000, .f32⟩ : BufTy).Contents (Elt F)),
    unary main_v189 main_v190 (Host.log : (⟨S8x20000, .f32⟩ : BufTy).Contents (Elt F) → (⟨S8x20000, .f32⟩ : BufTy).Contents (Elt F)),
    binary main_v174 main_v150 main_v191 (Host.divf : (⟨S8x20000, .f32⟩ : BufTy).Contents (Elt F) → (⟨S8x20000, .f32⟩ : BufTy).Contents (Elt F) → (⟨S8x20000, .f32⟩ : BufTy).Contents (Elt F)),
    unary main_v191 main_v192 (Host.log : (⟨S8x20000, .f32⟩ : BufTy).Contents (Elt F) → (⟨S8x20000, .f32⟩ : BufTy).Contents (Elt F)),
    unary main_v186 main_v193 (broadcastInDim S8x20000x1 ![0, 1] bcast_S8x20000_S8x20000x1_0_1 : (⟨S8x20000, .f32⟩ : BufTy).Contents (Elt F) → (⟨S8x20000x1, .f32⟩ : BufTy).Contents (Elt F)),
    unary main_v188 main_v194 (broadcastInDim S8x20000x1 ![0, 1] bcast_S8x20000_S8x20000x1_0_1 : (⟨S8x20000, .f32⟩ : BufTy).Contents (Elt F) → (⟨S8x20000x1, .f32⟩ : BufTy).Contents (Elt F)) ]

/-- @main's operations 313 … 315 of 315 (window `main_part4`). -/
abbrev ops_part4 : List (HloOp τ sig (Elt F)) :=
  [ unary main_v190 main_v195 (broadcastInDim S8x20000x1 ![0, 1] bcast_S8x20000_S8x20000x1_0_1 : (⟨S8x20000, .f32⟩ : BufTy).Contents (Elt F) → (⟨S8x20000x1, .f32⟩ : BufTy).Contents (Elt F)),
    unary main_v192 main_v196 (broadcastInDim S8x20000x1 ![0, 1] bcast_S8x20000_S8x20000x1_0_1 : (⟨S8x20000, .f32⟩ : BufTy).Contents (Elt F) → (⟨S8x20000x1, .f32⟩ : BufTy).Contents (Elt F)),
    nary ![main_v193, main_v194, main_v195, main_v196] main_v197 (fun u => fn_main_v197 (F := F) (u 0) (u 1) (u 2) (u 3)) ]

/-- @main's 315 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., unary_bufs_sub .., unary_bufs_sub .., unary_bufs_sub .., unary_bufs_sub .., unary_bufs_sub .., binary_bufs_sub ..⟩
set_option maxRecDepth 8192 in
theorem ops_part0_0_fresh : (ops_part0_0 : List (HloOp τ sig (Elt F))).Forall fun op => op.fresh = ∅ :=
  by simp only [List.Forall]; and_intros <;> rfl
set_option maxRecDepth 8192 in
theorem ops_part0_1_sub : (ops_part0_1 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., nullary_bufs_sub .., unary_bufs_sub .., unary_bufs_sub .., binary_bufs_sub .., unary_bufs_sub .., reshape_bufs_sub .., unary_bufs_sub .., reshape_bufs_sub ..⟩
set_option maxRecDepth 8192 in
theorem ops_part0_1_fresh : (ops_part0_1 : List (HloOp τ sig (Elt F))).Forall fun op => op.fresh = ∅ :=
  by simp only [List.Forall]; and_intros <;> rfl
set_option maxRecDepth 8192 in
theorem ops_part0_2_sub : (ops_part0_2 : List (HloOp τ sig (Elt F))).Forall fun op => op.bufs ⊆ tcRefs τ sig :=
  ⟨binary_bufs_sub .., nullary_bufs_sub .., unary_bufs_sub .., unary_bufs_sub .., binary_bufs_sub .., binary_bufs_sub ..⟩
set_option maxRecDepth 8192 in
theorem ops_part0_2_fresh : (ops_part0_2 : List (HloOp τ sig (Elt F))).Forall fun op => op.fresh = ∅ :=
  by simp only [List.Forall]; and_intros <;> rfl
set_option maxRecDepth 8192 in
theorem ops_part1_0_sub : (ops_part1_0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., binary_bufs_sub .., unary_bufs_sub .., reshape_bufs_sub .., unary_bufs_sub .., reshape_bufs_sub .., binary_bufs_sub .., nullary_bufs_sub .., unary_bufs_sub .., unary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., unary_bufs_sub ..⟩
set_option maxRecDepth 8192 in
theorem ops_part1_0_fresh : (ops_part1_0 : List (HloOp τ sig (Elt F))).Forall fun op => op.fresh = ∅ :=
  by simp only [List.Forall]; and_intros <;> rfl
set_option maxRecDepth 8192 in
theorem ops_part1_1_sub : (ops_part1_1 : List (HloOp τ sig (Elt F))).Forall fun op => op.bufs ⊆ tcRefs τ sig :=
  ⟨nullary_bufs_sub .., unary_bufs_sub .., unary_bufs_sub .., unary_bufs_sub .., ternary_bufs_sub .., nullary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., nullary_bufs_sub .., unary_bufs_sub .., ternary_bufs_sub .., nullary_bufs_sub .., binary_bufs_sub .., unary_bufs_sub .., unary_bufs_sub .., binary_bufs_sub .., nullary_bufs_sub .., unary_bufs_sub .., binary_bufs_sub .., unary_bufs_sub .., binary_bufs_sub ..⟩
set_option maxRecDepth 8192 in
theorem ops_part1_1_fresh : (ops_part1_1 : List (HloOp τ sig (Elt F))).Forall fun op => op.fresh = ∅ :=
  by simp only [List.Forall]; and_intros <;> rfl
set_option maxRecDepth 8192 in
theorem ops_part1_2_sub : (ops_part1_2 : List (HloOp τ sig (Elt F))).Forall fun op => op.bufs ⊆ tcRefs τ sig :=
  ⟨nullary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., ternary_bufs_sub .., nullary_bufs_sub ..⟩
set_option maxRecDepth 8192 in
theorem ops_part1_2_fresh : (ops_part1_2 : List (HloOp τ sig (Elt F))).Forall fun op => op.fresh = ∅ :=
  by simp only [List.Forall]; and_intros <;> rfl
set_option maxRecDepth 8192 in
theorem ops_part2_0_sub : (ops_part2_0 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., ternary_bufs_sub .., unary_bufs_sub .., nullary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩
set_option maxRecDepth 8192 in
theorem ops_part2_0_fresh : (ops_part2_0 : List (HloOp τ sig (Elt F))).Forall fun op => op.fresh = ∅ :=
  by simp only [List.Forall]; and_intros <;> rfl
set_option maxRecDepth 8192 in
theorem ops_part2_1_sub : (ops_part2_1 : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub ..⟩
set_option maxRecDepth 8192 in
theorem ops_part2_1_fresh : (ops_part2_1 : List (HloOp τ sig (Elt F))).Forall fun op => op.fresh = ∅ :=
  by simp only [List.Forall]; and_intros <;> rfl
set_option maxRecDepth 8192 in
theorem ops_part2_2_sub : (ops_part2_2 : List (HloOp τ sig (Elt F))).Forall fun op => op.bufs ⊆ tcRefs τ sig :=
  ⟨nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub ..⟩
set_option maxRecDepth 8192 in
theorem ops_part2_2_fresh : (ops_part2_2 : List (HloOp τ sig (Elt F))).Forall fun op => op.fresh = ∅ :=
  by simp only [List.Forall]; and_intros <;> rfl
set_option maxRecDepth 8192 in
theorem ops_part2_3_sub : (ops_part2_3 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., ternary_bufs_sub .., unary_bufs_sub .., reshape_bufs_sub .., unary_bufs_sub .., reshape_bufs_sub .., binary_bufs_sub .., nullary_bufs_sub ..⟩
set_option maxRecDepth 8192 in
theorem ops_part2_3_fresh : (ops_part2_3 : List (HloOp τ sig (Elt F))).Forall fun op => op.fresh = ∅ :=
  by simp only [List.Forall]; and_intros <;> rfl
set_option maxRecDepth 8192 in
theorem ops_part3_sub : (ops_part3 : List (HloOp τ sig (Elt F))).Forall fun op => op.bufs ⊆ tcRefs τ sig :=
  ⟨unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., binary_bufs_sub .., binary_bufs_sub .., binary_bufs_sub .., binary_bufs_sub .., binary_bufs_sub .., unary_bufs_sub .., binary_bufs_sub .., unary_bufs_sub .., unary_bufs_sub .., unary_bufs_sub ..⟩
set_option maxRecDepth 8192 in
theorem ops_part3_fresh : (ops_part3 : List (HloOp τ sig (Elt F))).Forall fun op => op.fresh = ∅ :=
  by simp only [List.Forall]; and_intros <;> rfl
set_option maxRecDepth 8192 in
theorem ops_part4_sub : (ops_part4 : List (HloOp τ sig (Elt F))).Forall fun op => op.bufs ⊆ tcRefs τ sig :=
  ⟨unary_bufs_sub .., unary_bufs_sub .., nary_bufs_sub ..⟩
set_option maxRecDepth 8192 in
theorem ops_part4_fresh : (ops_part4 : List (HloOp τ sig (Elt F))).Forall fun op => op.fresh = ∅ :=
  by simp only [List.Forall]; and_intros <;> rfl
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part2_3_sub op h, List.forall_iff_forall_mem.mp ops_part3_sub op h, List.forall_iff_forall_mem.mp ops_part4_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part2_3_fresh op h, List.forall_iff_forall_mem.mp ops_part3_fresh op h, List.forall_iff_forall_mem.mp ops_part4_fresh op h]

end Cert.RefRun

end
-- ==== Proof.RefRun.lean ====
/- The reference program's run: every weakly fair execution terminates with each result buffer at the operations'
   composed pure term (`res_main_v127`, `res_main_v197`, `res_main_v125`, `res_main_v136`: boxes, loc, label,
   cls_label) of the arguments' launch contents, and the arguments unchanged. -/
module

public import proofs.«01_k».proof.Proof.RefOps
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v18`'s composed term of the arguments (named: it is used 2 times). -/
def res_main_v18 (V0 : Valuation τ sig (Elt F)) : (Proc.devRef .tc main_v18 : DevRef τ sig).ty.Contents (Elt F) :=
  andi (andi (andi (cmpf .oge (shapeCast _ (extractStridedSlice S8x20000x1 ![0, 0, 0] (V0 (Proc.devRef .tc main_arg0)) slices_S8x20000x4_S8x20000x1_0_0_0) shapeCasts_S8x20000x1_S8x20000) (broadcastInDim S8x20000 ![] bcast_S_S8x20000 (constant S_ .f32 0x00000000#32))) (cmpf .oge (shapeCast _ (extractStridedSlice S8x20000x1 ![0, 0, 1] (V0 (Proc.devRef .tc main_arg0)) slices_S8x20000x4_S8x20000x1_0_0_1) shapeCasts_S8x20000x1_S8x20000) (broadcastInDim S8x20000 ![] bcast_S_S8x20000 (constant S_ .f32 0x00000000#32)))) (cmpf .ole (shapeCast _ (extractStridedSlice S8x20000x1 ![0, 0, 2] (V0 (Proc.devRef .tc main_arg0)) slices_S8x20000x4_S8x20000x1_0_0_2) shapeCasts_S8x20000x1_S8x20000) (broadcastInDim S8x20000 ![] bcast_S_S8x20000 (constant S_ .f32 0x44000000#32)))) (cmpf .ole (shapeCast _ (extractStridedSlice S8x20000x1 ![0, 0, 3] (V0 (Proc.devRef .tc main_arg0)) slices_S8x20000x4_S8x20000x1_0_0_3) shapeCasts_S8x20000x1_S8x20000) (broadcastInDim S8x20000 ![] bcast_S_S8x20000 (constant S_ .f32 0x44000000#32)))

set_option maxRecDepth 8192 in
/-- `main_v34`'s composed term of the arguments (named: it is used 2 times). -/
def res_main_v34 (V0 : Valuation τ sig (Elt F)) : (Proc.devRef .tc main_v34 : DevRef τ sig).ty.Contents (Elt F) :=
  maximumf (broadcastInDim S8x20000x64x2 ![] bcast_S_S8x20000x64x2 (id (constant S_ .f32 0x00000000#32))) (subf (minimumf (broadcastInDim S8x20000x64x2 ![0, 1, 2, 3] bcast_S8x20000x1x2_S8x20000x64x2_0_1_2_3 (broadcastInDim S8x20000x1x2 ![0, 1, 3] bcast_S8x20000x2_S8x20000x1x2_0_1_3 (extractStridedSlice S8x20000x2 ![0, 0, 2] (V0 (Proc.devRef .tc main_arg0)) slices_S8x20000x4_S8x20000x2_0_0_2))) (broadcastInDim S8x20000x64x2 ![0, 1, 2, 3] bcast_S8x1x64x2_S8x20000x64x2_0_1_2_3 (broadcastInDim S8x1x64x2 ![0, 2, 3] bcast_S8x64x2_S8x1x64x2_0_2_3 (extractStridedSlice S8x64x2 ![0, 0, 2] (V0 (Proc.devRef .tc main_arg1)) slices_S8x64x4_S8x64x2_0_0_2)))) (maximumf (broadcastInDim S8x20000x64x2 ![0, 1, 2, 3] bcast_S8x20000x1x2_S8x20000x64x2_0_1_2_3 (broadcastInDim S8x20000x1x2 ![0, 1, 3] bcast_S8x20000x2_S8x20000x1x2_0_1_3 (extractStridedSlice S8x20000x2 ![0, 0, 0] (V0 (Proc.devRef .tc main_arg0)) slices_S8x20000x4_S8x20000x2_0_0_0))) (broadcastInDim S8x20000x64x2 ![0, 1, 2, 3] bcast_S8x1x64x2_S8x20000x64x2_0_1_2_3 (broadcastInDim S8x1x64x2 ![0, 2, 3] bcast_S8x64x2_S8x1x64x2_0_2_3 (extractStridedSlice S8x64x2 ![0, 0, 0] (V0 (Proc.devRef .tc main_arg1)) slices_S8x64x4_S8x64x2_0_0_0)))))

set_option maxRecDepth 8192 in
/-- `main_v39`'s composed term of the arguments (named: it is used 2 times). -/
def res_main_v39 (V0 : Valuation τ sig (Elt F)) : (Proc.devRef .tc main_v39 : DevRef τ sig).ty.Contents (Elt F) :=
  mulf (shapeCast _ (extractStridedSlice S8x20000x64x1 ![0, 0, 0, 0] (res_main_v34 V0) slices_S8x20000x64x2_S8x20000x64x1_0_0_0_0) shapeCasts_S8x20000x64x1_S8x20000x64) (shapeCast _ (extractStridedSlice S8x20000x64x1 ![0, 0, 0, 1] (res_main_v34 V0) slices_S8x20000x64x2_S8x20000x64x1_0_0_0_1) shapeCasts_S8x20000x64x1_S8x20000x64)

set_option maxRecDepth 8192 in
/-- `main_v76`'s composed term of the arguments (named: it is used 4 times). -/
def res_main_v76 (V0 : Valuation τ sig (Elt F)) : (Proc.devRef .tc main_v76 : DevRef τ sig).ty.Contents (Elt F) :=
  select (broadcastInDim S8x20000x64 ![0, 1, 2] bcast_S8x20000x1_S8x20000x64_0_1_2 (broadcastInDim S8x20000x1 ![0, 1] bcast_S8x20000_S8x20000x1_0_1 (res_main_v18 V0))) (Host.divf (res_main_v39 V0) (addf (subf (addf (broadcastInDim S8x20000x64 ![0, 1, 2] bcast_S8x20000x1_S8x20000x64_0_1_2 (broadcastInDim S8x20000x1 ![0, 1] bcast_S8x20000_S8x20000x1_0_1 (mulf (maximumf (broadcastInDim S8x20000 ![] bcast_S_S8x20000 (id (constant S_ .f32 0x00000000#32))) (subf (shapeCast _ (extractStridedSlice S8x20000x1 ![0, 0, 2] (V0 (Proc.devRef .tc main_arg0)) slices_S8x20000x4_S8x20000x1_0_0_2) shapeCasts_S8x20000x1_S8x20000) (shapeCast _ (extractStridedSlice S8x20000x1 ![0, 0, 0] (V0 (Proc.devRef .tc main_arg0)) slices_S8x20000x4_S8x20000x1_0_0_0) shapeCasts_S8x20000x1_S8x20000))) (maximumf (broadcastInDim S8x20000 ![] bcast_S_S8x20000 (id (constant S_ .f32 0x00000000#32))) (subf (shapeCast _ (extractStridedSlice S8x20000x1 ![0, 0, 3] (V0 (Proc.devRef .tc main_arg0)) slices_S8x20000x4_S8x20000x1_0_0_3) shapeCasts_S8x20000x1_S8x20000) (shapeCast _ (extractStridedSlice S8x20000x1 ![0, 0, 1] (V0 (Proc.devRef .tc main_arg0)) slices_S8x20000x4_S8x20000x1_0_0_1) shapeCasts_S8x20000x1_S8x20000)))))) (broadcastInDim S8x20000x64 ![0, 1, 2] bcast_S8x1x64_S8x20000x64_0_1_2 (broadcastInDim S8x1x64 ![0, 2] bcast_S8x64_S8x1x64_0_2 (mulf (maximumf (broadcastInDim S8x64 ![] bcast_S_S8x64 (id (constant S_ .f32 0x00000000#32))) (subf (shapeCast _ (extractStridedSlice S8x64x1 ![0, 0, 2] (V0 (Proc.devRef .tc main_arg1)) slices_S8x64x4_S8x64x1_0_0_2) shapeCasts_S8x64x1_S8x64) (shapeCast _ (extractStridedSlice S8x64x1 ![0, 0, 0] (V0 (Proc.devRef .tc main_arg1)) slices_S8x64x4_S8x64x1_0_0_0) shapeCasts_S8x64x1_S8x64))) (maximumf (broadcastInDim S8x64 ![] bcast_S_S8x64 (id (constant S_ .f32 0x00000000#32))) (subf (shapeCast _ (extractStridedSlice S8x64x1 ![0, 0, 3] (V0 (Proc.devRef .tc main_arg1)) slices_S8x64x4_S8x64x1_0_0_3) shapeCasts_S8x64x1_S8x64) (shapeCast _ (extractStridedSlice S8x64x1 ![0, 0, 1] (V0 (Proc.devRef .tc main_arg1)) slices_S8x64x4_S8x64x1_0_0_1) shapeCasts_S8x64x1_S8x64))))))) (res_main_v39 V0)) (broadcastInDim S8x20000x64 ![] bcast_S_S8x20000x64 (constant S_ .f32 0x322BCC77#32)))) (broadcastInDim S8x20000x64 ![] bcast_S_S8x20000x64 (id (constant S_ .f32 0x00000000#32)))

set_option maxRecDepth 8192 in
/-- `main_v77`'s composed term of the arguments (named: it is used 2 times). -/
def res_main_v77 (V0 : Valuation τ sig (Elt F)) : (Proc.devRef .tc main_v77 : DevRef τ sig).ty.Contents (Elt F) :=
  Host.reduce FloatOps.maximumf (res_main_v76 V0) (constant S_ .f32 0xFF800000#32) reducesTo_S8x20000x64_S8x20000_d2 h_S_

set_option maxRecDepth 8192 in
/-- `main_v78`'s composed term of the arguments (named: it is used 4 times). -/
def res_main_v78 (V0 : Valuation τ sig (Elt F)) : (Proc.devRef .tc main_v78 : DevRef τ sig).ty.Contents (Elt F) :=
  fun j => (Host.argReduce reducer_argmax_f32_i32 (res_main_v76 V0) (iotaInDim S8x20000x64 32 2) (constant S_ .f32 0xFF800000#32) (constantI S_ 32 0#32) reducesTo_S8x20000x64_S8x20000_d2 h_S_ j).2

set_option maxRecDepth 8192 in
/-- `main_v84`'s composed term of the arguments (named: it is used 2 times). -/
def res_main_v84 (V0 : Valuation τ sig (Elt F)) : (Proc.devRef .tc main_v84 : DevRef τ sig).ty.Contents (Elt F) :=
  broadcastInDim S8x1x64 ![0, 2] bcast_S8x64_S8x1x64_0_2 (Host.reduce FloatOps.maximumf (res_main_v76 V0) (constant S_ .f32 0xFF800000#32) reducesTo_S8x20000x64_S8x64_d1 h_S_)

set_option maxRecDepth 8192 in
/-- `main_v96`'s composed term of the arguments (named: it is used 2 times). -/
def res_main_v96 (V0 : Valuation τ sig (Elt F)) : (Proc.devRef .tc main_v96 : DevRef τ sig).ty.Contents (Elt F) :=
  select (res_main_v18 V0) (select (cmpf .oge (res_main_v77 V0) (broadcastInDim S8x20000 ![] bcast_S_S8x20000 (constant S_ .f32 0x3F333333#32))) (broadcastInDim S8x20000 ![] bcast_S_S8x20000 (constant S_ .f32 0x3F800000#32)) (select (Host.reduce IntOp.ori (andi (cmpf .oeq (res_main_v76 V0) (broadcastInDim S8x20000x64 ![0, 1, 2] bcast_S8x1x64_S8x20000x64_0_1_2 (res_main_v84 V0))) (broadcastInDim S8x20000x64 ![0, 1, 2] bcast_S8x1x64_S8x20000x64_0_1_2 (cmpf .ogt (res_main_v84 V0) (broadcastInDim S8x1x64 ![] bcast_S_S8x1x64 (constant S_ .f32 0x00000000#32))))) (constantI S_ 1 0#1) reducesTo_S8x20000x64_S8x20000_d2 h_S_) (broadcastInDim S8x20000 ![] bcast_S_S8x20000 (constant S_ .f32 0x3F800000#32)) (select (cmpf .olt (res_main_v77 V0) (broadcastInDim S8x20000 ![] bcast_S_S8x20000 (constant S_ .f32 0x3E99999A#32))) (broadcastInDim S8x20000 ![] bcast_S_S8x20000 (constant S_ .f32 0x00000000#32)) (broadcastInDim S8x20000 ![] bcast_S_S8x20000 (constant S_ .f32 0xBF800000#32))))) (broadcastInDim S8x20000 ![] bcast_S_S8x20000 (constant S_ .f32 0xBF800000#32))

set_option maxRecDepth 8192 in
/-- `main_v98`'s composed term of the arguments (named: it is used 3 times). -/
def res_main_v98 (V0 : Valuation τ sig (Elt F)) : (Proc.devRef .tc main_v98 : DevRef τ sig).ty.Contents (Elt F) :=
  cmpf .oeq (res_main_v96 V0) (broadcastInDim S8x20000 ![] bcast_S_S8x20000 (constant S_ .f32 0x3F800000#32))

set_option maxRecDepth 8192 in
/-- `main_v107`'s composed term of the arguments (named: it is used 2 times). -/
def res_main_v107 (V0 : Valuation τ sig (Elt F)) : (Proc.devRef .tc main_v107 : DevRef τ sig).ty.Contents (Elt F) :=
  select (andi (id (cmpi .ne (res_main_v98 V0) (broadcastInDim S8x20000 ![] bcast_S_S8x20000 (constantI S_ 1 0#1)))) (cmpi .sgt (Host.reduceWindow IntOp.addi ![1, 20000] ![1, 1] ![0, 19999] ![0, 0] (extui 32 (res_main_v98 V0) natLt_1_32) (broadcastInDim S_ ![] bcast_S_S_ (constantI S_ 32 0#32)) reduceWindows_S8x20000_S8x20000_w1s1p0_0_w20000s1p19999_0 h_S_) (broadcastInDim S8x20000 ![] bcast_S_S8x20000 (constantI S_ 32 128#32)))) (broadcastInDim S8x20000 ![] bcast_S_S8x20000 (constant S_ .f32 0xBF800000#32)) (res_main_v96 V0)

set_option maxRecDepth 8192 in
/-- `main_v113`'s composed term of the arguments (named: it is used 2 times). -/
def res_main_v113 (V0 : Valuation τ sig (Elt F)) : (Proc.devRef .tc main_v113 : DevRef τ sig).ty.Contents (Elt F) :=
  cmpf .oeq (res_main_v107 V0) (broadcastInDim S8x20000 ![] bcast_S_S8x20000 (constant S_ .f32 0x00000000#32))

set_option maxRecDepth 8192 in
/-- `main_v125`'s composed term of the arguments (named: it is used 2 times). -/
def res_main_v125 (V0 : Valuation τ sig (Elt F)) : (Proc.devRef .tc main_v125 : DevRef τ sig).ty.Contents (Elt F) :=
  select (andi (id (cmpi .ne (res_main_v113 V0) (broadcastInDim S8x20000 ![] bcast_S_S8x20000 (constantI S_ 1 0#1)))) (cmpi .sgt (Host.reduceWindow IntOp.addi ![1, 20000] ![1, 1] ![0, 19999] ![0, 0] (extui 32 (res_main_v113 V0) natLt_1_32) (broadcastInDim S_ ![] bcast_S_S_ (constantI S_ 32 0#32)) reduceWindows_S8x20000_S8x20000_w1s1p0_0_w20000s1p19999_0 h_S_) (broadcastInDim S8x20000 ![0, 1] bcast_S8x1_S8x20000_0_1 (broadcastInDim S8x1 ![0] bcast_S8_S8x1_0 (subi (broadcastInDim S8 ![] bcast_S_S8 (constantI S_ 32 256#32)) (minsi (Host.reduce IntOp.addi (extui 32 (res_main_v98 V0) natLt_1_32) (constantI S_ 32 0#32) reducesTo_S8x20000_S8_d1 h_S_) (broadcastInDim S8 ![] bcast_S_S8 (constantI S_ 32 128#32)))))))) (broadcastInDim S8x20000 ![] bcast_S_S8x20000 (constant S_ .f32 0xBF800000#32)) (res_main_v107 V0)

set_option maxRecDepth 8192 in
/-- `main_v126`'s composed term of the arguments (named: it is used 3 times). -/
def res_main_v126 (V0 : Valuation τ sig (Elt F)) : (Proc.devRef .tc main_v126 : DevRef τ sig).ty.Contents (Elt F) :=
  broadcastInDim S8x20000x1 ![0, 1] bcast_S8x20000_S8x20000x1_0_1 (res_main_v78 V0)

set_option maxRecDepth 8192 in
/-- `main_call15_v4`'s composed term of the arguments (named: it is used 3 times). -/
def res_main_call15_v4 (V0 : Valuation τ sig (Elt F)) : (Proc.devRef .tc main_call15_v4 : DevRef τ sig).ty.Contents (Elt F) :=
  select (cmpi .slt (res_main_v126 V0) (broadcastInDim S8x20000x1 ![] bcast_S_S8x20000x1 (constantI S_ 32 0#32))) (addi (res_main_v126 V0) (broadcastInDim S8x20000x1 ![] bcast_S_S8x20000x1 (constantI S_ 32 64#32))) (res_main_v126 V0)

set_option maxRecDepth 8192 in
/-- `main_v127`'s composed term of the arguments (named: it is used 6 times). -/
def res_main_v127 (V0 : Valuation τ sig (Elt F)) : (Proc.devRef .tc main_v127 : DevRef τ sig).ty.Contents (Elt F) :=
  select (broadcastInDim S8x20000x4 ![0, 1] bcast_S8x20000_S8x20000x4_0_1 (Host.reduce IntOp.andi (andi (cmpi .sge (res_main_call15_v4 V0) (broadcastInDim S8x20000x1 ![] bcast_S_S8x20000x1 (constantI S_ 32 0#32))) (cmpi .sle (res_main_call15_v4 V0) (broadcastInDim S8x20000x1 ![0, 1, 2] bcast_S1x1x1_S8x20000x1_0_1_2 (broadcastInDim S1x1x1 ![2] bcast_S1_S1x1x1_2 (constantI S1 32 63#32))))) (constantI S_ 1 1#1) reducesTo_S8x20000x1_S8x20000_d2 h_S_)) (Host.gather gather_S8x64x4_S8x20000x1_S8x20000x4_2_1_0_0_1_2_114 (V0 (Proc.devRef .tc main_arg1)) (res_main_call15_v4 V0)) (broadcastInDim S8x20000x4 ![] bcast_S_S8x20000x4 (constant S_ .f32 0x7FC00000#32))

set_option maxRecDepth 8192 in
/-- `main_call16_v5`'s composed term of the arguments (named: it is used 3 times). -/
def res_main_call16_v5 (V0 : Valuation τ sig (Elt F)) : (Proc.devRef .tc main_call16_v5 : DevRef τ sig).ty.Contents (Elt F) :=
  shapeCast _ (select (cmpi .slt (res_main_v78 V0) (broadcastInDim S8x20000 ![] bcast_S_S8x20000 (constantI S_ 32 0#32))) (addi (res_main_v78 V0) (broadcastInDim S8x20000 ![] bcast_S_S8x20000 (constantI S_ 32 64#32))) (res_main_v78 V0)) shapeCasts_S8x20000_S8x20000x1

set_option maxRecDepth 8192 in
/-- `main_v143`'s composed term of the arguments (named: it is used 3 times). -/
def res_main_v143 (V0 : Valuation τ sig (Elt F)) : (Proc.devRef .tc main_v143 : DevRef τ sig).ty.Contents (Elt F) :=
  maximumf (subf (shapeCast _ (extractStridedSlice S8x20000x1 ![0, 0, 2] (V0 (Proc.devRef .tc main_arg0)) slices_S8x20000x4_S8x20000x1_0_0_2) shapeCasts_S8x20000x1_S8x20000) (shapeCast _ (extractStridedSlice S8x20000x1 ![0, 0, 0] (V0 (Proc.devRef .tc main_arg0)) slices_S8x20000x4_S8x20000x1_0_0_0) shapeCasts_S8x20000x1_S8x20000)) (broadcastInDim S8x20000 ![] bcast_S_S8x20000 (constant S_ .f32 0x358637BD#32))

set_option maxRecDepth 8192 in
/-- `main_v150`'s composed term of the arguments (named: it is used 3 times). -/
def res_main_v150 (V0 : Valuation τ sig (Elt F)) : (Proc.devRef .tc main_v150 : DevRef τ sig).ty.Contents (Elt F) :=
  maximumf (subf (shapeCast _ (extractStridedSlice S8x20000x1 ![0, 0, 3] (V0 (Proc.devRef .tc main_arg0)) slices_S8x20000x4_S8x20000x1_0_0_3) shapeCasts_S8x20000x1_S8x20000) (shapeCast _ (extractStridedSlice S8x20000x1 ![0, 0, 1] (V0 (Proc.devRef .tc main_arg0)) slices_S8x20000x4_S8x20000x1_0_0_1) shapeCasts_S8x20000x1_S8x20000)) (broadcastInDim S8x20000 ![] bcast_S_S8x20000 (constant S_ .f32 0x358637BD#32))

set_option maxRecDepth 8192 in
/-- `main_v167`'s composed term of the arguments (named: it is used 2 times). -/
def res_main_v167 (V0 : Valuation τ sig (Elt F)) : (Proc.devRef .tc main_v167 : DevRef τ sig).ty.Contents (Elt F) :=
  maximumf (subf (shapeCast _ (extractStridedSlice S8x20000x1 ![0, 0, 2] (res_main_v127 V0) slices_S8x20000x4_S8x20000x1_0_0_2) shapeCasts_S8x20000x1_S8x20000) (shapeCast _ (extractStridedSlice S8x20000x1 ![0, 0, 0] (res_main_v127 V0) slices_S8x20000x4_S8x20000x1_0_0_0) shapeCasts_S8x20000x1_S8x20000)) (broadcastInDim S8x20000 ![] bcast_S_S8x20000 (constant S_ .f32 0x358637BD#32))

set_option maxRecDepth 8192 in
/-- `main_v174`'s composed term of the arguments (named: it is used 2 times). -/
def res_main_v174 (V0 : Valuation τ sig (Elt F)) : (Proc.devRef .tc main_v174 : DevRef τ sig).ty.Contents (Elt F) :=
  maximumf (subf (shapeCast _ (extractStridedSlice S8x20000x1 ![0, 0, 3] (res_main_v127 V0) slices_S8x20000x4_S8x20000x1_0_0_3) shapeCasts_S8x20000x1_S8x20000) (shapeCast _ (extractStridedSlice S8x20000x1 ![0, 0, 1] (res_main_v127 V0) slices_S8x20000x4_S8x20000x1_0_0_1) shapeCasts_S8x20000x1_S8x20000)) (broadcastInDim S8x20000 ![] bcast_S_S8x20000 (constant S_ .f32 0x358637BD#32))

set_option maxRecDepth 8192 in
/-- `main_v197`'s composed term of the arguments. -/
def res_main_v197 (V0 : Valuation τ sig (Elt F)) : (Proc.devRef .tc main_v197 : DevRef τ sig).ty.Contents (Elt F) :=
  (concatenate S8x20000x4 2 [⟨S8x20000x1, ((broadcastInDim S8x20000x1 ![0, 1] bcast_S8x20000_S8x20000x1_0_1 (Host.divf (subf (addf (shapeCast _ (extractStridedSlice S8x20000x1 ![0, 0, 0] (res_main_v127 V0) slices_S8x20000x4_S8x20000x1_0_0_0) shapeCasts_S8x20000x1_S8x20000) (mulf (broadcastInDim S8x20000 ![] bcast_S_S8x20000 (constant S_ .f32 0x3F000000#32)) (res_main_v167 V0))) (addf (shapeCast _ (extractStridedSlice S8x20000x1 ![0, 0, 0] (V0 (Proc.devRef .tc main_arg0)) slices_S8x20000x4_S8x20000x1_0_0_0) shapeCasts_S8x20000x1_S8x20000) (mulf (broadcastInDim S8x20000 ![] bcast_S_S8x20000 (constant S_ .f32 0x3F000000#32)) (res_main_v143 V0)))) (res_main_v143 V0))) : (⟨S8x20000x1, .f32⟩ : BufTy).Contents (Elt F))⟩, ⟨S8x20000x1, ((broadcastInDim S8x20000x1 ![0, 1] bcast_S8x20000_S8x20000x1_0_1 (Host.divf (subf (addf (shapeCast _ (extractStridedSlice S8x20000x1 ![0, 0, 1] (res_main_v127 V0) slices_S8x20000x4_S8x20000x1_0_0_1) shapeCasts_S8x20000x1_S8x20000) (mulf (broadcastInDim S8x20000 ![] bcast_S_S8x20000 (constant S_ .f32 0x3F000000#32)) (res_main_v174 V0))) (addf (shapeCast _ (extractStridedSlice S8x20000x1 ![0, 0, 1] (V0 (Proc.devRef .tc main_arg0)) slices_S8x20000x4_S8x20000x1_0_0_1) shapeCasts_S8x20000x1_S8x20000) (mulf (broadcastInDim S8x20000 ![] bcast_S_S8x20000 (constant S_ .f32 0x3F000000#32)) (res_main_v150 V0)))) (res_main_v150 V0))) : (⟨S8x20000x1, .f32⟩ : BufTy).Contents (Elt F))⟩, ⟨S8x20000x1, ((broadcastInDim S8x20000x1 ![0, 1] bcast_S8x20000_S8x20000x1_0_1 (Host.log (Host.divf (res_main_v167 V0) (res_main_v143 V0)))) : (⟨S8x20000x1, .f32⟩ : BufTy).Contents (Elt F))⟩, ⟨S8x20000x1, ((broadcastInDim S8x20000x1 ![0, 1] bcast_S8x20000_S8x20000x1_0_1 (Host.log (Host.divf (res_main_v174 V0) (res_main_v150 V0)))) : (⟨S8x20000x1, .f32⟩ : BufTy).Contents (Elt F))⟩] concatenates_S8x20000x1_S8x20000x1_S8x20000x1_S8x20000x1_S8x20000x4_d2 : (⟨S8x20000x4, .f32⟩ : BufTy).Contents (Elt F))

set_option maxRecDepth 8192 in
/-- `main_v136`'s composed term of the arguments. -/
def res_main_v136 (V0 : Valuation τ sig (Elt F)) : (Proc.devRef .tc main_v136 : DevRef τ sig).ty.Contents (Elt F) :=
  select (cmpf .oeq (res_main_v125 V0) (broadcastInDim S8x20000 ![] bcast_S_S8x20000 (constant S_ .f32 0x3F800000#32))) (addi (select (Host.reduce IntOp.andi (andi (cmpi .sge (res_main_call16_v5 V0) (broadcastInDim S8x20000x1 ![] bcast_S_S8x20000x1 (constantI S_ 32 0#32))) (cmpi .sle (res_main_call16_v5 V0) (broadcastInDim S8x20000x1 ![0, 1, 2] bcast_S1x1x1_S8x20000x1_0_1_2 (broadcastInDim S1x1x1 ![2] bcast_S1_S1x1x1_2 (constantI S1 32 63#32))))) (constantI S_ 1 1#1) reducesTo_S8x20000x1_S8x20000_d2 h_S_) (Host.gather gather_S8x64_S8x20000x1_S8x20000_n_1_0_0_1_2_11 (V0 (Proc.devRef .tc main_arg2)) (res_main_call16_v5 V0)) (broadcastInDim S8x20000 ![] bcast_S_S8x20000 (constantI S_ 32 2147483648#32))) (broadcastInDim S8x20000 ![] bcast_S_S8x20000 (constantI S_ 32 1#32))) (id (select (cmpf .oeq (res_main_v125 V0) (broadcastInDim S8x20000 ![] bcast_S_S8x20000 (constant S_ .f32 0x00000000#32))) (broadcastInDim S8x20000 ![] bcast_S_S8x20000 (constantI S_ 32 0#32)) (broadcastInDim S8x20000 ![] bcast_S_S8x20000 (constantI S_ 32 4294967295#32))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_cst, main_v2, main_v3, main_v4, main_v5, main_cst_0, main_v6, main_v7, main_v8, main_v9, main_v10, main_cst_1, main_v11, main_v12, main_v13, main_v14, main_v15, main_cst_2, main_v16, main_v17, main_v18, main_v19, main_v20, main_v21, main_v22, main_v23, main_v24, main_v25]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0]
  after_results_simp
  simp only [val0_main_arg0] <;> rfl
set_option maxRecDepth 8192 in
set_option maxHeartbeats 2000000 in
theorem val0_1_main_v25 (V0 : Valuation τ sig (Elt F)) : val0_1 V0 (no_index (Proc.devRef .tc main_v25)) = maximumf (broadcastInDim S8x20000x64x2 ![0, 1, 2, 3] bcast_S8x20000x1x2_S8x20000x64x2_0_1_2_3 (broadcastInDim S8x20000x1x2 ![0, 1, 3] bcast_S8x20000x2_S8x20000x1x2_0_1_3 (extractStridedSlice S8x20000x2 ![0, 0, 0] (V0 (Proc.devRef .tc main_arg0)) slices_S8x20000x4_S8x20000x2_0_0_0))) (broadcastInDim S8x20000x64x2 ![0, 1, 2, 3] bcast_S8x1x64x2_S8x20000x64x2_0_1_2_3 (broadcastInDim S8x1x64x2 ![0, 2, 3] bcast_S8x64x2_S8x1x64x2_0_2_3 (extractStridedSlice S8x64x2 ![0, 0, 0] (V0 (Proc.devRef .tc main_arg1)) slices_S8x64x4_S8x64x2_0_0_0))) := by
  unfold val0_1
  simp only [ops_part0_0]
  after_results_simp
  simp only [val0_main_arg1, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v26, main_v27, main_v28, main_v29, main_v30, main_v31, main_v32, main_v33, main_cst_3, main_call0_v0, main_call0_v1, main_v34, main_v35, main_v36, main_v37, main_v38, main_v39, main_v40, main_v41, main_v42, main_v43, main_v44, main_cst_4, main_call1_v0, main_call1_v1, main_v45, main_v46, main_v47, main_v48, main_v49]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
theorem val0_2_main_v39 (V0 : Valuation τ sig (Elt F)) : val0_2 V0 (no_index (Proc.devRef .tc main_v39)) = res_main_v39 V0 := by
  unfold val0_2
  simp only [ops_part0_1, TRef.binary, TRef.unary, TRef.toBuf, TRef.ofBuf, cast_eq]
  after_results_simp
  simp only [val0_1_main_v25, val0_1_main_arg1, val0_1_main_arg0] <;> rfl
set_option maxRecDepth 8192 in
set_option maxHeartbeats 2000000 in
theorem val0_2_main_v45 (V0 : Valuation τ sig (Elt F)) : val0_2 V0 (no_index (Proc.devRef .tc main_v45)) = maximumf (broadcastInDim S8x20000 ![] bcast_S_S8x20000 (id (constant S_ .f32 0x00000000#32))) (subf (shapeCast _ (extractStridedSlice S8x20000x1 ![0, 0, 2] (V0 (Proc.devRef .tc main_arg0)) slices_S8x20000x4_S8x20000x1_0_0_2) shapeCasts_S8x20000x1_S8x20000) (shapeCast _ (extractStridedSlice S8x20000x1 ![0, 0, 0] (V0 (Proc.devRef .tc main_arg0)) slices_S8x20000x4_S8x20000x1_0_0_0) shapeCasts_S8x20000x1_S8x20000)) := by
  unfold val0_2
  simp only [ops_part0_1, TRef.binary, TRef.unary, TRef.toBuf, TRef.ofBuf, cast_eq]
  after_results_simp
  simp only [val0_1_main_arg0] <;> rfl
set_option maxRecDepth 8192 in
set_option maxHeartbeats 2000000 in
theorem val0_2_main_v47 (V0 : Valuation τ sig (Elt F)) : val0_2 V0 (no_index (Proc.devRef .tc main_v47)) = shapeCast _ (extractStridedSlice S8x20000x1 ![0, 0, 3] (V0 (Proc.devRef .tc main_arg0)) slices_S8x20000x4_S8x20000x1_0_0_3) shapeCasts_S8x20000x1_S8x20000 := by
  unfold val0_2
  simp only [ops_part0_1, TRef.binary, TRef.unary, TRef.toBuf, TRef.ofBuf, cast_eq]
  after_results_simp
  simp only [val0_1_main_arg0] <;> rfl
set_option maxRecDepth 8192 in
set_option maxHeartbeats 2000000 in
theorem val0_2_main_v49 (V0 : Valuation τ sig (Elt F)) : val0_2 V0 (no_index (Proc.devRef .tc main_v49)) = shapeCast _ (extractStridedSlice S8x20000x1 ![0, 0, 1] (V0 (Proc.devRef .tc main_arg0)) slices_S8x20000x4_S8x20000x1_0_0_1) shapeCasts_S8x20000x1_S8x20000 := by
  unfold val0_2
  simp only [ops_part0_1, TRef.binary, TRef.unary, TRef.toBuf, TRef.ofBuf, cast_eq]
  after_results_simp
  simp only [val0_1_main_arg0] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v50, main_cst_5, main_call2_v0, main_call2_v1, main_v51, main_v52]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v18 (V0 : Valuation τ sig (Elt F)) : val1 V0 (no_index (Proc.devRef .tc main_v18)) = res_main_v18 V0 :=
  (val1_keep V0 main_v18 (by decide)).trans (val0_2_main_v18 V0)
theorem val1_main_v39 (V0 : Valuation τ sig (Elt F)) : val1 V0 (no_index (Proc.devRef .tc main_v39)) = res_main_v39 V0 :=
  (val1_keep V0 main_v39 (by decide)).trans (val0_2_main_v39 V0)
set_option maxRecDepth 8192 in
theorem val1_main_v52 (V0 : Valuation τ sig (Elt F)) : val1 V0 (no_index (Proc.devRef .tc main_v52)) = mulf (maximumf (broadcastInDim S8x20000 ![] bcast_S_S8x20000 (id (constant S_ .f32 0x00000000#32))) (subf (shapeCast _ (extractStridedSlice S8x20000x1 ![0, 0, 2] (V0 (Proc.devRef .tc main_arg0)) slices_S8x20000x4_S8x20000x1_0_0_2) shapeCasts_S8x20000x1_S8x20000) (shapeCast _ (extractStridedSlice S8x20000x1 ![0, 0, 0] (V0 (Proc.devRef .tc main_arg0)) slices_S8x20000x4_S8x20000x1_0_0_0) shapeCasts_S8x20000x1_S8x20000))) (maximumf (broadcastInDim S8x20000 ![] bcast_S_S8x20000 (id (constant S_ .f32 0x00000000#32))) (subf (shapeCast _ (extractStridedSlice S8x20000x1 ![0, 0, 3] (V0 (Proc.devRef .tc main_arg0)) slices_S8x20000x4_S8x20000x1_0_0_3) shapeCasts_S8x20000x1_S8x20000) (shapeCast _ (extractStridedSlice S8x20000x1 ![0, 0, 1] (V0 (Proc.devRef .tc main_arg0)) slices_S8x20000x4_S8x20000x1_0_0_1) shapeCasts_S8x20000x1_S8x20000))) := by
  unfold val1
  simp only [ops_part0_2, TRef.binary, TRef.unary, TRef.toBuf, TRef.ofBuf, cast_eq]
  after_results_simp
  simp only [val0_2_main_v49, val0_2_main_v47, val0_2_main_v45] <;> rfl

/-- The device's buffer contents after @main's first 96 operations. -/
def val1_1 (V0 : Valuation τ sig (Elt F)) : Valuation τ sig (Elt F) := after ops_part1_0 (val1 V0)
/-- The buffers that window `ops_part1_0`'s operations write. -/
abbrev ops_part1_0_W : List (Ref sig .tc) := [main_v53, main_v54, main_v55, main_v56, main_v57, main_cst_6, main_call3_v0, main_call3_v1, main_v58, main_v59, main_v60, main_v61, main_v62, main_v63, main_cst_7, main_call4_v0, main_call4_v1, main_v64, main_v65, main_v66, main_v67, main_v68, main_v69, main_v70, main_v71, main_cst_8, main_v72, main_v73, main_v74, main_v75]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v18 (V0 : Valuation τ sig (Elt F)) : val1_1 V0 (no_index (Proc.devRef .tc main_v18)) = res_main_v18 V0 :=
  (val1_1_keep V0 main_v18 (by decide)).trans (val1_main_v18 V0)
set_option maxRecDepth 8192 in
set_option maxHeartbeats 2000000 in
theorem val1_1_main_v74 (V0 : Valuation τ sig (Elt F)) : val1_1 V0 (no_index (Proc.devRef .tc main_v74)) = Host.divf (res_main_v39 V0) (addf (subf (addf (broadcastInDim S8x20000x64 ![0, 1, 2] bcast_S8x20000x1_S8x20000x64_0_1_2 (broadcastInDim S8x20000x1 ![0, 1] bcast_S8x20000_S8x20000x1_0_1 (mulf (maximumf (broadcastInDim S8x20000 ![] bcast_S_S8x20000 (id (constant S_ .f32 0x00000000#32))) (subf (shapeCast _ (extractStridedSlice S8x20000x1 ![0, 0, 2] (V0 (Proc.devRef .tc main_arg0)) slices_S8x20000x4_S8x20000x1_0_0_2) shapeCasts_S8x20000x1_S8x20000) (shapeCast _ (extractStridedSlice S8x20000x1 ![0, 0, 0] (V0 (Proc.devRef .tc main_arg0)) slices_S8x20000x4_S8x20000x1_0_0_0) shapeCasts_S8x20000x1_S8x20000))) (maximumf (broadcastInDim S8x20000 ![] bcast_S_S8x20000 (id (constant S_ .f32 0x00000000#32))) (subf (shapeCast _ (extractStridedSlice S8x20000x1 ![0, 0, 3] (V0 (Proc.devRef .tc main_arg0)) slices_S8x20000x4_S8x20000x1_0_0_3) shapeCasts_S8x20000x1_S8x20000) (shapeCast _ (extractStridedSlice S8x20000x1 ![0, 0, 1] (V0 (Proc.devRef .tc main_arg0)) slices_S8x20000x4_S8x20000x1_0_0_1) shapeCasts_S8x20000x1_S8x20000)))))) (broadcastInDim S8x20000x64 ![0, 1, 2] bcast_S8x1x64_S8x20000x64_0_1_2 (broadcastInDim S8x1x64 ![0, 2] bcast_S8x64_S8x1x64_0_2 (mulf (maximumf (broadcastInDim S8x64 ![] bcast_S_S8x64 (id (constant S_ .f32 0x00000000#32))) (subf (shapeCast _ (extractStridedSlice S8x64x1 ![0, 0, 2] (V0 (Proc.devRef .tc main_arg1)) slices_S8x64x4_S8x64x1_0_0_2) shapeCasts_S8x64x1_S8x64) (shapeCast _ (extractStridedSlice S8x64x1 ![0, 0, 0] (V0 (Proc.devRef .tc main_arg1)) slices_S8x64x4_S8x64x1_0_0_0) shapeCasts_S8x64x1_S8x64))) (maximumf (broadcastInDim S8x64 ![] bcast_S_S8x64 (id (constant S_ .f32 0x00000000#32))) (subf (shapeCast _ (extractStridedSlice S8x64x1 ![0, 0, 3] (V0 (Proc.devRef .tc main_arg1)) slices_S8x64x4_S8x64x1_0_0_3) shapeCasts_S8x64x1_S8x64) (shapeCast _ (extractStridedSlice S8x64x1 ![0, 0, 1] (V0 (Proc.devRef .tc main_arg1)) slices_S8x64x4_S8x64x1_0_0_1) shapeCasts_S8x64x1_S8x64))))))) (res_main_v39 V0)) (broadcastInDim S8x20000x64 ![] bcast_S_S8x20000x64 (constant S_ .f32 0x322BCC77#32))) := by
  unfold val1_1
  simp only [ops_part1_0, TRef.binary, TRef.unary, TRef.toBuf, TRef.ofBuf, cast_eq]
  after_results_simp
  simp only [val1_main_arg1, val1_main_v52, val1_main_v39] <;> rfl
set_option maxRecDepth 8192 in
set_option maxHeartbeats 2000000 in
theorem val1_1_main_v75 (V0 : Valuation τ sig (Elt F)) : val1_1 V0 (no_index (Proc.devRef .tc main_v75)) = broadcastInDim S8x20000x1 ![0, 1] bcast_S8x20000_S8x20000x1_0_1 (res_main_v18 V0) := by
  unfold val1_1
  simp only [ops_part1_0, TRef.binary, TRef.unary, TRef.toBuf, TRef.ofBuf, cast_eq]
  after_results_simp
  simp only [val1_main_v18] <;> rfl

/-- The device's buffer contents after @main's first 126 operations. -/
def val1_2 (V0 : Valuation τ sig (Elt F)) : Valuation τ sig (Elt F) := after ops_part1_1 (val1_1 V0)
/-- The buffers that window `ops_part1_1`'s operations write. -/
abbrev ops_part1_1_W : List (Ref sig .tc) := [main_cst_9, main_call5_v0, main_call5_v1, main_call5_v2, main_v76, main_cst_10, main_v77, main_call6_v0, main_call6_cst, main_call6_c, main_call6_v1_0, main_v78, main_cst_11, main_v79, main_cst_12, main_v80, main_v81, main_cst_13, main_call7_v0, main_v82, main_cst_14, main_v83, main_v84, main_v85, main_v86, main_cst_15, main_v87, main_v88, main_v89, main_v90]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v18 (V0 : Valuation τ sig (Elt F)) : val1_2 V0 (no_index (Proc.devRef .tc main_v18)) = res_main_v18 V0 :=
  (val1_2_keep V0 main_v18 (by decide)).trans (val1_1_main_v18 V0)
set_option maxRecDepth 8192 in
set_option maxHeartbeats 2000000 in
theorem val1_2_main_v77 (V0 : Valuation τ sig (Elt F)) : val1_2 V0 (no_index (Proc.devRef .tc main_v77)) = res_main_v77 V0 := by
  unfold val1_2
  simp only [ops_part1_1, TRef.binary, TRef.nullary, TRef.ternary, TRef.unary, TRef.toBuf, TRef.ofBuf, cast_eq]
  after_results_simp
  simp only [val1_1_main_v74, val1_1_main_v75] <;> rfl
set_option maxRecDepth 8192 in
set_option maxHeartbeats 2000000 in
theorem val1_2_main_v78 (V0 : Valuation τ sig (Elt F)) : val1_2 V0 (no_index (Proc.devRef .tc main_v78)) = res_main_v78 V0 := by
  unfold val1_2
  simp only [ops_part1_1, TRef.binary, TRef.nullary, TRef.ternary, TRef.unary, TRef.toBuf, TRef.ofBuf, cast_eq]
  after_results_simp
  simp only [val1_1_main_v74, val1_1_main_v75] <;> rfl
set_option maxRecDepth 8192 in
set_option maxHeartbeats 2000000 in
theorem val1_2_main_v82 (V0 : Valuation τ sig (Elt F)) : val1_2 V0 (no_index (Proc.devRef .tc main_v82)) = select (cmpf .olt (res_main_v77 V0) (broadcastInDim S8x20000 ![] bcast_S_S8x20000 (constant S_ .f32 0x3E99999A#32))) (broadcastInDim S8x20000 ![] bcast_S_S8x20000 (constant S_ .f32 0x00000000#32)) (broadcastInDim S8x20000 ![] bcast_S_S8x20000 (constant S_ .f32 0xBF800000#32)) := by
  unfold val1_2
  simp only [ops_part1_1, TRef.binary, TRef.nullary, TRef.ternary, TRef.unary, TRef.toBuf, TRef.ofBuf, cast_eq]
  after_results_simp
  simp only [val1_1_main_v74, val1_1_main_v75] <;> rfl
set_option maxRecDepth 8192 in
set_option maxHeartbeats 2000000 in
theorem val1_2_main_v90 (V0 : Valuation τ sig (Elt F)) : val1_2 V0 (no_index (Proc.devRef .tc main_v90)) = andi (cmpf .oeq (res_main_v76 V0) (broadcastInDim S8x20000x64 ![0, 1, 2] bcast_S8x1x64_S8x20000x64_0_1_2 (res_main_v84 V0))) (broadcastInDim S8x20000x64 ![0, 1, 2] bcast_S8x1x64_S8x20000x64_0_1_2 (cmpf .ogt (res_main_v84 V0) (broadcastInDim S8x1x64 ![] bcast_S_S8x1x64 (constant S_ .f32 0x00000000#32)))) := by
  unfold val1_2
  simp only [ops_part1_1, TRef.binary, TRef.nullary, TRef.ternary, TRef.unary, TRef.toBuf, TRef.ofBuf, cast_eq]
  after_results_simp
  simp only [val1_1_main_v74, val1_1_main_v75] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_c, main_v91, main_cst_16, main_call8_v0, main_v92, main_cst_17, main_v93, main_v94, main_cst_18, main_call9_v0, main_v95, main_cst_19, main_call10_v0, main_v96, main_cst_20]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v78 (V0 : Valuation τ sig (Elt F)) : val2 V0 (no_index (Proc.devRef .tc main_v78)) = res_main_v78 V0 :=
  (val2_keep V0 main_v78 (by decide)).trans (val1_2_main_v78 V0)
set_option maxRecDepth 8192 in
set_option maxHeartbeats 1500000 in
theorem val2_main_v96 (V0 : Valuation τ sig (Elt F)) : val2 V0 (no_index (Proc.devRef .tc main_v96)) = res_main_v96 V0 := by
  unfold val2
  simp only [ops_part1_2, TRef.ternary, TRef.unary, TRef.toBuf, TRef.ofBuf, cast_eq]
  after_results_simp
  simp only [val1_2_main_v82, val1_2_main_v90, val1_2_main_v77, val1_2_main_v18] <;> rfl
set_option maxRecDepth 8192 in
set_option maxHeartbeats 1500000 in
theorem val2_main_cst_20 (V0 : Valuation τ sig (Elt F)) : val2 V0 (no_index (Proc.devRef .tc main_cst_20)) = constant S_ .f32 0x3F800000#32 := by
  unfold val2
  simp only [ops_part1_2, TRef.ternary, TRef.unary, TRef.toBuf, TRef.ofBuf, cast_eq]
  after_results_simp
  all_goals rfl

/-- The device's buffer contents after @main's first 171 operations. -/
def val2_1 (V0 : Valuation τ sig (Elt F)) : Valuation τ sig (Elt F) := after ops_part2_0 (val2 V0)
/-- The buffers that window `ops_part2_0`'s operations write. -/
abbrev ops_part2_0_W : List (Ref sig .tc) := [main_v97, main_v98, main_v99, main_call11_call0_c, main_call11_call0_v0, main_v100, main_c_21, main_v101, main_v102, main_c_22, main_v103, main_v104, main_v105, main_v106, main_cst_23, main_call12_v0, main_v107, main_v108, main_c_24, main_v109, main_c_25, main_v110, main_v111, main_cst_26, main_v112, main_v113, main_v114, main_call13_call0_c, main_call13_call0_v0, main_v115]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_v78 (V0 : Valuation τ sig (Elt F)) : val2_1 V0 (no_index (Proc.devRef .tc main_v78)) = res_main_v78 V0 :=
  (val2_1_keep V0 main_v78 (by decide)).trans (val2_main_v78 V0)
set_option maxRecDepth 8192 in
set_option maxHeartbeats 2000000 in
theorem val2_1_main_v107 (V0 : Valuation τ sig (Elt F)) : val2_1 V0 (no_index (Proc.devRef .tc main_v107)) = res_main_v107 V0 := by
  unfold val2_1
  simp only [ops_part2_0, TRef.binary, TRef.nullary, TRef.ternary, TRef.unary, TRef.toBuf, TRef.ofBuf, cast_eq]
  after_results_simp
  simp only [val2_main_v96, val2_main_cst_20] <;> rfl
set_option maxRecDepth 8192 in
set_option maxHeartbeats 2000000 in
theorem val2_1_main_v111 (V0 : Valuation τ sig (Elt F)) : val2_1 V0 (no_index (Proc.devRef .tc main_v111)) = minsi (Host.reduce IntOp.addi (extui 32 (res_main_v98 V0) natLt_1_32) (constantI S_ 32 0#32) reducesTo_S8x20000_S8_d1 h_S_) (broadcastInDim S8 ![] bcast_S_S8 (constantI S_ 32 128#32)) := by
  unfold val2_1
  simp only [ops_part2_0, TRef.binary, TRef.nullary, TRef.ternary, TRef.unary, TRef.toBuf, TRef.ofBuf, cast_eq]
  after_results_simp
  simp only [val2_main_cst_20, val2_main_v96] <;> rfl
set_option maxRecDepth 8192 in
set_option maxHeartbeats 2000000 in
theorem val2_1_main_v113 (V0 : Valuation τ sig (Elt F)) : val2_1 V0 (no_index (Proc.devRef .tc main_v113)) = res_main_v113 V0 := by
  unfold val2_1
  simp only [ops_part2_0, TRef.binary, TRef.nullary, TRef.ternary, TRef.unary, TRef.toBuf, TRef.ofBuf, cast_eq]
  after_results_simp
  simp only [val2_main_v96, val2_main_cst_20] <;> rfl
set_option maxRecDepth 8192 in
set_option maxHeartbeats 2000000 in
theorem val2_1_main_v115 (V0 : Valuation τ sig (Elt F)) : val2_1 V0 (no_index (Proc.devRef .tc main_v115)) = Host.reduceWindow IntOp.addi ![1, 20000] ![1, 1] ![0, 19999] ![0, 0] (extui 32 (res_main_v113 V0) natLt_1_32) (broadcastInDim S_ ![] bcast_S_S_ (constantI S_ 32 0#32)) reduceWindows_S8x20000_S8x20000_w1s1p0_0_w20000s1p19999_0 h_S_ := by
  unfold val2_1
  simp only [ops_part2_0, TRef.binary, TRef.nullary, TRef.ternary, TRef.unary, TRef.toBuf, TRef.ofBuf, cast_eq]
  after_results_simp
  simp only [val2_main_v96, val2_main_cst_20] <;> rfl

/-- The device's buffer contents after @main's first 201 operations. -/
def val2_2 (V0 : Valuation τ sig (Elt F)) : Valuation τ sig (Elt F) := after ops_part2_1 (val2_1 V0)
/-- The buffers that window `ops_part2_1`'s operations write. -/
abbrev ops_part2_1_W : List (Ref sig .tc) := [main_c_27, main_v116, main_v117, main_v118, main_v119, main_v120, main_c_28, main_v121, main_v122, main_v123, main_v124, main_cst_29, main_call14_v0, main_v125, main_v126, main_call15_c, main_call15_v0, main_call15_v1, main_call15_c_0, main_call15_v2, main_call15_v3, main_call15_v4, main_call15_c_1, main_call15_c_2, main_call15_v5, main_call15_v6, main_call15_v7, main_call15_v8, main_call15_v9, main_call15_v10]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_v78 (V0 : Valuation τ sig (Elt F)) : val2_2 V0 (no_index (Proc.devRef .tc main_v78)) = res_main_v78 V0 :=
  (val2_2_keep V0 main_v78 (by decide)).trans (val2_1_main_v78 V0)
set_option maxRecDepth 8192 in
set_option maxHeartbeats 2000000 in
theorem val2_2_main_v125 (V0 : Valuation τ sig (Elt F)) : val2_2 V0 (no_index (Proc.devRef .tc main_v125)) = res_main_v125 V0 := by
  unfold val2_2
  simp only [ops_part2_1, TRef.binary, TRef.nullary, TRef.ternary, TRef.unary, TRef.toBuf, TRef.ofBuf, cast_eq]
  after_results_simp
  simp only [val2_1_main_v107, val2_1_main_v111, val2_1_main_v115, val2_1_main_v113] <;> rfl
set_option maxRecDepth 8192 in
set_option maxHeartbeats 2000000 in
theorem val2_2_main_call15_v4 (V0 : Valuation τ sig (Elt F)) : val2_2 V0 (no_index (Proc.devRef .tc main_call15_v4)) = res_main_call15_v4 V0 := by
  unfold val2_2
  simp only [ops_part2_1, TRef.binary, TRef.nullary, TRef.ternary, TRef.unary, TRef.toBuf, TRef.ofBuf, cast_eq]
  after_results_simp
  simp only [val2_1_main_v78] <;> rfl
set_option maxRecDepth 8192 in
set_option maxHeartbeats 2000000 in
theorem val2_2_main_call15_v10 (V0 : Valuation τ sig (Elt F)) : val2_2 V0 (no_index (Proc.devRef .tc main_call15_v10)) = andi (cmpi .sge (res_main_call15_v4 V0) (broadcastInDim S8x20000x1 ![] bcast_S_S8x20000x1 (constantI S_ 32 0#32))) (cmpi .sle (res_main_call15_v4 V0) (broadcastInDim S8x20000x1 ![0, 1, 2] bcast_S1x1x1_S8x20000x1_0_1_2 (broadcastInDim S1x1x1 ![2] bcast_S1_S1x1x1_2 (constantI S1 32 63#32)))) := by
  unfold val2_2
  simp only [ops_part2_1, TRef.binary, TRef.nullary, TRef.ternary, TRef.unary, TRef.toBuf, TRef.ofBuf, cast_eq]
  after_results_simp
  simp only [val2_1_main_v78] <;> rfl

/-- The device's buffer contents after @main's first 231 operations. -/
def val2_3 (V0 : Valuation τ sig (Elt F)) : Valuation τ sig (Elt F) := after ops_part2_2 (val2_2 V0)
/-- The buffers that window `ops_part2_2`'s operations write. -/
abbrev ops_part2_2_W : List (Ref sig .tc) := [main_call15_c_3, main_call15_v11, main_call15_v12, main_call15_v13, main_call15_cst, main_call15_v14, main_v127, main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_c_4, main_call16_v14, main_v128, main_cst_30]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_2` does not write keeps its contents through it. -/
theorem val2_3_keep (V0 : Valuation τ sig (Elt F)) (r : Ref sig .tc) (h : r ∉ ops_part2_2_W) :
    val2_3 V0 (Proc.devRef .tc r) = val2_2 V0 (Proc.devRef .tc r) :=
  after_of_writes_sub ops_part2_2 _ ops_part2_2_writes h
theorem val2_3_main_arg0 (V0 : Valuation τ sig (Elt F)) : val2_3 V0 (no_index (Proc.devRef .tc main_arg0)) = V0 (Proc.devRef .tc main_arg0) :=
  (val2_3_keep V0 main_arg0 (by decide)).trans (val2_2_main_arg0 V0)
theorem val2_3_main_arg1 (V0 : Valuation τ sig (Elt F)) : val2_3 V0 (no_index (Proc.devRef .tc main_arg1)) = V0 (Proc.devRef .tc main_arg1) :=
  (val2_3_keep V0 main_arg1 (by decide)).trans (val2_2_main_arg1 V0)
theorem val2_3_main_arg2 (V0 : Valuation τ sig (Elt F)) : val2_3 V0 (no_index (Proc.devRef .tc main_arg2)) = V0 (Proc.devRef .tc main_arg2) :=
  (val2_3_keep V0 main_arg2 (by decide)).trans (val2_2_main_arg2 V0)
theorem val2_3_main_v125 (V0 : Valuation τ sig (Elt F)) : val2_3 V0 (no_index (Proc.devRef .tc main_v125)) = res_main_v125 V0 :=
  (val2_3_keep V0 main_v125 (by decide)).trans (val2_2_main_v125 V0)
set_option maxRecDepth 8192 in
set_option maxHeartbeats 2000000 in
theorem val2_3_main_v127 (V0 : Valuation τ sig (Elt F)) : val2_3 V0 (no_index (Proc.devRef .tc main_v127)) = res_main_v127 V0 := by
  unfold val2_3
  simp only [ops_part2_2, TRef.binary, TRef.nullary, TRef.reshape, TRef.ternary, TRef.unary, TRef.toBuf, TRef.ofBuf, cast_eq]
  after_results_simp
  simp only [val2_2_main_call15_v4, val2_2_main_arg1, val2_2_main_call15_v10] <;> rfl
set_option maxRecDepth 8192 in
set_option maxHeartbeats 2000000 in
theorem val2_3_main_v128 (V0 : Valuation τ sig (Elt F)) : val2_3 V0 (no_index (Proc.devRef .tc main_v128)) = select (Host.reduce IntOp.andi (andi (cmpi .sge (res_main_call16_v5 V0) (broadcastInDim S8x20000x1 ![] bcast_S_S8x20000x1 (constantI S_ 32 0#32))) (cmpi .sle (res_main_call16_v5 V0) (broadcastInDim S8x20000x1 ![0, 1, 2] bcast_S1x1x1_S8x20000x1_0_1_2 (broadcastInDim S1x1x1 ![2] bcast_S1_S1x1x1_2 (constantI S1 32 63#32))))) (constantI S_ 1 1#1) reducesTo_S8x20000x1_S8x20000_d2 h_S_) (Host.gather gather_S8x64_S8x20000x1_S8x20000_n_1_0_0_1_2_11 (V0 (Proc.devRef .tc main_arg2)) (res_main_call16_v5 V0)) (broadcastInDim S8x20000 ![] bcast_S_S8x20000 (constantI S_ 32 2147483648#32)) := by
  unfold val2_3
  simp only [ops_part2_2, TRef.binary, TRef.nullary, TRef.reshape, TRef.ternary, TRef.unary, TRef.toBuf, TRef.ofBuf, cast_eq]
  after_results_simp
  simp only [val2_2_main_v78, val2_2_main_arg2] <;> rfl
set_option maxRecDepth 8192 in
set_option maxHeartbeats 2000000 in
theorem val2_3_main_cst_30 (V0 : Valuation τ sig (Elt F)) : val2_3 V0 (no_index (Proc.devRef .tc main_cst_30)) = constant S_ .f32 0x3F800000#32 := by
  unfold val2_3
  simp only [ops_part2_2, TRef.binary, TRef.nullary, TRef.reshape, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_3 (val2_3 V0)
/-- The buffers that window `ops_part2_3`'s operations write. -/
abbrev ops_part2_3_W : List (Ref sig .tc) := [main_v129, main_v130, main_c_31, main_v131, main_v132, main_cst_32, main_v133, main_v134, main_c_33, main_c_34, main_call17_v0, main_call17_v1, main_v135, main_call18_v0, main_v136, main_v137, main_v138, main_v139, main_v140, main_v141, main_cst_35]
set_option maxRecDepth 8192 in
theorem ops_part2_3_writes : (ops_part2_3 : List (HloOp τ sig (Elt F))).Forall fun op => op.writes ⊆ (ops_part2_3_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_3` does not write keeps its contents through it. -/
theorem val3_keep (V0 : Valuation τ sig (Elt F)) (r : Ref sig .tc) (h : r ∉ ops_part2_3_W) :
    val3 V0 (Proc.devRef .tc r) = val2_3 V0 (Proc.devRef .tc r) :=
  after_of_writes_sub ops_part2_3 _ ops_part2_3_writes h
theorem val3_main_arg0 (V0 : Valuation τ sig (Elt F)) : val3 V0 (no_index (Proc.devRef .tc main_arg0)) = V0 (Proc.devRef .tc main_arg0) :=
  (val3_keep V0 main_arg0 (by decide)).trans (val2_3_main_arg0 V0)
theorem val3_main_arg1 (V0 : Valuation τ sig (Elt F)) : val3 V0 (no_index (Proc.devRef .tc main_arg1)) = V0 (Proc.devRef .tc main_arg1) :=
  (val3_keep V0 main_arg1 (by decide)).trans (val2_3_main_arg1 V0)
theorem val3_main_arg2 (V0 : Valuation τ sig (Elt F)) : val3 V0 (no_index (Proc.devRef .tc main_arg2)) = V0 (Proc.devRef .tc main_arg2) :=
  (val3_keep V0 main_arg2 (by decide)).trans (val2_3_main_arg2 V0)
theorem val3_main_v125 (V0 : Valuation τ sig (Elt F)) : val3 V0 (no_index (Proc.devRef .tc main_v125)) = res_main_v125 V0 :=
  (val3_keep V0 main_v125 (by decide)).trans (val2_3_main_v125 V0)
theorem val3_main_v127 (V0 : Valuation τ sig (Elt F)) : val3 V0 (no_index (Proc.devRef .tc main_v127)) = res_main_v127 V0 :=
  (val3_keep V0 main_v127 (by decide)).trans (val2_3_main_v127 V0)
set_option maxRecDepth 8192 in
set_option maxHeartbeats 2000000 in
theorem val3_main_v136 (V0 : Valuation τ sig (Elt F)) : val3 V0 (no_index (Proc.devRef .tc main_v136)) = res_main_v136 V0 := by
  unfold val3
  simp only [ops_part2_3, TRef.ternary, TRef.unary, TRef.toBuf, TRef.ofBuf, cast_eq]
  after_results_simp
  simp only [val2_3_main_v125, val2_3_main_v128, val2_3_main_cst_30] <;> rfl
set_option maxRecDepth 8192 in
set_option maxHeartbeats 2000000 in
theorem val3_main_v141 (V0 : Valuation τ sig (Elt F)) : val3 V0 (no_index (Proc.devRef .tc main_v141)) = subf (shapeCast _ (extractStridedSlice S8x20000x1 ![0, 0, 2] (V0 (Proc.devRef .tc main_arg0)) slices_S8x20000x4_S8x20000x1_0_0_2) shapeCasts_S8x20000x1_S8x20000) (shapeCast _ (extractStridedSlice S8x20000x1 ![0, 0, 0] (V0 (Proc.devRef .tc main_arg0)) slices_S8x20000x4_S8x20000x1_0_0_0) shapeCasts_S8x20000x1_S8x20000) := by
  unfold val3
  simp only [ops_part2_3, TRef.ternary, TRef.unary, TRef.toBuf, TRef.ofBuf, cast_eq]
  after_results_simp
  simp only [val2_3_main_arg0] <;> rfl
set_option maxRecDepth 8192 in
set_option maxHeartbeats 2000000 in
theorem val3_main_cst_35 (V0 : Valuation τ sig (Elt F)) : val3 V0 (no_index (Proc.devRef .tc main_cst_35)) = constant S_ .f32 0x358637BD#32 := by
  unfold val3
  simp only [ops_part2_3, TRef.ternary, TRef.unary, TRef.toBuf, TRef.ofBuf, cast_eq]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v142, main_v143, main_v144, main_v145, main_v146, main_v147, main_v148, main_cst_36, main_v149, main_v150, main_v151, main_v152, main_cst_37, main_v153, main_v154, main_v155, main_v156, main_v157, main_cst_38, main_v158, main_v159, main_v160, main_v161, main_v162, main_v163, main_v164, main_v165, main_cst_39, main_v166, main_v167, main_v168, main_v169, main_v170, main_v171, main_v172, main_cst_40, main_v173, main_v174, main_v175, main_v176, main_cst_41, main_v177, main_v178, main_v179, main_v180, main_v181, main_cst_42, main_v182, main_v183, main_v184, main_v185, main_v186, main_v187, main_v188, main_v189, main_v190, main_v191, main_v192, main_v193, main_v194]
set_option maxRecDepth 8192 in
theorem ops_part3_writes : (ops_part3 : List (HloOp τ sig (Elt F))).Forall fun op => op.writes ⊆ (ops_part3_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_v125 (V0 : Valuation τ sig (Elt F)) : val4 V0 (no_index (Proc.devRef .tc main_v125)) = res_main_v125 V0 :=
  (val4_keep V0 main_v125 (by decide)).trans (val3_main_v125 V0)
theorem val4_main_v127 (V0 : Valuation τ sig (Elt F)) : val4 V0 (no_index (Proc.devRef .tc main_v127)) = res_main_v127 V0 :=
  (val4_keep V0 main_v127 (by decide)).trans (val3_main_v127 V0)
theorem val4_main_v136 (V0 : Valuation τ sig (Elt F)) : val4 V0 (no_index (Proc.devRef .tc main_v136)) = res_main_v136 V0 :=
  (val4_keep V0 main_v136 (by decide)).trans (val3_main_v136 V0)
set_option maxRecDepth 8192 in
set_option maxHeartbeats 2000000 in
theorem val4_main_v190 (V0 : Valuation τ sig (Elt F)) : val4 V0 (no_index (Proc.devRef .tc main_v190)) = Host.log (Host.divf (res_main_v167 V0) (res_main_v143 V0)) := by
  unfold val4
  simp only [ops_part3]
  after_results_simp
  simp only [val3_main_cst_35, val3_main_v141, val3_main_v127] <;> rfl
set_option maxRecDepth 8192 in
set_option maxHeartbeats 2000000 in
theorem val4_main_v192 (V0 : Valuation τ sig (Elt F)) : val4 V0 (no_index (Proc.devRef .tc main_v192)) = Host.log (Host.divf (res_main_v174 V0) (res_main_v150 V0)) := by
  unfold val4
  simp only [ops_part3]
  after_results_simp
  simp only [val3_main_arg0, val3_main_v127] <;> rfl
set_option maxRecDepth 8192 in
set_option maxHeartbeats 2000000 in
theorem val4_main_v193 (V0 : Valuation τ sig (Elt F)) : val4 V0 (no_index (Proc.devRef .tc main_v193)) = broadcastInDim S8x20000x1 ![0, 1] bcast_S8x20000_S8x20000x1_0_1 (Host.divf (subf (addf (shapeCast _ (extractStridedSlice S8x20000x1 ![0, 0, 0] (res_main_v127 V0) slices_S8x20000x4_S8x20000x1_0_0_0) shapeCasts_S8x20000x1_S8x20000) (mulf (broadcastInDim S8x20000 ![] bcast_S_S8x20000 (constant S_ .f32 0x3F000000#32)) (res_main_v167 V0))) (addf (shapeCast _ (extractStridedSlice S8x20000x1 ![0, 0, 0] (V0 (Proc.devRef .tc main_arg0)) slices_S8x20000x4_S8x20000x1_0_0_0) shapeCasts_S8x20000x1_S8x20000) (mulf (broadcastInDim S8x20000 ![] bcast_S_S8x20000 (constant S_ .f32 0x3F000000#32)) (res_main_v143 V0)))) (res_main_v143 V0)) := by
  unfold val4
  simp only [ops_part3]
  after_results_simp
  simp only [val3_main_cst_35, val3_main_v141, val3_main_arg0, val3_main_v127] <;> rfl
set_option maxRecDepth 8192 in
set_option maxHeartbeats 2000000 in
theorem val4_main_v194 (V0 : Valuation τ sig (Elt F)) : val4 V0 (no_index (Proc.devRef .tc main_v194)) = broadcastInDim S8x20000x1 ![0, 1] bcast_S8x20000_S8x20000x1_0_1 (Host.divf (subf (addf (shapeCast _ (extractStridedSlice S8x20000x1 ![0, 0, 1] (res_main_v127 V0) slices_S8x20000x4_S8x20000x1_0_0_1) shapeCasts_S8x20000x1_S8x20000) (mulf (broadcastInDim S8x20000 ![] bcast_S_S8x20000 (constant S_ .f32 0x3F000000#32)) (res_main_v174 V0))) (addf (shapeCast _ (extractStridedSlice S8x20000x1 ![0, 0, 1] (V0 (Proc.devRef .tc main_arg0)) slices_S8x20000x4_S8x20000x1_0_0_1) shapeCasts_S8x20000x1_S8x20000) (mulf (broadcastInDim S8x20000 ![] bcast_S_S8x20000 (constant S_ .f32 0x3F000000#32)) (res_main_v150 V0)))) (res_main_v150 V0)) := by
  unfold val4
  simp only [ops_part3]
  after_results_simp
  simp only [val3_main_arg0, val3_main_v127] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v195, main_v196, main_v197]
set_option maxRecDepth 8192 in
theorem ops_part4_writes : (ops_part4 : List (HloOp τ sig (Elt F))).Forall fun op => op.writes ⊆ (ops_part4_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_v125 (V0 : Valuation τ sig (Elt F)) : val5 V0 (no_index (Proc.devRef .tc main_v125)) = res_main_v125 V0 :=
  (val5_keep V0 main_v125 (by decide)).trans (val4_main_v125 V0)
theorem val5_main_v127 (V0 : Valuation τ sig (Elt F)) : val5 V0 (no_index (Proc.devRef .tc main_v127)) = res_main_v127 V0 :=
  (val5_keep V0 main_v127 (by decide)).trans (val4_main_v127 V0)
theorem val5_main_v136 (V0 : Valuation τ sig (Elt F)) : val5 V0 (no_index (Proc.devRef .tc main_v136)) = res_main_v136 V0 :=
  (val5_keep V0 main_v136 (by decide)).trans (val4_main_v136 V0)
set_option maxRecDepth 8192 in
theorem val5_main_v197 (V0 : Valuation τ sig (Elt F)) : val5 V0 (no_index (Proc.devRef .tc main_v197)) = res_main_v197 V0 := by
  unfold val5
  simp only [ops_part4]
  after_results_simp
  try dsimp only [Matrix.cons_val]
  try after_results_simp
  simp only [val4_main_v192, val4_main_v190, val4_main_v194, val4_main_v193] <;> rfl

theorem after_ops (V0 : Valuation τ sig (Elt F)) : after ops V0 = val5 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v127) = res_main_v127 (launchContents m c)
      ∧ r.2.mem ((c.tc : Thread nD τ).loc main_v197) = res_main_v197 (launchContents m c)
      ∧ r.2.mem ((c.tc : Thread nD τ).loc main_v125) = res_main_v125 (launchContents m c)
      ∧ r.2.mem ((c.tc : Thread nD τ).loc main_v136) = res_main_v136 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v127).trans ((congrFun (after_ops (launchContents m c)) (Proc.devRef .tc main_v127)).trans (val5_main_v127 (launchContents m c))),
      (h c main_v197).trans ((congrFun (after_ops (launchContents m c)) (Proc.devRef .tc main_v197)).trans (val5_main_v197 (launchContents m c))),
      (h c main_v125).trans ((congrFun (after_ops (launchContents m c)) (Proc.devRef .tc main_v125)).trans (val5_main_v125 (launchContents m c))),
      (h c main_v136).trans ((congrFun (after_ops (launchContents m c)) (Proc.devRef .tc main_v136)).trans (val5_main_v136 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c)))⟩)
    (run_seq scopedRefs_eq scopedSems_eq defs main (fun _ => ops) main_eq (fun _ => ops_sub) m ρ fun _ => ops_fresh)

end Cert.RefRun

end
-- ==== Proof.KArr.lean ====
/- The arrays the launch leaves in the four result windows, at coordinates: every batch's lanes are what its last
   phase wrote back. -/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen Cert.KernelIdeal.Steps
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The first point of a batch. -/
def pt (b : Fin 8) : Fin cfg0.N := ⟨b.val * 3, lt_of_lt_of_le (by have := b.isLt; omega : b.val * 3 < 24) (le_of_eq rfl)⟩

theorem bp_pt (t : Fin cfg0.N) (b : Fin 8) (h : b.val = t.val / 3) : bp t = pt b := Fin.ext (by simp only [bp, pt, h])

theorem index3 : ∀ t : Fin cfg0.N, win0_3.index t = ![t.val / 3, 0, 0] := (by decide +kernel : ∀ t : Fin grid0.N, win0_3.index t = ![t.val / 3, 0, 0])
theorem index4 : ∀ t : Fin cfg0.N, win0_4.index t = ![t.val / 3, 0, 0] := (by decide +kernel : ∀ t : Fin grid0.N, win0_4.index t = ![t.val / 3, 0, 0])
theorem index5 : ∀ t : Fin cfg0.N, win0_5.index t = ![t.val / 3, 0, 0] := (by decide +kernel : ∀ t : Fin grid0.N, win0_5.index t = ![t.val / 3, 0, 0])
theorem index6 : ∀ t : Fin cfg0.N, win0_6.index t = ![t.val / 3, 0, 0] := (by decide +kernel : ∀ t : Fin grid0.N, win0_6.index t = ![t.val / 3, 0, 0])

/-- The boxes' array. -/
def G3 (c : Dev nD) : Vec F S8x4x20480 .f32 := fun i => Y3 m c (pt (i 0)) (ix3 0 (i 1) (i 2))
/-- The deltas' array. -/
def G4 (c : Dev nD) : Vec F S8x4x20480 .f32 := fun i => Y4 m c (pt (i 0)) (ix3 0 (i 1) (i 2))
/-- The labels' array. -/
def G5 (c : Dev nD) : Vec F S8x1x20480 .f32 := fun i => Y5 m c (pt (i 0)) (ix3 0 (i 1) (i 2))
/-- The class labels' array. -/
def G6 (c : Dev nD) : Vec F S8x1x20480 .i32 := fun i => Y6 m c (pt (i 0)) (ix3 0 (i 1) (i 2))

theorem arr3 (c : Dev nD) : (dats m 0 c).arrAt 3 cfg0.N = G3 m c := by
  refine (dats m 0 c).arrAt_eq_of_covers 3 _ (by decide +kernel) fun t hf y => ?_
  blk_simp
  rw [after3]
  unfold G3
  rw [bp_pt t (((cfg0.win 3).blk t).view.emb y 0) (by blk_simp [index3])]
  refine congrArg _ ?_
  blk_ext [index3]

theorem arr4 (c : Dev nD) : (dats m 0 c).arrAt 4 cfg0.N = G4 m c := by
  refine (dats m 0 c).arrAt_eq_of_covers 4 _ (by decide +kernel) fun t hf y => ?_
  blk_simp
  rw [after4]
  unfold G4
  rw [bp_pt t (((cfg0.win 4).blk t).view.emb y 0) (by blk_simp [index4])]
  refine congrArg _ ?_
  blk_ext [index4]

theorem arr5 (c : Dev nD) : (dats m 0 c).arrAt 5 cfg0.N = G5 m c := by
  refine (dats m 0 c).arrAt_eq_of_covers 5 _ (by decide +kernel) fun t hf y => ?_
  blk_simp
  rw [after5]
  unfold G5
  rw [bp_pt t (((cfg0.win 5).blk t).view.emb y 0) (by blk_simp [index5])]
  refine congrArg _ ?_
  blk_ext [index5]

theorem arr6 (c : Dev nD) : (dats m 0 c).arrAt 6 cfg0.N = G6 m c := by
  refine (dats m 0 c).arrAt_eq_of_covers 6 _ (by decide +kernel) fun t hf y => ?_
  blk_simp
  rw [after6]
  unfold G6
  rw [bp_pt t (((cfg0.win 6).blk t).view.emb y 0) (by blk_simp [index6])]
  refine congrArg _ ?_
  blk_ext [index6]

/-! ### The results after the host's last operations -/

/-- Every buffer when the launch is over. -/
abbrev W0 (c : Dev nD) : Valuation τ sig (Elt F) := Pipeline.withArrays spec0 c (V0 m c) fun w => (dats m 0 c).arrAt w cfg0.N

theorem W0_3 (c : Dev nD) : W0 m c (Proc.devRef .tc main_v7_0) = G3 m c :=
  (Pipeline.withArrays_arr spec0 launch0.win.arr_inj c (V0 m c) (fun w => (dats m 0 c).arrAt w cfg0.N) 3).trans (arr3 m c)
theorem W0_4 (c : Dev nD) : W0 m c (Proc.devRef .tc main_v7_1) = G4 m c :=
  (Pipeline.withArrays_arr spec0 launch0.win.arr_inj c (V0 m c) (fun w => (dats m 0 c).arrAt w cfg0.N) 4).trans (arr4 m c)
theorem W0_5 (c : Dev nD) : W0 m c (Proc.devRef .tc main_v7_2) = G5 m c :=
  (Pipeline.withArrays_arr spec0 launch0.win.arr_inj c (V0 m c) (fun w => (dats m 0 c).arrAt w cfg0.N) 5).trans (arr5 m c)
theorem W0_6 (c : Dev nD) : W0 m c (Proc.devRef .tc main_v7_3) = G6 m c :=
  (Pipeline.withArrays_arr spec0 launch0.win.arr_inj c (V0 m c) (fun w => (dats m 0 c).arrAt w cfg0.N) 6).trans (arr6 m c)

theorem tail_v9 (c : Dev nD) : Pipeline.afterTail₀ cfgs (dats m) 0 (V0 m) [hostOps1] c main_v9
    = extractStridedSlice S8x20000x4 ![0, 0, 0] (transpose S8x20480x4 [0, 2, 1] (G3 m c) transposes_S8x4x20480_S8x20480x4_0_2_1) slices_S8x20480x4_S8x20000x4_0_0_0 := by
  rw [← W0_3]
  unfold Pipeline.afterTail₀
  show StableHlo.after hostOps1 (W0 m c) (Proc.devRef .tc main_v9) = _
  generalize W0 m c = W
  after_results
theorem tail_v11 (c : Dev nD) : Pipeline.afterTail₀ cfgs (dats m) 0 (V0 m) [hostOps1] c main_v11
    = extractStridedSlice S8x20000x4 ![0, 0, 0] (transpose S8x20480x4 [0, 2, 1] (G4 m c) transposes_S8x4x20480_S8x20480x4_0_2_1) slices_S8x20480x4_S8x20000x4_0_0_0 := by
  rw [← W0_4]
  unfold Pipeline.afterTail₀
  show StableHlo.after hostOps1 (W0 m c) (Proc.devRef .tc main_v11) = _
  generalize W0 m c = W
  after_results
theorem tail_v13 (c : Dev nD) : Pipeline.afterTail₀ cfgs (dats m) 0 (V0 m) [hostOps1] c main_v13
    = shapeCast S8x20000 (extractStridedSlice S8x1x20000 ![0, 0, 0] (G5 m c) slices_S8x1x20480_S8x1x20000_0_0_0) shapeCasts_S8x1x20000_S8x20000 := by
  rw [← W0_5]
  unfold Pipeline.afterTail₀
  show StableHlo.after hostOps1 (W0 m c) (Proc.devRef .tc main_v13) = _
  generalize W0 m c = W
  after_results
  rfl
theorem tail_v15 (c : Dev nD) : Pipeline.afterTail₀ cfgs (dats m) 0 (V0 m) [hostOps1] c main_v15
    = shapeCast S8x20000 (extractStridedSlice S8x1x20000 ![0, 0, 0] (G6 m c) slices_S8x1x20480_S8x1x20000_0_0_0) shapeCasts_S8x1x20000_S8x20000 := by
  rw [← W0_6]
  unfold Pipeline.afterTail₀
  show StableHlo.after hostOps1 (W0 m c) (Proc.devRef .tc main_v15) = _
  generalize W0 m c = W
  after_results
  rfl

end Cert.KernelIdeal.Run

end
-- ==== Proof.Spec.lean ====
/- The mathematics both programs compute, for one image, with no arrays: the overlap of an anchor and a box, the
   largest overlap and its first box, the labels, and the counts that sample them. -/
module

public import Idealize.ShloMosaic.Lib.IdealHost
public import Idealize.ShloMosaic.Lib.Pointwise

@[expose] public section

noncomputable section

namespace Cert.Spec

open Idealize.ShloMosaic
open scoped Classical

/-! ### Constants -/

/-- Minus one, as the programs write it. -/
abbrev m1 : EReal := Ideal.ofBits .f32 0xBF800000#32

theorem m1_eq : m1 = ((-1 : ℝ) : EReal) := by
  simp [m1, Ideal.ofBits, Ideal.ieee, -EReal.coe_mul, -EReal.coe_neg]; norm_num
theorem m1_ne_zero : m1 ≠ 0 := by
  rw [m1_eq]; exact_mod_cast (by norm_num : (-1 : ℝ) ≠ 0)
theorem m1_ne_one : m1 ≠ 1 := by
  rw [m1_eq]; exact_mod_cast (by norm_num : (-1 : ℝ) ≠ 1)
theorem eps_pos : (0 : EReal) < Ideal.ofBits .f32 0x322BCC77#32 := by
  simp [Ideal.ofBits, Ideal.ieee, -EReal.coe_mul]
theorem low_pos : (0 : EReal) < Ideal.ofBits .f32 0x3E99999A#32 := by
  simp [Ideal.ofBits, Ideal.ieee, -EReal.coe_mul]
theorem high_pos : (0 : EReal) < Ideal.ofBits .f32 0x3F333333#32 := by
  simp [Ideal.ofBits, Ideal.ieee, -EReal.coe_mul]
theorem c256_eq : Ideal.ofBits .f32 0x43800000#32 = ((256 : ℝ) : EReal) := by
  simp [Ideal.ofBits, Ideal.ieee, -EReal.coe_mul]; norm_num
theorem neg_inf_eq : Ideal.ofBits .f32 0xFF800000#32 = ⊥ := by
  simp [Ideal.ofBits, Ideal.ieee]

/-! ### The overlap -/

/-- The overlap (intersection over union) of an anchor `a` and a box `g`. -/
def ovl (a0 a1 a2 a3 g0 g1 g2 g3 : EReal) : EReal :=
  Ideal.div (max 0 (min a2 g2 - max a0 g0) * max 0 (min a3 g3 - max a1 g1))
    (max 0 (a2 - a0) * max 0 (a3 - a1) + max 0 (g2 - g0) * max 0 (g3 - g1)
      - max 0 (min a2 g2 - max a0 g0) * max 0 (min a3 g3 - max a1 g1) + Ideal.ofBits .f32 0x322BCC77#32)

/-- The all-zero anchor overlaps nothing. -/
theorem ovl_zero (g0 g1 g2 g3 : EReal) : ovl 0 0 0 0 g0 g1 g2 g3 = 0 := by
  have h : max (0 : EReal) (min 0 g2 - max 0 g0) = 0 := by
    refine max_eq_left ?_
    refine (EReal.sub_le_sub (min_le_left 0 g2) (le_max_left 0 g0)).trans ?_
    simp
  unfold ovl
  rw [h]
  have hp : (0 : EReal) ≤ max 0 (g2 - g0) * max 0 (g3 - g1) := mul_nonneg (le_max_left _ _) (le_max_left _ _)
  have hd : (0 : EReal) < max 0 ((0 : EReal) - 0) * max 0 (0 - 0) + max 0 (g2 - g0) * max 0 (g3 - g1) - 0 * max 0 (min 0 g3 - max 0 g1) + Ideal.ofBits .f32 0x322BCC77#32 := by
    have e : max (0 : EReal) (0 - 0) * max 0 (0 - 0) + max 0 (g2 - g0) * max 0 (g3 - g1) - 0 * max 0 (min 0 g3 - max 0 g1) = max 0 (g2 - g0) * max 0 (g3 - g1) := by simp
    rw [e]
    exact lt_of_lt_of_le eps_pos (le_add_of_nonneg_left hp)
  unfold Ideal.div
  rw [if_neg hd.ne', zero_mul, zero_mul]

/-! ### Folds of a maximum -/

theorem le_fold_max {ι : Type} (s : Finset ι) (f : ι → EReal) {i : ι} (h : i ∈ s) : f i ≤ s.fold max ⊥ f :=
  (Finset.le_fold_max _).2 (Or.inr ⟨i, h, le_rfl⟩)
theorem fold_max_le {ι : Type} (s : Finset ι) (f : ι → EReal) {c : EReal} (h : ∀ i ∈ s, f i ≤ c) : s.fold max ⊥ f ≤ c :=
  (Finset.fold_max_le _).2 ⟨bot_le, h⟩
theorem lt_fold_max {ι : Type} (s : Finset ι) (f : ι → EReal) {c : EReal} : c < s.fold max ⊥ f ↔ ∃ i ∈ s, c < f i := by
  rw [Finset.lt_fold_max]; simp

/-! ### The first box of largest overlap -/

/-- The largest of 64 overlaps. -/
def mx (u : Fin 64 → EReal) : EReal := Finset.univ.fold max ⊥ u

theorem le_mx (u : Fin 64 → EReal) (k : Fin 64) : u k ≤ mx u := le_fold_max _ _ (Finset.mem_univ k)

theorem exists_mx (u : Fin 64 → EReal) : ∃ k, u k = mx u := by
  obtain ⟨k, -, hk⟩ := Finset.exists_max_image Finset.univ u ⟨0, Finset.mem_univ _⟩
  exact ⟨k, le_antisymm (le_mx u k) (fold_max_le _ _ fun i hi => hk i hi)⟩

theorem exists_first (u : Fin 64 → EReal) : ∃ k, u k = mx u ∧ ∀ j, u j = mx u → k ≤ j := by
  have hne : (Finset.univ.filter fun k => u k = mx u).Nonempty := by
    obtain ⟨k, hk⟩ := exists_mx u
    exact ⟨k, by simpa using hk⟩
  refine ⟨_, (Finset.mem_filter.1 (Finset.min'_mem _ hne)).2, fun j hj => Finset.min'_le _ _ (by simpa using hj)⟩

/-- The first box of largest overlap. -/
def first (u : Fin 64 → EReal) : Fin 64 := (exists_first u).choose
theorem first_eq (u : Fin 64 → EReal) : u (first u) = mx u := (exists_first u).choose_spec.1
theorem first_le (u : Fin 64 → EReal) {j : Fin 64} (h : u j = mx u) : first u ≤ j := (exists_first u).choose_spec.2 j h

theorem toInt_small (k : Fin 64) : (BitVec.ofNat 32 k.val).toInt = k.val := by
  have := k.isLt
  rw [BitVec.toInt_ofNat']; simp [Int.bmod]; omega

theorem toInt_minsi (x y : BitVec 32) : (IntOp.minsi x y).toInt = min x.toInt y.toInt := by
  unfold IntOp.minsi
  rw [BitVec.slt_eq_decide]
  split <;> rename_i h <;> simp at h <;> omega

theorem minsi_cases (x y : BitVec 32) : IntOp.minsi x y = x ∨ IntOp.minsi x y = y := by
  unfold IntOp.minsi; split <;> simp

theorem fold_minsi_spec {ι : Type} (s : Finset ι) (f : ι → BitVec 32) (c : BitVec 32) :
    (s.fold IntOp.minsi c f = c ∨ ∃ i ∈ s, s.fold IntOp.minsi c f = f i)
      ∧ (∀ i ∈ s, (s.fold IntOp.minsi c f).toInt ≤ (f i).toInt) ∧ (s.fold IntOp.minsi c f).toInt ≤ c.toInt := by
  induction s using Finset.induction_on with
  | empty => simp
  | insert a s ha ih =>
    obtain ⟨h1, h2, h3⟩ := ih
    rw [Finset.fold_insert ha]
    refine ⟨?_, ?_, ?_⟩
    · rcases minsi_cases (f a) (s.fold IntOp.minsi c f) with h | h
      · exact Or.inr ⟨a, Finset.mem_insert_self _ _, h⟩
      · rw [h]
        rcases h1 with h1 | ⟨i, hi, h1⟩
        · exact Or.inl h1
        · exact Or.inr ⟨i, Finset.mem_insert_of_mem hi, h1⟩
    · intro i hi
      rw [toInt_minsi]
      rcases Finset.mem_insert.1 hi with rfl | hi
      · exact min_le_left _ _
      · exact (min_le_right _ _).trans (h2 i hi)
    · rw [toInt_minsi]; exact (min_le_right _ _).trans h3

/-- The least box number among those of largest overlap, the others standing as 64, is the first box. -/
theorem fold_minsi_first (u : Fin 64 → EReal) :
    Finset.univ.fold IntOp.minsi 2147483647#32 (fun k : Fin 64 => if u k = mx u then BitVec.ofNat 32 k.val else 64#32)
      = BitVec.ofNat 32 (first u).val := by
  set f := fun k : Fin 64 => if u k = mx u then BitVec.ofNat 32 k.val else 64#32 with hf
  obtain ⟨h1, h2, -⟩ := fold_minsi_spec Finset.univ f 2147483647#32
  set r := Finset.univ.fold IntOp.minsi 2147483647#32 f
  have hle := h2 (first u) (Finset.mem_univ _)
  have e : f (first u) = BitVec.ofNat 32 (first u).val := if_pos (first_eq u)
  rw [e, toInt_small] at hle
  have hlt := (first u).isLt
  rcases h1 with h1 | ⟨k, -, h1⟩
  · rw [h1] at hle
    have : (2147483647#32).toInt = 2147483647 := by decide
    omega
  · rw [h1] at hle ⊢
    by_cases hk : u k = mx u
    · have ek : f k = BitVec.ofNat 32 k.val := if_pos hk
      rw [ek, toInt_small] at hle
      have := first_le u hk
      rw [ek]
      have : first u = k := le_antisymm this (by rw [Fin.le_def]; omega)
      rw [this]
    · have ek : f k = 64#32 := if_neg hk
      rw [ek] at hle
      have : (64#32).toInt = 64 := by decide
      omega

/-- The pair an arg-max step keeps: the larger value, and on a tie the smaller number. -/
def pick (a b : EReal × BitVec 32) : EReal × BitVec 32 :=
  if b.1 < a.1 ∨ (a.1 = b.1 ∧ a.2.toInt < b.2.toInt) then a else b

/-- `a` is no better than `b`. -/
def Worse (a b : EReal × BitVec 32) : Prop := a.1 < b.1 ∨ (a.1 = b.1 ∧ b.2.toInt ≤ a.2.toInt)

theorem Worse.refl (a : EReal × BitVec 32) : Worse a a := Or.inr ⟨rfl, le_rfl⟩
theorem Worse.trans {a b c : EReal × BitVec 32} (h : Worse a b) (h' : Worse b c) : Worse a c := by
  rcases h with h | ⟨h, g⟩ <;> rcases h' with h' | ⟨h', g'⟩
  · exact Or.inl (h.trans h')
  · exact Or.inl (h' ▸ h)
  · exact Or.inl (h ▸ h')
  · exact Or.inr ⟨h.trans h', g'.trans g⟩

theorem worse_pick_left (a b : EReal × BitVec 32) : Worse a (pick a b) := by
  unfold pick; split
  · exact Worse.refl a
  · rename_i h
    push Not at h
    rcases lt_or_eq_of_le h.1 with h1 | h1
    · exact Or.inl h1
    · exact Or.inr ⟨h1, h.2 h1⟩
theorem worse_pick_right (a b : EReal × BitVec 32) : Worse b (pick a b) := by
  unfold pick; split
  · rename_i h
    rcases h with h | ⟨h, g⟩
    · exact Or.inl h
    · exact Or.inr ⟨h.symm, g.le⟩
  · exact Worse.refl b

theorem foldl_pick_spec (l : List (EReal × BitVec 32)) (c : EReal × BitVec 32) :
    (l.foldl pick c = c ∨ l.foldl pick c ∈ l) ∧ Worse c (l.foldl pick c) ∧ ∀ p ∈ l, Worse p (l.foldl pick c) := by
  induction l generalizing c with
  | nil => exact ⟨Or.inl rfl, Worse.refl c, by simp⟩
  | cons a l ih =>
    rw [List.foldl_cons]
    obtain ⟨h1, h2, h3⟩ := ih (pick c a)
    refine ⟨?_, (worse_pick_left c a).trans h2, ?_⟩
    · rcases h1 with h1 | h1
      · rw [h1]
        unfold pick; split
        · exact Or.inl rfl
        · exact Or.inr (by simp)
      · exact Or.inr (List.mem_cons_of_mem _ h1)
    · intro p hp
      rcases List.mem_cons.1 hp with rfl | hp
      · exact (worse_pick_right c p).trans h2
      · exact h3 p hp

/-- An arg-max over a list that holds exactly the 64 (overlap, box number) pairs keeps the first box. -/
theorem foldl_pick_first (u : Fin 64 → EReal) (l : List (EReal × BitVec 32))
    (hl : ∀ p, p ∈ l ↔ ∃ k, p = (u k, BitVec.ofNat 32 k.val)) :
    (l.foldl pick (⊥, 0#32)).2 = BitVec.ofNat 32 (first u).val := by
  obtain ⟨h1, -, h3⟩ := foldl_pick_spec l (⊥, 0#32)
  set r := l.foldl pick (⊥, 0#32)
  have hw := h3 _ ((hl _).2 ⟨first u, rfl⟩)
  rcases h1 with h1 | h1
  · rw [h1] at hw ⊢
    have hb : u (first u) = ⊥ := by
      rcases hw with hw | ⟨hw, -⟩
      · exact absurd hw not_lt_bot
      · exact hw
    have hm : mx u = ⊥ := (first_eq u).symm.trans hb
    have h0 : u 0 = mx u := by rw [hm]; exact le_bot_iff.1 (hm ▸ le_mx u 0)
    have : first u = 0 := le_antisymm (first_le u h0) (Fin.zero_le _)
    rw [this]; rfl
  · obtain ⟨k, hk⟩ := (hl _).1 h1
    rw [hk] at hw ⊢
    rcases hw with hw | ⟨hw, hw2⟩
    · have := le_mx u k
      rw [first_eq u] at hw
      exact absurd hw (not_lt.2 this)
    · change u (first u) = u k at hw
      rw [first_eq u] at hw
      have := first_le u hw.symm
      change (BitVec.ofNat 32 k.val).toInt ≤ (BitVec.ofNat 32 (first u).val).toInt at hw2
      rw [toInt_small, toInt_small] at hw2
      have : first u = k := le_antisymm this (by rw [Fin.le_def]; omega)
      rw [this]

/-- A sum against a one-hot row is the entry at the hot position. -/
theorem sum_one_hot (g : Fin 64 → EReal) (i : Fin 64) (w : Fin 64 → EReal) (hi : w i = 1) (hn : ∀ k, k ≠ i → w k = 0) :
    ∑ k, g k * w k = g i := by
  rw [Finset.sum_eq_single i (fun k _ hk => by rw [hn k hk, mul_zero]) (fun h => absurd (Finset.mem_univ i) h), hi, mul_one]

/-! ### Labels -/

/-- The largest overlap of box `k` over the first `N` anchors. -/
def gb (N : ℕ) (u : ℕ → Fin 64 → EReal) (k : Fin 64) : EReal := Finset.univ.fold max ⊥ fun n : Fin N => u n.val k

/-- Anchor `n` is the best one of some box it overlaps. -/
def best (N : ℕ) (u : ℕ → Fin 64 → EReal) (n : ℕ) : Prop := ∃ k, u n k = gb N u k ∧ 0 < gb N u k

/-- Anchors that overlap nothing do not change which anchors are best. -/
theorem best_pad {N M : ℕ} (u : ℕ → Fin 64 → EReal) (hNM : N ≤ M) (hz : ∀ n k, N ≤ n → u n k = 0) (n : ℕ) (hn : n < N) :
    best M u n ↔ best N u n := by
  have key : ∀ k, (0 < gb M u k → gb M u k = gb N u k) ∧ (0 < gb N u k → gb M u k = gb N u k) := by
    intro k
    have h1 : gb N u k ≤ gb M u k := fold_max_le _ _ fun i _ =>
      le_fold_max Finset.univ (fun n : Fin M => u n.val k) (Finset.mem_univ ⟨i.val, lt_of_lt_of_le i.isLt hNM⟩)
    have h2 : gb M u k ≤ max (gb N u k) 0 := fold_max_le _ _ fun i _ => by
      by_cases hi : i.val < N
      · exact (le_fold_max Finset.univ (fun n : Fin N => u n.val k) (Finset.mem_univ ⟨i.val, hi⟩)).trans (le_max_left _ _)
      · rw [hz i.val k (by omega)]; exact le_max_right _ _
    constructor
    · intro h
      have : 0 < gb N u k := by
        by_contra hc
        rw [max_eq_right (not_lt.1 hc)] at h2
        exact absurd h (not_lt.2 h2)
      exact le_antisymm (by rwa [max_eq_left this.le] at h2) h1
    · intro h
      exact le_antisymm (by rwa [max_eq_left h.le] at h2) h1
  constructor
  · rintro ⟨k, h, hp⟩
    have e := (key k).1 hp
    exact ⟨k, h.trans e, e ▸ hp⟩
  · rintro ⟨k, h, hp⟩
    have e := (key k).2 hp
    exact ⟨k, h.trans e.symm, e.symm ▸ hp⟩

/-- The label before sampling, of the largest overlap and whether the anchor is a best one. -/
def lab0 (m : EReal) (b : Prop) : EReal :=
  if Ideal.ofBits .f32 0x3F333333#32 ≤ m then 1 else if b then 1 else if m < Ideal.ofBits .f32 0x3E99999A#32 then 0 else m1

/-- The number of `i < n` of which `P` holds. -/
def cnt (P : ℕ → Prop) (n : ℕ) : ℕ := ∑ i ∈ Finset.range n, if P i then 1 else 0

theorem cnt_le (P : ℕ → Prop) (n : ℕ) : cnt P n ≤ n := by
  unfold cnt
  refine (Finset.sum_le_sum (g := fun _ => 1) fun i _ => ?_).trans (by simp)
  split <;> omega

theorem cnt_congr {P Q : ℕ → Prop} {n : ℕ} (h : ∀ i < n, P i ↔ Q i) : cnt P n = cnt Q n :=
  Finset.sum_congr rfl fun i hi => by simp only [h i (Finset.mem_range.1 hi)]

/-- Two properties that exclude one another together hold at most `n` times below `n`. -/
theorem cnt_add_le (P Q : ℕ → Prop) (n : ℕ) (h : ∀ i, ¬(P i ∧ Q i)) : cnt P n + cnt Q n ≤ n := by
  unfold cnt
  rw [← Finset.sum_add_distrib]
  refine (Finset.sum_le_sum (g := fun _ => 1) fun i _ => ?_).trans (by simp)
  have := h i
  by_cases hp : P i <;> by_cases hq : Q i <;> simp_all

/-- Entries of which `P` fails add nothing. -/
theorem cnt_pad (P : ℕ → Prop) {N M : ℕ} (h : N ≤ M) (hz : ∀ i, N ≤ i → ¬P i) : cnt P M = cnt P N := by
  unfold cnt
  symm
  refine Finset.sum_subset (fun i hi => Finset.mem_range.2 (lt_of_lt_of_le (Finset.mem_range.1 hi) h)) fun i _ hi => ?_
  rw [if_neg (hz i (by simpa using hi))]

/-- Anchor `n` is a positive. -/
def pos (N : ℕ) (u : ℕ → Fin 64 → EReal) (n : ℕ) : Prop := lab0 (mx (u n)) (best N u n) = 1
/-- Anchor `n` is a negative. -/
def neg (N : ℕ) (u : ℕ → Fin 64 → EReal) (n : ℕ) : Prop := lab0 (mx (u n)) (best N u n) = 0

theorem pos_neg (N : ℕ) (u : ℕ → Fin 64 → EReal) (n : ℕ) : ¬(pos N u n ∧ neg N u n) := by
  rintro ⟨h, h'⟩
  rw [pos, h'.symm.symm] at h
  exact zero_ne_one (α := EReal) (h'.symm.trans (by rw [h']; exact h))

/-- The label after the positives are sampled. -/
def lab1 (N : ℕ) (u : ℕ → Fin 64 → EReal) (n : ℕ) : EReal :=
  if pos N u n ∧ 128 < cnt (pos N u) (n + 1) then m1 else lab0 (mx (u n)) (best N u n)

/-- The positives' sampling leaves the negatives as they are. -/
theorem lab1_eq_zero (N : ℕ) (u : ℕ → Fin 64 → EReal) (n : ℕ) : lab1 N u n = 0 ↔ neg N u n := by
  unfold lab1
  split
  · rename_i h
    exact ⟨fun e => absurd e m1_ne_zero, fun e => absurd ⟨h.1, e⟩ (pos_neg N u n)⟩
  · exact Iff.rfl

/-- The label after both samplings. -/
def lab2 (N : ℕ) (u : ℕ → Fin 64 → EReal) (np : ℕ) (n : ℕ) : EReal :=
  if neg N u n ∧ 256 - min np 128 < cnt (neg N u) (n + 1) then m1 else lab1 N u n

/-- Anchors after the first `N` that overlap nothing change no label. -/
theorem lab0_pad {N M : ℕ} (u : ℕ → Fin 64 → EReal) (hNM : N ≤ M) (hz : ∀ n k, N ≤ n → u n k = 0) (n : ℕ) (hn : n < N) :
    lab0 (mx (u n)) (best M u n) = lab0 (mx (u n)) (best N u n) := by
  unfold lab0; simp only [best_pad u hNM hz n hn]

theorem not_pos_pad {N M : ℕ} (u : ℕ → Fin 64 → EReal) (hz : ∀ n k, N ≤ n → u n k = 0) (n : ℕ) (hn : N ≤ n) : ¬pos M u n := by
  have hm : mx (u n) = 0 := by
    obtain ⟨k, hk⟩ := exists_mx (u n)
    rw [← hk]; exact hz n k hn
  have hb : ¬best M u n := by
    rintro ⟨k, h, hp⟩
    rw [hz n k hn] at h
    exact absurd hp (by rw [← h]; exact lt_irrefl _)
  unfold pos lab0
  rw [hm, if_neg (not_le.2 high_pos), if_neg hb, if_pos low_pos]
  exact zero_ne_one

theorem lab1_pad {N M : ℕ} (u : ℕ → Fin 64 → EReal) (hNM : N ≤ M) (hz : ∀ n k, N ≤ n → u n k = 0) (n : ℕ) (hn : n < N) :
    lab1 M u n = lab1 N u n := by
  have hp : ∀ i, i < N → (pos M u i ↔ pos N u i) := fun i hi => by unfold pos; rw [lab0_pad u hNM hz i hi]
  unfold lab1
  rw [lab0_pad u hNM hz n hn, cnt_congr (fun i hi => hp i (by omega))]
  simp only [hp n hn]

theorem lab2_pad {N M : ℕ} (u : ℕ → Fin 64 → EReal) (hNM : N ≤ M) (hz : ∀ n k, N ≤ n → u n k = 0) (n : ℕ) (hn : n < N) :
    lab2 M u (cnt (pos M u) M) n = lab2 N u (cnt (pos N u) N) n := by
  have hp : ∀ i, i < N → (pos M u i ↔ pos N u i) := fun i hi => by unfold pos; rw [lab0_pad u hNM hz i hi]
  have hq : ∀ i, i < N → (neg M u i ↔ neg N u i) := fun i hi => by unfold neg; rw [lab0_pad u hNM hz i hi]
  unfold lab2
  rw [cnt_pad (pos M u) hNM (fun i hi => not_pos_pad u hz i hi), cnt_congr hp, cnt_congr (P := neg M u) (fun i hi => hq i (by omega)),
    lab1_pad u hNM hz n hn]
  simp only [hq n hn]

/-! ### The class label -/

/-- The class of an anchor: the label's box class plus one on a positive, zero on a negative, minus one otherwise. -/
def cls (lab : EReal) (l : BitVec 32) : BitVec 32 := if lab = 1 then l + 1#32 else if lab = 0 then 0#32 else 4294967295#32

theorem fptosi_int (z : ℤ) (h1 : -2147483648 ≤ z) (h2 : z ≤ 2147483647) : Ideal.fptosi 32 (((z : ℝ)) : EReal) = BitVec.ofInt 32 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

/-- The class through the reals: exact on a label whose successor is a word. -/
theorem fptosi_cls (lab : EReal) (l : BitVec 32) (h : l.toInt < 2147483647) :
    Ideal.fptosi 32 (if lab = 1 then ((l.toInt : ℝ) : EReal) + 1 else if lab = 0 then 0 else m1) = cls lab l := by
  unfold cls
  split
  · have e : ((l.toInt : ℝ) : EReal) + 1 = (((l.toInt + 1 : ℤ) : ℝ) : EReal) := by push_cast; rfl
    rw [e, fptosi_int _ (by have := BitVec.le_toInt l; omega) (by omega)]
    rw [BitVec.ofInt_add, BitVec.ofInt_toInt]
    rfl
  · split
    · have := fptosi_int 0 (by norm_num) (by norm_num)
      simpa using this
    · rw [m1_eq]
      have := fptosi_int (-1) (by norm_num) (by norm_num)
      rw [show ((-1 : ℝ) : EReal) = (((-1 : ℤ) : ℝ) : EReal) by push_cast; rfl, this]
      rfl

/-! ### The overlap table and the box deltas -/

/-- The overlaps of one image: anchor `n`, box `k`; past the anchors there are none. -/
def U (A : Fin 20000 → Fin 4 → EReal) (G : Fin 64 → Fin 4 → EReal) (n : ℕ) (k : Fin 64) : EReal :=
  if h : n < 20000 then ovl (A ⟨n, h⟩ 0) (A ⟨n, h⟩ 1) (A ⟨n, h⟩ 2) (A ⟨n, h⟩ 3) (G k 0) (G k 1) (G k 2) (G k 3) else 0

theorem U_of_lt (A : Fin 20000 → Fin 4 → EReal) (G : Fin 64 → Fin 4 → EReal) (n : Fin 20000) (k : Fin 64) :
    U A G n.val k = ovl (A n 0) (A n 1) (A n 2) (A n 3) (G k 0) (G k 1) (G k 2) (G k 3) := dif_pos n.isLt
theorem U_of_le (A : Fin 20000 → Fin 4 → EReal) (G : Fin 64 → Fin 4 → EReal) (n : ℕ) (k : Fin 64) (h : 20000 ≤ n) : U A G n k = 0 :=
  dif_neg (by omega)

/-- A side of a box, kept away from zero. -/
def side (x0 x2 : EReal) : EReal := max (x2 - x0) (Ideal.ofBits .f32 0x358637BD#32)
/-- The centre's move, in sides of the anchor. -/
def shift (a0 a2 b0 b2 : EReal) : EReal :=
  Ideal.div (b0 + Ideal.ofBits .f32 0x3F000000#32 * side b0 b2 - (a0 + Ideal.ofBits .f32 0x3F000000#32 * side a0 a2)) (side a0 a2)
/-- The logarithm of the sides' ratio. -/
def scale (a0 a2 b0 b2 : EReal) : EReal := Ideal.log (Ideal.div (side b0 b2) (side a0 a2))
/-- The four deltas from an anchor to its box. -/
def loc (a b : Fin 4 → EReal) : Fin 4 → EReal :=
  ![shift (a 0) (a 2) (b 0) (b 2), shift (a 1) (a 3) (b 1) (b 3), scale (a 0) (a 2) (b 0) (b 2), scale (a 1) (a 3) (b 1) (b 3)]

end Cert.Spec

end
-- ==== Proof.KIn.lean ====
/- The blocks the kernel reads, at coordinates: the anchors transposed and padded with zeros, the boxes, and the boxes
   with their labels as floats, transposed. -/
module

public import proofs.«01_k».proof.Proof.KArr
public import Idealize.ShloMosaic.Lib.Pipeline.ValueKit
public import Idealize.ShloMosaic.Lib.Pointwise
public import proofs.«01_k».proof.Proof.Spec

@[expose] public section

set_option maxRecDepth 16384

noncomputable section

namespace Cert.KernelIdeal.Run

open Cert.KernelIdeal Cert.KernelIdeal.Gen Cert.KernelIdeal.Steps
open Idealize.ShloMosaic Idealize.ShloMosaic.TcCoe Idealize.ShloMosaic.Tactic
open Idealize.SL.Sem

variable (m : (ℓ : Loc nD τ sig) → Buf (Elt Ideal) ℓ)

theorem index0 : ∀ t : Fin cfg0.N, win0_0.index t = ![t.val / 3, 0, 0] := (by decide +kernel : ∀ t : Fin grid0.N, win0_0.index t = ![t.val / 3, 0, 0])
theorem index1 : ∀ t : Fin cfg0.N, win0_1.index t = ![t.val / 3, 0, 0] := (by decide +kernel : ∀ t : Fin grid0.N, win0_1.index t = ![t.val / 3, 0, 0])
theorem index2 : ∀ t : Fin cfg0.N, win0_2.index t = ![t.val / 3, 0, 0] := (by decide +kernel : ∀ t : Fin grid0.N, win0_2.index t = ![t.val / 3, 0, 0])

/-- The launch's anchors. -/
abbrev A0 (c : Dev nD) : FVec Ideal S8x20000x4 .f32 := m ((c : Thread nD τ).loc main_arg0)
/-- The launch's boxes. -/
abbrev A1 (c : Dev nD) : FVec Ideal S8x64x4 .f32 := m ((c : Thread nD τ).loc main_arg1)
/-- The launch's labels. -/
abbrev A2 (c : Dev nD) : IVec S8x64 32 := m ((c : Thread nD τ).loc main_arg2)

theorem V_main_v1 (c : Dev nD) : V m c main_v1
    = pad S8x4x20480 ![0, 0, 0] ![0, 0, 480] ![0, 0, 0] (transpose S8x4x20000 [0, 2, 1] (A0 m c) transposes_S8x20000x4_S8x4x20000_0_2_1) (sitofp (F := Ideal) .f32 (constantI S_ 32 0#32)) pads_S8x4x20000_S8x4x20480_000_000_04800 h_S_ := by
  show StableHlo.after (List.flatten [hostOps0, hostOps0_1, hostOps0_2]) (fun b => m (c, b)) (Proc.devRef .tc main_v1) = _
  after_results
  try rfl

theorem V_main_v6 (c : Dev nD) : V m c main_v6
    = (concatenate S8x8x64 1 [⟨S8x4x64, transpose S8x4x64 [0, 2, 1] (A1 m c) transposes_S8x64x4_S8x4x64_0_2_1⟩,
        ⟨S8x1x64, broadcastInDim S8x1x64 ![0, 2] bcast_S8x64_S8x1x64_0_2 (sitofp (F := Ideal) .f32 (A2 m c))⟩,
        ⟨S8x3x64, broadcastInDim S8x3x64 ![] bcast_S_S8x3x64 (constant (F := Ideal) S_ .f32 0x00000000#32)⟩] concatenates_S8x4x64_S8x1x64_S8x3x64_S8x8x64_d1 : FVec Ideal S8x8x64 .f32) := by
  show StableHlo.after (List.flatten [hostOps0, hostOps0_1, hostOps0_2]) (fun b => m (c, b)) (Proc.devRef .tc main_v6) = _
  after_results
  try rfl

theorem X0_at (c : Dev nD) (b : Fin 8) (q : Fin 4) (n : Fin 20480) :
    X0 m c (pt b) (ix3 0 q n) = if h : n.val < 20000 then A0 m c (ix3 b ⟨n.val, h⟩ q) else 0 := by
  have e : X0 m c (pt b) (ix3 0 q n) = V m c main_v1 (ix3 b q n) := by
    unfold X0
    have := b.isLt
    blk_ext [iblk, index0, pt]
  rw [e, V_main_v1]
  generalize A0 m c = x
  have z : (FloatOps.sitofp .f32 (0#32) : Ideal .f32) = 0 := by
    show (((0#32 : BitVec 32).toInt : ℝ) : EReal) = 0
    simp
  pointwise []
  rw [z]

theorem X1_at (c : Dev nD) (b : Fin 8) (k : Fin 64) (q : Fin 4) :
    X1 m c (pt b) (ix3 0 k q) = A1 m c (ix3 b k q) := by
  have e : X1 m c (pt b) (ix3 0 k q) = V m c main_arg1 (ix3 b k q) := by
    unfold X1
    have := b.isLt
    blk_ext [iblk, index1, pt]
  rw [e, V_main_arg1]

theorem X2_at (c : Dev nD) (b : Fin 8) (k : Fin 64) (q : Fin 4) :
    X2 m c (pt b) (ix3 0 ⟨q.val, by omega⟩ k) = A1 m c (ix3 b k q) := by
  have e : X2 m c (pt b) (ix3 0 ⟨q.val, by omega⟩ k) = V m c main_v6 (ix3 b ⟨q.val, by omega⟩ k) := by
    unfold X2
    have := b.isLt
    blk_ext [iblk, index2, pt]
  rw [e, V_main_v6]
  generalize A1 m c = x
  generalize A2 m c = y
  fin_cases q <;> pointwise []

theorem X2_lab (c : Dev nD) (b : Fin 8) (k : Fin 64) :
    X2 m c (pt b) (ix3 0 4 k) = (((A2 m c (ix2 b k)).toInt : ℝ) : EReal) := by
  have e : X2 m c (pt b) (ix3 0 4 k) = V m c main_v6 (ix3 b 4 k) := by
    unfold X2
    have := b.isLt
    blk_ext [iblk, index2, pt]
  rw [e, V_main_v6]
  generalize A1 m c = x
  generalize A2 m c = y
  pointwise []
  rfl

end Cert.KernelIdeal.Run

end
-- ==== Proof.KPure.lean ====
/- The kernel's arithmetic read one element at a time over the extended reals. -/
module

public import proofs.«01_k».proof.Proof.Steps
public import proofs.«01_k».proof.Proof.Spec

@[expose] public section

set_option maxRecDepth 16384

noncomputable section

namespace Cert.KernelIdeal.Pure

open Idealize.ShloMosaic Idealize.ShloMosaic.TcCoe Idealize.SL.Sem
open Cert.KernelIdeal Cert.KernelIdeal.Gen Cert.KernelIdeal.Steps
open Cert

/-- Phase 0's table holds the overlaps. -/
theorem iou_at (x0 : FVec Ideal S1x4x20480 .f32) (x1 : FVec Ideal S1x64x4 .f32) (k : Fin 64) (n : Fin 20480) :
    iouOf (F := Ideal) x0 x1 (ix2 k n)
      = Spec.ovl (x0 (ix3 0 0 n)) (x0 (ix3 0 1 n)) (x0 (ix3 0 2 n)) (x0 (ix3 0 3 n)) (x1 (ix3 0 k 0)) (x1 (ix3 0 k 1)) (x1 (ix3 0 k 2)) (x1 (ix3 0 k 3)) := by
  unfold Spec.ovl
  pointwise [iouOf, k0_pay1, k0_pay2, k0_pay9, k0_pay10, k0_pay11, k0_pay12, k0_pay13, k0_pay14, k0_pay15, k0_pay16, k0_pay17, k0_pay18, k0_pay19, k0_pay20]

/-- Phase 0's row maxima are the largest overlaps of each box. -/
theorem gtb_at (x0 : FVec Ideal S1x4x20480 .f32) (x1 : FVec Ideal S1x64x4 .f32) (k : Fin 64) :
    gtbOf (F := Ideal) x0 x1 (ix2 k 0) = Finset.univ.fold max ⊥ fun n : Fin 20480 => iouOf (F := Ideal) x0 x1 (ix2 k n) := by
  rw [← Spec.neg_inf_eq]
  pointwise [iouOf, gtbOf, k0_pay3, k0_pay2]

section
variable (s0 : FVec Ideal S64x20480 .f32) (s1 : FVec Ideal S64x1 .f32) (x0 : FVec Ideal S1x4x20480 .f32) (x2 : FVec Ideal S1x8x64 .f32)

/-- The largest overlap of a lane. -/
theorem max_at (n : Fin 20480) : k0_pay21 (F := Ideal) s0 (ix2 0 n) = Spec.mx fun k => s0 (ix2 k n) := by
  unfold Spec.mx
  rw [← Spec.neg_inf_eq]
  pointwise [k0_pay21]

/-- The one-hot product gathers the first box of largest overlap. -/
theorem box_at (q : Fin 8) (n : Fin 20480) :
    k0_pay22 (F := Ideal) s0 x2 (ix2 q n) = x2 (ix3 0 q (Spec.first fun k => s0 (ix2 k n))) := by
  have e : k0_pay22 (F := Ideal) s0 x2 (ix2 q n) = ∑ x : Fin 64,
      x2 (ix3 0 q x) *
        FloatOps.sitofp (F := Ideal) FTy.f32
          (BitVec.setWidth 32
            (IntOp.cmpi CmpIPredicate.eq (BitVec.ofNat 32 x.val)
              (Finset.fold IntOp.minsi (2147483647#32)
                (fun x : Fin 64 => if s0 (ix2 x n) = Finset.fold max (Ideal.ofBits FTy.f32 4286578688#32) (fun x => s0 (ix2 x n)) Finset.univ then BitVec.ofNat 32 x.val
                  else 64#32)
                Finset.univ))) := by
    pointwise [k0_pay22, k0_pay21]
  rw [e, Spec.neg_inf_eq]
  have e2 := Spec.fold_minsi_first fun k => s0 (ix2 k n)
  unfold Spec.mx at e2
  refine Eq.trans (Finset.sum_congr rfl fun x _ => ?_) (Spec.sum_one_hot (fun k => x2 (ix3 0 q k)) (Spec.first fun k => s0 (ix2 k n))
    (fun x => FloatOps.sitofp (F := Ideal) FTy.f32 (BitVec.setWidth 32 (IntOp.cmpi CmpIPredicate.eq (BitVec.ofNat 32 x.val) (BitVec.ofNat 32 (Spec.first fun k => s0 (ix2 k n)).val)))) ?_ ?_)
  · rw [← e2]
  · have h1 : FloatOps.sitofp (F := Ideal) FTy.f32 1#32 = (((1#32).toInt : ℝ) : EReal) := rfl
    have h2 : (1#32).toInt = 1 := by decide
    have h3 : IntOp.cmpi CmpIPredicate.eq (BitVec.ofNat 32 (Spec.first fun k => s0 (ix2 k n)).val) (BitVec.ofNat 32 (Spec.first fun k => s0 (ix2 k n)).val) = 1#1 := by
      simp [IntOp.cmpi]
    show FloatOps.sitofp (F := Ideal) FTy.f32 (BitVec.setWidth 32 _) = 1
    rw [h3, show BitVec.setWidth 32 1#1 = 1#32 by decide, h1, h2]
    simp
  · intro k hk
    have hne : BitVec.ofNat 32 k.val ≠ BitVec.ofNat 32 (Spec.first fun k => s0 (ix2 k n)).val := fun h => hk (Fin.ext (by
      have := congrArg BitVec.toInt h
      rw [Spec.toInt_small, Spec.toInt_small] at this
      omega))
    have h1 : FloatOps.sitofp (F := Ideal) FTy.f32 0#32 = (((0#32).toInt : ℝ) : EReal) := rfl
    have h2 : (0#32).toInt = 0 := by decide
    have h3 : IntOp.cmpi CmpIPredicate.eq (BitVec.ofNat 32 k.val) (BitVec.ofNat 32 (Spec.first fun k => s0 (ix2 k n)).val) = 0#1 := by
      unfold IntOp.cmpi
      rw [show (BitVec.ofNat 32 k.val == BitVec.ofNat 32 (Spec.first fun k => s0 (ix2 k n)).val) = false from beq_eq_false_iff_ne.2 hne]
      rfl
    show FloatOps.sitofp (F := Ideal) FTy.f32 (BitVec.setWidth 32 _) = 0
    rw [h3, show BitVec.setWidth 32 0#1 = 0#32 by decide, h1, h2]
    simp

/-- The label before sampling. -/
theorem lab0_at (n : Fin 20480) :
    k0_pay36 (F := Ideal) (k0_pay21 s0) (k0_pay35 s0 s1) (ix2 0 n)
      = Spec.lab0 (Spec.mx fun k => s0 (ix2 k n)) (∃ k : Fin 64, s0 (ix2 k n) = s1 (ix2 k 0) ∧ 0 < s1 (ix2 k 0)) := by
  have e : k0_pay36 (F := Ideal) (k0_pay21 s0) (k0_pay35 s0 s1) (ix2 0 n) =
      (if Ideal.ofBits FTy.f32 1060320051#32 ≤ Finset.fold max (Ideal.ofBits FTy.f32 4286578688#32) (fun x : Fin 64 => s0 (ix2 x n)) Finset.univ then 1
      else if 0 < Finset.fold max (Ideal.ofBits FTy.f32 4286578688#32)
            (fun x : Fin 64 => Scalar.select (IntOp.andi (BitVec.ofBool (decide (s0 (ix2 x n) = s1 (ix2 x 0)))) (BitVec.ofBool (decide (0 < s1 (ix2 x 0))))) 1 0)
            Finset.univ then 1
      else if Finset.fold max (Ideal.ofBits FTy.f32 4286578688#32) (fun x : Fin 64 => s0 (ix2 x n)) Finset.univ < Ideal.ofBits FTy.f32 1050253722#32 then 0
      else Ideal.ofBits FTy.f32 3212836864#32) := by
    pointwise [k0_pay36, k0_pay21, k0_pay35]
  rw [e, Spec.neg_inf_eq]
  unfold Spec.lab0 Spec.mx
  have hb : (0 < Finset.fold max (⊥ : EReal)
            (fun x : Fin 64 => Scalar.select (IntOp.andi (BitVec.ofBool (decide (s0 (ix2 x n) = s1 (ix2 x 0)))) (BitVec.ofBool (decide (0 < s1 (ix2 x 0))))) 1 0)
            Finset.univ) ↔ ∃ k : Fin 64, s0 (ix2 k n) = s1 (ix2 k 0) ∧ 0 < s1 (ix2 k 0) := by
    rw [Spec.lt_fold_max]
    refine exists_congr fun k => ?_
    by_cases h1 : s0 (ix2 k n) = s1 (ix2 k 0) <;> by_cases h2 : 0 < s1 (ix2 k 0) <;> simp [h1, h2, IntOp.andi, Scalar.select]
  simp only [hb]
  congr!

/-- A bit, as a proposition. -/
theorem pos_at (n : Fin 20480) :
    posOf (F := Ideal) s0 s1 (ix2 0 n) = BitVec.ofBool (decide (k0_pay36 (F := Ideal) (k0_pay21 s0) (k0_pay35 s0 s1) (ix2 0 n) = 1)) := by
  pointwise [posOf, k0_pay37]

/-- The label after the positives are sampled, of the packed counts. -/
theorem lab1_at (n : Fin 20480) :
    labOf (F := Ideal) s0 s1 (ix2 0 n)
      = Scalar.select (IntOp.andi (posOf (F := Ideal) s0 s1 (ix2 0 n)) (IntOp.cmpi .sgt (IntOp.andi (cumOf (F := Ideal) s0 s1 (ix2 0 n)) 32767#32) 128#32))
          Spec.m1 (k0_pay36 (F := Ideal) (k0_pay21 s0) (k0_pay35 s0 s1) (ix2 0 n)) := by
  pointwise [labOf, k0_pay5]

/-- The negatives' ranks, of the packed counts. -/
theorem nrank_at (v : IVec S1x20480 32) (n : Fin 20480) :
    k0_pay4 (F := Ideal) v (ix2 0 n) = FloatOps.sitofp (F := Ideal) .f32 (IntOp.shrsi .vector (v (ix2 0 n)) 15#32) := by
  pointwise [k0_pay4]

/-- The stored boxes. -/
theorem out3_at (q : Fin 4) (n : Fin 20480) :
    k0_pay27 (F := Ideal) s0 x2 (ix3 0 q n) = k0_pay22 (F := Ideal) s0 x2 (ix2 ⟨q.val, by omega⟩ n) := by
  fin_cases q <;> pointwise [k0_pay23, k0_pay24, k0_pay25, k0_pay26, k0_pay27]

/-- The stored classes of the gathered boxes. -/
theorem mlab_at (n : Fin 20480) : k0_pay28 (F := Ideal) s0 x2 (ix2 0 n) = k0_pay22 (F := Ideal) s0 x2 (ix2 4 n) := by
  pointwise [k0_pay28]

end

/-- The final label of a lane. -/
theorem out5_at (w : BitVec 32) (s2 s3 : FVec Ideal S1x20480 .f32) (n : Fin 20480) :
    k0_pay7 (F := Ideal) w s2 s3 (ix3 0 0 n)
      = if s2 (ix2 0 n) = 0 ∧ Ideal.ofBits FTy.f32 1132462080#32 - (((Scalar.minsi w 128#32).toInt : ℝ) : EReal) < s3 (ix2 0 n) then Spec.m1 else s2 (ix2 0 n) := by
  have e : k0_pay7 (F := Ideal) w s2 s3 (ix3 0 0 n) = Scalar.select (IntOp.andi (BitVec.ofBool (decide (s2 (ix2 0 n) = 0)))
        (BitVec.ofBool (decide (Ideal.ofBits FTy.f32 1132462080#32 - (((Scalar.minsi w 128#32).toInt : ℝ) : EReal) < s3 (ix2 0 n))))) Spec.m1 (s2 (ix2 0 n)) := by
    pointwise [k0_pay7, k0_pay6]
  rw [e]
  by_cases h1 : s2 (ix2 0 n) = 0 <;> by_cases h2 : Ideal.ofBits FTy.f32 1132462080#32 - (((Scalar.minsi w 128#32).toInt : ℝ) : EReal) < s3 (ix2 0 n) <;>
    simp [h1, h2, IntOp.andi, Scalar.select]

/-- The final class of a lane, of its final label. -/
theorem out6_at (w : BitVec 32) (s2 s3 s4 : FVec Ideal S1x20480 .f32) (n : Fin 20480) :
    k0_pay8 (F := Ideal) w s2 s3 s4 (ix3 0 0 n)
      = Ideal.fptosi 32 (if k0_pay7 (F := Ideal) w s2 s3 (ix3 0 0 n) = 1 then s4 (ix2 0 n) + 1 else if k0_pay7 (F := Ideal) w s2 s3 (ix3 0 0 n) = 0 then 0 else Spec.m1) := by
  pointwise [k0_pay8, k0_pay7, k0_pay6]
  show Ideal.fptosi 32 _ = _
  congr!

end Cert.KernelIdeal.Pure

end
-- ==== Proof.KLoc.lean ====
/- The kernel's deltas, in the common terms. -/
module

public import proofs.«01_k».proof.Proof.KPure

@[expose] public section

set_option maxRecDepth 16384

noncomputable section

namespace Cert.KernelIdeal.Pure

open Idealize.ShloMosaic Idealize.ShloMosaic.TcCoe Idealize.SL.Sem
open Cert.KernelIdeal Cert.KernelIdeal.Gen Cert.KernelIdeal.Steps
open Cert

theorem loc_at (x0 : FVec Ideal S1x4x20480 .f32) (x2 : FVec Ideal S1x8x64 .f32) (s0 : FVec Ideal S64x20480 .f32) (q : Fin 4) (n : Fin 20480) :
    locOf (F := Ideal) x0 x2 s0 (ix3 0 q n) = Spec.loc (fun q => x0 (ix3 0 q n)) (fun q => k0_pay22 (F := Ideal) s0 x2 (ix2 ⟨q.val, by omega⟩ n)) q := by
  unfold locOf k0_pay23 k0_pay24 k0_pay25 k0_pay26 Spec.loc Spec.shift Spec.scale Spec.side
  generalize k0_pay22 (F := Ideal) s0 x2 = g
  pointwise [k0_pay29, k0_pay30, k0_pay31, k0_pay32, k0_pay33, k0_pay34]
  fin_cases q <;> rfl

end Cert.KernelIdeal.Pure

end
-- ==== Proof.Cum.lean ====
/- The kernel's packed running count: one word per lane holds the positive in its low fifteen bits and the negative
   above them; seven doubling steps along the rows and eight down the row totals give every lane the sum of the words
   up to and including its own. -/
module

public import proofs.«01_k».proof.Proof.Steps
public import proofs.«01_k».proof.Proof.KPure

@[expose] public section

set_option maxRecDepth 16384

noncomputable section

namespace Cert.KernelIdeal.Cum

open Idealize.ShloMosaic Idealize.ShloMosaic.TcCoe Idealize.SL.Sem
open Cert.KernelIdeal Cert.KernelIdeal.Gen Cert.KernelIdeal.Steps
open Cert

/-! ### Sums of the last `w` entries -/

/-- The sum of the last `w` entries up to and including entry `l`. -/
def lastSum (w : ℕ) (x : ℕ → ℕ) (l : ℕ) : ℕ := ∑ i ∈ Finset.range w, if i ≤ l then x (l - i) else 0

theorem lastSum_one (x : ℕ → ℕ) (l : ℕ) : lastSum 1 x l = x l := by simp [lastSum]

/-- One doubling step. -/
theorem lastSum_double (w : ℕ) (x : ℕ → ℕ) (l : ℕ) :
    lastSum (w + w) x l = lastSum w x l + if w ≤ l then lastSum w x (l - w) else 0 := by
  unfold lastSum
  rw [Finset.sum_range_add]
  congr 1
  split
  · rename_i h
    refine Finset.sum_congr rfl fun i _ => ?_
    by_cases hi : i ≤ l - w
    · rw [if_pos hi, if_pos (by omega), Nat.sub_sub]
    · rw [if_neg hi, if_neg (by omega)]
  · rename_i h
    exact Finset.sum_eq_zero fun i _ => if_neg (by omega)

/-- Once `w` passes the entry the sum is over all entries so far. -/
theorem lastSum_all (w : ℕ) (x : ℕ → ℕ) (l : ℕ) (h : l < w) : lastSum w x l = ∑ i ∈ Finset.range (l + 1), x i := by
  unfold lastSum
  rw [← Finset.sum_range_reflect (fun i => x i) (l + 1)]
  rw [← Finset.sum_subset (Finset.range_mono (by omega : l + 1 ≤ w)) (fun i _ hi => if_neg (by simp at hi; omega))]
  refine Finset.sum_congr rfl fun i hi => ?_
  rw [if_pos (by have := Finset.mem_range.1 hi; omega)]
  congr 1

/-! ### The steps on the tile -/

/-- One step along the rows by `d`: every lane at `d` or later adds the lane `d` before it. -/
def laneStep (d : BitVec 32) (v : IVec S160x128 32) : IVec S160x128 32 :=
  addi v (select (cmpi .sge (iota .tc S160x128 32 [1] iota_S160x128_d1_w32) (broadcast S160x128 d)) (dynamicRotate 1 d none v rotates_S160x128_d1) (broadcast S160x128 0#32))

/-- One step down the rows by `d`. -/
def rowStep (d : BitVec 32) (v : IVec S160x1 32) : IVec S160x1 32 :=
  addi v (select (cmpi .sge (iota .tc S160x1 32 [0] iota_S160x1_d0_w32) (broadcast S160x1 d)) (dynamicRotate 0 d none v rotates_S160x1_d0) (broadcast S160x1 0#32))

theorem sge_small (a b : ℕ) (ha : a < 2 ^ 31) (hb : b < 2 ^ 31) : IntOp.cmpi .sge (BitVec.ofNat 32 a) (BitVec.ofNat 32 b) = BitVec.ofBool (decide (b ≤ a)) := by
  have e : ∀ c, c < 2 ^ 31 → (BitVec.ofNat 32 c).toInt = c := fun c hc => by
    rw [BitVec.toInt_ofNat']; simp [Int.bmod]; omega
  unfold IntOp.cmpi
  simp only [BitVec.sle_eq_decide, e a ha, e b hb]
  simp

theorem laneStep_at (d : ℕ) (hd : d < 128) (v : IVec S160x128 32) (r : Fin 160) (l : Fin 128) :
    laneStep (BitVec.ofNat 32 d) v (ix2 r l) = v (ix2 r l) + if h : d ≤ l.val then v (ix2 r ⟨l.val - d, by omega⟩) else 0#32 := by
  have e : laneStep (BitVec.ofNat 32 d) v (ix2 r l) = IntOp.addi (v (ix2 r l))
      (Scalar.select (IntOp.cmpi CmpIPredicate.sge (BitVec.ofNat 32 l.val) (BitVec.ofNat 32 d))
        (v (ix2 r ⟨(l.val + 128 - (BitVec.ofNat 32 d).toNat % 128) % 128, Nat.mod_lt _ (by norm_num)⟩)) 0#32) := by
    pointwise [laneStep]
  rw [e, sge_small _ _ (by omega) (by omega)]
  have hl := l.isLt
  have ed : (BitVec.ofNat 32 d).toNat % 128 = d := by rw [BitVec.toNat_ofNat]; omega
  unfold IntOp.addi
  congr 1
  by_cases h : d ≤ l.val
  · rw [dif_pos h]
    simp only [h, decide_true, BitVec.ofBool_true, Scalar.select]
    rw [if_pos (by decide)]
    congr 3; rw [ed]; omega
  · rw [dif_neg h]
    simp [h, Scalar.select]

theorem rowStep_at (d : ℕ) (hd : d < 160) (v : IVec S160x1 32) (r : Fin 160) :
    rowStep (BitVec.ofNat 32 d) v (ix2 r 0) = v (ix2 r 0) + if h : d ≤ r.val then v (ix2 ⟨r.val - d, by omega⟩ 0) else 0#32 := by
  have e : rowStep (BitVec.ofNat 32 d) v (ix2 r 0) = IntOp.addi (v (ix2 r 0))
      (Scalar.select (IntOp.cmpi CmpIPredicate.sge (BitVec.ofNat 32 r.val) (BitVec.ofNat 32 d))
        (v (ix2 ⟨(r.val + 160 - (BitVec.ofNat 32 d).toNat % 160) % 160, Nat.mod_lt _ (by norm_num)⟩ 0)) 0#32) := by
    pointwise [rowStep]
  rw [e, sge_small _ _ (by omega) (by omega)]
  have hl := r.isLt
  have ed : (BitVec.ofNat 32 d).toNat % 160 = d := by rw [BitVec.toNat_ofNat]; omega
  unfold IntOp.addi
  congr 1
  by_cases h : d ≤ r.val
  · rw [dif_pos h]
    simp only [h, decide_true, BitVec.ofBool_true, Scalar.select]
    rw [if_pos (by decide)]
    congr 3; rw [ed]; omega
  · rw [dif_neg h]
    simp [h, Scalar.select]

/-- A lane step doubles the span of the sums a tile holds. -/
theorem laneStep_sum (d : ℕ) (hd : d < 128) (v : IVec S160x128 32) (f : ℕ → ℕ → ℕ)
    (h : ∀ (r : Fin 160) (l : Fin 128), v (ix2 r l) = BitVec.ofNat 32 (lastSum d (f r.val) l.val)) (r : Fin 160) (l : Fin 128) :
    laneStep (BitVec.ofNat 32 d) v (ix2 r l) = BitVec.ofNat 32 (lastSum (d + d) (f r.val) l.val) := by
  rw [laneStep_at d hd, lastSum_double, BitVec.ofNat_add, h]
  congr 1
  split
  · rw [h]
  · rfl

/-- A row step doubles the span of the sums a column holds. -/
theorem rowStep_sum (d : ℕ) (hd : d < 160) (v : IVec S160x1 32) (f : ℕ → ℕ)
    (h : ∀ r : Fin 160, v (ix2 r 0) = BitVec.ofNat 32 (lastSum d f r.val)) (r : Fin 160) :
    rowStep (BitVec.ofNat 32 d) v (ix2 r 0) = BitVec.ofNat 32 (lastSum (d + d) f r.val) := by
  rw [rowStep_at d hd, lastSum_double, BitVec.ofNat_add, h]
  congr 1
  split
  · rw [h]
  · rfl

/-- The running sums along the rows. -/
def lanes (x : IVec S160x128 32) : IVec S160x128 32 :=
  laneStep 64#32 (laneStep 32#32 (laneStep 16#32 (laneStep 8#32 (laneStep 4#32 (laneStep 2#32 (laneStep 1#32 x))))))
/-- The rows' totals. -/
def totals (x : IVec S160x128 32) : IVec S160x1 32 := extractStridedSlice S160x1 ![0, 127] (lanes x) slices_S160x128_o0_127_S160x1
/-- The running sums of the rows' totals. -/
def rows (x : IVec S160x128 32) : IVec S160x1 32 :=
  rowStep 128#32 (rowStep 64#32 (rowStep 32#32 (rowStep 16#32 (rowStep 8#32 (rowStep 4#32 (rowStep 2#32 (rowStep 1#32 (totals x))))))))
/-- The running sums of the whole tile, read row by row. -/
def running (x : IVec S160x128 32) : IVec S1x20480 32 :=
  shapeCast S1x20480 (addi (lanes x) (broadcastTo S160x128 (subi (rows x) (totals x)) broadcasts_S160x1_S160x128)) shapeCasts_S160x128_S1x20480

section
variable (x : IVec S160x128 32) (f : ℕ → ℕ) (hf : ∀ (r : Fin 160) (l : Fin 128), x (ix2 r l) = BitVec.ofNat 32 (f (128 * r.val + l.val)))
include hf

theorem lanes_at (r : Fin 160) (l : Fin 128) : lanes x (ix2 r l) = BitVec.ofNat 32 (∑ i ∈ Finset.range (l.val + 1), f (128 * r.val + i)) := by
  rw [← lastSum_all 128 (fun i => f (128 * r.val + i)) l.val l.isLt]
  refine laneStep_sum 64 (by norm_num) _ (fun r i => f (128 * r + i)) (fun r l => ?_) r l
  refine laneStep_sum 32 (by norm_num) _ (fun r i => f (128 * r + i)) (fun r l => ?_) r l
  refine laneStep_sum 16 (by norm_num) _ (fun r i => f (128 * r + i)) (fun r l => ?_) r l
  refine laneStep_sum 8 (by norm_num) _ (fun r i => f (128 * r + i)) (fun r l => ?_) r l
  refine laneStep_sum 4 (by norm_num) _ (fun r i => f (128 * r + i)) (fun r l => ?_) r l
  refine laneStep_sum 2 (by norm_num) _ (fun r i => f (128 * r + i)) (fun r l => ?_) r l
  refine laneStep_sum 1 (by norm_num) _ (fun r i => f (128 * r + i)) (fun r l => ?_) r l
  rw [hf, lastSum_one]

theorem totals_at (r : Fin 160) : totals x (ix2 r 0) = BitVec.ofNat 32 (∑ i ∈ Finset.range 128, f (128 * r.val + i)) := by
  have e : totals x (ix2 r 0) = lanes x (ix2 r 127) := by pointwise [totals]
  rw [e, lanes_at x f hf]
  rfl

theorem rows_at (r : Fin 160) :
    rows x (ix2 r 0) = BitVec.ofNat 32 (∑ q ∈ Finset.range (r.val + 1), ∑ i ∈ Finset.range 128, f (128 * q + i)) := by
  rw [← lastSum_all 256 (fun q => ∑ i ∈ Finset.range 128, f (128 * q + i)) r.val (by omega)]
  refine rowStep_sum 128 (by norm_num) _ _ (fun r => ?_) r
  refine rowStep_sum 64 (by norm_num) _ _ (fun r => ?_) r
  refine rowStep_sum 32 (by norm_num) _ _ (fun r => ?_) r
  refine rowStep_sum 16 (by norm_num) _ _ (fun r => ?_) r
  refine rowStep_sum 8 (by norm_num) _ _ (fun r => ?_) r
  refine rowStep_sum 4 (by norm_num) _ _ (fun r => ?_) r
  refine rowStep_sum 2 (by norm_num) _ _ (fun r => ?_) r
  refine rowStep_sum 1 (by norm_num) _ _ (fun r => ?_) r
  rw [totals_at x f hf, lastSum_one]

omit hf in
theorem sum_rows (r : ℕ) : ∑ q ∈ Finset.range r, ∑ i ∈ Finset.range 128, f (128 * q + i) = ∑ j ∈ Finset.range (128 * r), f j := by
  induction r with
  | zero => simp
  | succ r ih => rw [Finset.sum_range_succ, ih, Nat.mul_succ, Finset.sum_range_add]

/-- Every lane holds the sum of the words up to and including its own. -/
theorem running_at (n : Fin 20480) : running x (ix2 0 n) = BitVec.ofNat 32 (∑ j ∈ Finset.range (n.val + 1), f j) := by
  have hn := n.isLt
  have e : running x (ix2 0 n) = lanes x (ix2 ⟨n.val / 128, by omega⟩ ⟨n.val % 128, by omega⟩)
      + (rows x (ix2 ⟨n.val / 128, by omega⟩ 0) - totals x (ix2 ⟨n.val / 128, by omega⟩ 0)) := by
    pointwise [running]
    rfl
  rw [e, lanes_at x f hf, rows_at x f hf, totals_at x f hf]
  dsimp only
  rw [Finset.sum_range_succ (fun q => ∑ i ∈ Finset.range 128, f (128 * q + i)), BitVec.ofNat_add, BitVec.add_sub_cancel, ← BitVec.ofNat_add, sum_rows,
    Nat.add_comm]
  congr 1
  conv_rhs => rw [show n.val + 1 = 128 * (n.val / 128) + (n.val % 128 + 1) by omega]
  exact (Finset.sum_range_add _ _ _).symm
end

/-- One word per lane: the positive, and the negative above it. -/
def packed (s0 : FVec Ideal S64x20480 .f32) (s1 : FVec Ideal S64x1 .f32) : IVec S160x128 32 :=
  shapeCast S160x128 (addi (extui 32 (posOf (F := Ideal) s0 s1) natLt_1_32)
      (shli (extui 32 (cmpf .oeq (k0_pay36 (F := Ideal) (k0_pay21 s0) (k0_pay35 s0 s1)) (broadcast S1x20480 (Scalar.ofBits .f32 0x00000000#32 : Ideal .f32))) natLt_1_32) (broadcast S1x20480 15#32))) shapeCasts_S1x20480_S160x128

theorem cum_eq (s0 : FVec Ideal S64x20480 .f32) (s1 : FVec Ideal S64x1 .f32) : cumOf (F := Ideal) s0 s1 = running (packed s0 s1) := rfl

theorem fold_addi_ofNat {ι : Type} (s : Finset ι) (g : ι → BitVec 32) (f : ι → ℕ) (hg : ∀ i, g i = BitVec.ofNat 32 (f i)) :
    s.fold IntOp.addi 0#32 g = BitVec.ofNat 32 (∑ i ∈ s, f i) := by
  classical
  induction s using Finset.induction_on with
  | empty => simp
  | insert a s ha ih => rw [Finset.fold_insert ha, Finset.sum_insert ha, ih, hg, BitVec.ofNat_add]; rfl

theorem toInt_nat (c : ℕ) (hc : c < 2 ^ 31) : (BitVec.ofNat 32 c).toInt = c := by
  rw [BitVec.toInt_ofNat']; simp [Int.bmod]; omega

/-- The low fifteen bits of a packed word. -/
theorem pack_low (a b : ℕ) (ha : a ≤ 20480) (hb : b ≤ 20480) :
    IntOp.andi (BitVec.ofNat 32 (a + 32768 * b)) 32767#32 = BitVec.ofNat 32 a := by
  apply BitVec.eq_of_toNat_eq
  unfold IntOp.andi
  rw [BitVec.toNat_and, BitVec.toNat_ofNat, BitVec.toNat_ofNat, BitVec.toNat_ofNat]
  rw [show 32767 % 2 ^ 32 = 2 ^ 15 - 1 by norm_num, Nat.and_two_pow_sub_one_eq_mod]
  omega

/-- The bits above them. -/
theorem pack_high (a b : ℕ) (ha : a ≤ 20480) (hb : b ≤ 20480) :
    (IntOp.shrsi .vector (BitVec.ofNat 32 (a + 32768 * b)) 15#32).toInt = b := by
  unfold IntOp.shrsi
  rw [if_pos (by decide), BitVec.sshiftRight', show (15#32).toNat = 15 by decide, BitVec.toInt_sshiftRight, toInt_nat _ (by omega), Int.shiftRight_eq_div_pow]
  norm_cast
  omega

theorem gt_small (a : ℕ) (ha : a ≤ 20480) : IntOp.cmpi .sgt (BitVec.ofNat 32 a) 128#32 = BitVec.ofBool (decide (128 < a)) := by
  unfold IntOp.cmpi
  simp only [BitVec.slt_eq_decide, toInt_nat a (by omega), show (128#32).toInt = 128 by decide]
  congr 1; simp

/-- The room left for negatives, compared over the reals. -/
theorem room_lt (c b : ℕ) (hc : c ≤ 20480) :
    (Ideal.ofBits FTy.f32 1132462080#32 - (((Scalar.minsi (BitVec.ofNat 32 c) 128#32).toInt : ℝ) : EReal) < ((b : ℝ) : EReal)) ↔ 256 - min c 128 < b := by
  have e3 : (Scalar.minsi (BitVec.ofNat 32 c) 128#32).toInt = ((min c 128 : ℕ) : ℤ) := by
    show (IntOp.minsi (BitVec.ofNat 32 c) 128#32).toInt = _
    rw [Spec.toInt_minsi, toInt_nat c (by omega), show (128#32).toInt = 128 by decide]; norm_cast
  rw [Spec.c256_eq, e3, ← EReal.coe_sub, EReal.coe_lt_coe_iff]
  have hm : min c 128 ≤ 256 := (min_le_right _ _).trans (by norm_num)
  have : ((256 : ℝ) - (((min c 128 : ℕ) : ℤ) : ℝ)) = ((256 - min c 128 : ℕ) : ℝ) := by
    rw [Nat.cast_sub hm]; norm_cast
  rw [this]
  exact Nat.cast_lt

section
variable (u : ℕ → Fin 64 → EReal) (s0 : FVec Ideal S64x20480 .f32) (s1 : FVec Ideal S64x1 .f32)
  (h0 : ∀ (k : Fin 64) (n : Fin 20480), s0 (ix2 k n) = u n.val k) (h1 : ∀ k : Fin 64, s1 (ix2 k 0) = Spec.gb 20480 u k)
include h0 h1

open scoped Classical

theorem lab0_eq (n : Fin 20480) :
    k0_pay36 (F := Ideal) (k0_pay21 s0) (k0_pay35 s0 s1) (ix2 0 n) = Spec.lab0 (Spec.mx (u n.val)) (Spec.best 20480 u n.val) := by
  rw [Pure.lab0_at]
  simp only [h0, h1]
  rfl

theorem pos_eq (n : Fin 20480) : posOf (F := Ideal) s0 s1 (ix2 0 n) = BitVec.ofBool (decide (Spec.pos 20480 u n.val)) := by
  rw [Pure.pos_at, lab0_eq u s0 s1 h0 h1]
  unfold Spec.pos
  congr!

theorem packed_eq (r : Fin 160) (l : Fin 128) :
    packed s0 s1 (ix2 r l) = BitVec.ofNat 32 ((fun j => (if Spec.pos 20480 u j then 1 else 0) + 32768 * (if Spec.neg 20480 u j then 1 else 0)) (128 * r.val + l.val)) := by
  have hr := r.isLt
  have hl := l.isLt
  have e : packed s0 s1 (ix2 r l) = IntOp.addi (BitVec.setWidth 32 (posOf (F := Ideal) s0 s1 (ix2 0 ⟨r.val * 128 + l.val, by omega⟩)))
      (IntOp.shli ArithUnit.vector
        (BitVec.setWidth 32 (BitVec.ofBool (decide (k0_pay36 (F := Ideal) (k0_pay21 s0) (k0_pay35 s0 s1) (ix2 0 ⟨r.val * 128 + l.val, by omega⟩) = 0))))
        15#32) := by
    pointwise [packed]
  rw [e, pos_eq u s0 s1 h0 h1, lab0_eq u s0 s1 h0 h1]
  dsimp only
  rw [show 128 * r.val + l.val = r.val * 128 + l.val by omega]
  have en : Spec.neg 20480 u (r.val * 128 + l.val) ↔ Spec.lab0 (Spec.mx (u (r.val * 128 + l.val))) (Spec.best 20480 u (r.val * 128 + l.val)) = 0 := Iff.rfl
  by_cases hp : Spec.pos 20480 u (r.val * 128 + l.val) <;> by_cases hn : Spec.neg 20480 u (r.val * 128 + l.val) <;>
    simp only [hp, hn, en.symm, decide_true, decide_false, if_true, if_false] <;> decide

/-- The running word of a lane: the positives so far, and the negatives so far above them. -/
theorem cum_at (n : Fin 20480) :
    cumOf (F := Ideal) s0 s1 (ix2 0 n) = BitVec.ofNat 32 (Spec.cnt (Spec.pos 20480 u) (n.val + 1) + 32768 * Spec.cnt (Spec.neg 20480 u) (n.val + 1)) := by
  rw [cum_eq, running_at _ (fun j => (if Spec.pos 20480 u j then 1 else 0) + 32768 * (if Spec.neg 20480 u j then 1 else 0)) (packed_eq u s0 s1 h0 h1)]
  unfold Spec.cnt
  rw [Finset.mul_sum, ← Finset.sum_add_distrib]

theorem npos_at : wordOf (nposOf (F := Ideal) s0 s1) = BitVec.ofNat 32 (Spec.cnt (Spec.pos 20480 u) 20480) := by
  have e : wordOf (nposOf (F := Ideal) s0 s1)
      = Finset.fold IntOp.addi (0#32) (fun x : Fin 1 × Fin 20480 => BitVec.setWidth 32 (posOf (F := Ideal) s0 s1 (ix2 0 x.2))) Finset.univ := by
    pointwise [wordOf, nposOf, k0_pay45]
  rw [e, fold_addi_ofNat _ _ (fun x => if Spec.pos 20480 u x.2.val then 1 else 0)]
  · rw [Fintype.sum_prod_type, Fin.sum_univ_one]
    unfold Spec.cnt
    rw [← Fin.sum_univ_eq_sum_range (fun n => if Spec.pos 20480 u n then 1 else 0) 20480]
  · intro x
    rw [pos_eq u s0 s1 h0 h1]
    by_cases hp : Spec.pos 20480 u x.2.val <;> simp only [hp, decide_true, decide_false, if_true, if_false] <;> decide

theorem counts_lt (n : Fin 20480) : Spec.cnt (Spec.pos 20480 u) (n.val + 1) ≤ 20480 ∧ Spec.cnt (Spec.neg 20480 u) (n.val + 1) ≤ 20480 := by
  have := n.isLt
  have a := Spec.cnt_le (Spec.pos 20480 u) (n.val + 1)
  have b := Spec.cnt_le (Spec.neg 20480 u) (n.val + 1)
  constructor <;> omega

/-- The label after the positives are sampled. -/
theorem lab1_eq (n : Fin 20480) : labOf (F := Ideal) s0 s1 (ix2 0 n) = Spec.lab1 20480 u n.val := by
  obtain ⟨ha, hb⟩ := counts_lt u s0 s1 h0 h1 n
  rw [Pure.lab1_at, pos_eq u s0 s1 h0 h1, lab0_eq u s0 s1 h0 h1, cum_at u s0 s1 h0 h1]
  unfold Spec.lab1
  rw [pack_low _ _ ha hb, gt_small _ ha]
  generalize Spec.cnt (Spec.pos 20480 u) (n.val + 1) = a
  by_cases hp : Spec.pos 20480 u n.val <;> by_cases hq : 128 < a <;> simp [hp, hq, IntOp.andi, Scalar.select]

/-- The negatives' rank. -/
theorem nrank_eq (n : Fin 20480) :
    k0_pay4 (F := Ideal) (cumOf (F := Ideal) s0 s1) (ix2 0 n) = ((Spec.cnt (Spec.neg 20480 u) (n.val + 1) : ℝ) : EReal) := by
  obtain ⟨ha, hb⟩ := counts_lt u s0 s1 h0 h1 n
  rw [Pure.nrank_at, cum_at u s0 s1 h0 h1]
  show (((IntOp.shrsi .vector (BitVec.ofNat 32 (_ + 32768 * _)) 15#32).toInt : ℝ) : EReal) = _
  rw [pack_high _ _ ha hb]
  norm_cast

/-- The stored label. -/
theorem out5_eq (n : Fin 20480) :
    k0_pay7 (F := Ideal) (wordOf (nposOf (F := Ideal) s0 s1)) (labOf (F := Ideal) s0 s1) (k0_pay4 (F := Ideal) (cumOf (F := Ideal) s0 s1)) (ix3 0 0 n)
      = Spec.lab2 20480 u (Spec.cnt (Spec.pos 20480 u) 20480) n.val := by
  rw [Pure.out5_at, lab1_eq u s0 s1 h0 h1, nrank_eq u s0 s1 h0 h1, npos_at u s0 s1 h0 h1]
  unfold Spec.lab2
  have e4 := room_lt (Spec.cnt (Spec.pos 20480 u) 20480) (Spec.cnt (Spec.neg 20480 u) (n.val + 1)) (Spec.cnt_le (Spec.pos 20480 u) 20480)
  simp only [Spec.lab1_eq_zero, e4]

end

end Cert.KernelIdeal.Cum

end
-- ==== Proof.KVal.lean ====
/- The kernel's four results at coordinates, over the launch's arguments. -/
module

public import proofs.«01_k».proof.Proof.KIn
public import proofs.«01_k».proof.Proof.KLoc
public import proofs.«01_k».proof.Proof.Cum

@[expose] public section

set_option maxRecDepth 16384

noncomputable section

namespace Cert.KernelIdeal.Run

open Cert Cert.KernelIdeal Cert.KernelIdeal.Gen Cert.KernelIdeal.Steps
open Idealize.ShloMosaic Idealize.ShloMosaic.TcCoe Idealize.ShloMosaic.Tactic
open Idealize.SL.Sem

variable (m : (ℓ : Loc nD τ sig) → Buf (Elt Ideal) ℓ) (c : Dev nD) (b : Fin 8)

/-- Image `b`'s overlaps. -/
def tab : ℕ → Fin 64 → EReal := Spec.U (fun n q => A0 m c (ix3 b n q)) (fun k q => A1 m c (ix3 b k q))

theorem tab_zero (n : ℕ) (k : Fin 64) (h : 20000 ≤ n) : tab m c b n k = 0 := Spec.U_of_le _ _ n k h

theorem iou_tab (k : Fin 64) (n : Fin 20480) : Sc0 m c (pt b) (ix2 k n) = tab m c b n.val k := by
  unfold Sc0
  rw [Pure.iou_at]
  simp only [X0_at, X1_at]
  unfold tab Spec.U
  by_cases h : n.val < 20000
  · simp only [dif_pos h]
  · simp only [dif_neg h]
    exact Spec.ovl_zero _ _ _ _

theorem gtb_tab (k : Fin 64) : Sc1 m c (pt b) (ix2 k 0) = Spec.gb 20480 (tab m c b) k := by
  unfold Sc1
  rw [Pure.gtb_at]
  unfold Spec.gb
  congr 1
  funext n
  exact iou_tab m c b k n

theorem first_tab (n : Fin 20480) : (Spec.first fun k => Sc0 m c (pt b) (ix2 k n)) = Spec.first (tab m c b n.val) := by
  congr 1
  funext k
  exact iou_tab m c b k n

/-- Anchor `n`, of the padded ones. -/
def wide (n : Fin 20000) : Fin 20480 := ⟨n.val, lt_trans n.isLt (by norm_num)⟩

theorem box_tab (q : Fin 4) (n : Fin 20000) :
    k0_pay22 (F := Ideal) (Sc0 m c (pt b)) (X2 m c (pt b)) (ix2 ⟨q.val, by omega⟩ (wide n)) = A1 m c (ix3 b (Spec.first (tab m c b n.val)) q) := by
  rw [Pure.box_at, first_tab]
  exact X2_at m c b _ q

theorem lab_tab (n : Fin 20000) :
    k0_pay22 (F := Ideal) (Sc0 m c (pt b)) (X2 m c (pt b)) (ix2 4 (wide n)) = (((A2 m c (ix2 b (Spec.first (tab m c b n.val)))).toInt : ℝ) : EReal) := by
  rw [Pure.box_at, first_tab]
  exact X2_lab m c b _

theorem v5_tab (n : Fin 20000) :
    Y5 m c (pt b) (ix3 0 0 (wide n)) = Spec.lab2 20000 (tab m c b) (Spec.cnt (Spec.pos 20000 (tab m c b)) 20000) n.val := by
  unfold Y5 Sc5 Sc2 Sc3
  rw [Cum.out5_eq (tab m c b) (Sc0 m c (pt b)) (Sc1 m c (pt b)) (iou_tab m c b) (gtb_tab m c b)]
  exact Spec.lab2_pad (tab m c b) (by norm_num) (tab_zero m c b) n.val n.isLt

theorem v6_tab (n : Fin 20000) (h : ∀ k, (A2 m c (ix2 b k)).toInt < 2147483647) :
    Y6 m c (pt b) (ix3 0 0 (wide n)) = Spec.cls (Spec.lab2 20000 (tab m c b) (Spec.cnt (Spec.pos 20000 (tab m c b)) 20000) n.val) (A2 m c (ix2 b (Spec.first (tab m c b n.val)))) := by
  have e := v5_tab m c b n
  unfold Y5 at e
  unfold Y6
  rw [Pure.out6_at, e]
  unfold Sc4
  rw [Pure.mlab_at, lab_tab]
  exact Spec.fptosi_cls _ _ (h _)

theorem v3_tab (q : Fin 4) (n : Fin 20000) : Y3 m c (pt b) (ix3 0 q (wide n)) = A1 m c (ix3 b (Spec.first (tab m c b n.val)) q) := by
  unfold Y3
  rw [Pure.out3_at]
  exact box_tab m c b q n

theorem v4_tab (q : Fin 4) (n : Fin 20000) :
    Y4 m c (pt b) (ix3 0 q (wide n)) = Spec.loc (fun q => A0 m c (ix3 b n q)) (fun q => A1 m c (ix3 b (Spec.first (tab m c b n.val)) q)) q := by
  unfold Y4
  rw [Pure.loc_at]
  simp only [box_tab, X0_at]
  congr 1
  funext q
  exact dif_pos n.isLt

/-! ### The host's last operations -/

theorem cut3 (x : FVec Ideal S8x4x20480 .f32) (n : Fin 20000) (q : Fin 4) :
    extractStridedSlice S8x20000x4 ![0, 0, 0] (transpose S8x20480x4 [0, 2, 1] x transposes_S8x4x20480_S8x20480x4_0_2_1) slices_S8x20480x4_S8x20000x4_0_0_0 (ix3 b n q)
      = x (ix3 b q (wide n)) := by
  unfold wide
  pointwise []

theorem cut5 {α : Type} (x : S8x1x20480.Idx → α) (n : Fin 20000) :
    shapeCast S8x20000 (extractStridedSlice S8x1x20000 ![0, 0, 0] x slices_S8x1x20480_S8x1x20000_0_0_0) shapeCasts_S8x1x20000_S8x20000 (ix2 b n)
      = x (ix3 b 0 (wide n)) := by
  unfold wide
  pointwise []

theorem v9_at (n : Fin 20000) (q : Fin 4) :
    (Pipeline.afterTail₀ cfgs (dats m) 0 (V0 m) [hostOps1] c main_v9 : FVec Ideal S8x20000x4 .f32) (ix3 b n q) = A1 m c (ix3 b (Spec.first (tab m c b n.val)) q) := by
  rw [tail_v9]
  exact (cut3 b (G3 m c) n q).trans (v3_tab m c b q n)

theorem v11_at (n : Fin 20000) (q : Fin 4) :
    (Pipeline.afterTail₀ cfgs (dats m) 0 (V0 m) [hostOps1] c main_v11 : FVec Ideal S8x20000x4 .f32) (ix3 b n q)
      = Spec.loc (fun q => A0 m c (ix3 b n q)) (fun q => A1 m c (ix3 b (Spec.first (tab m c b n.val)) q)) q := by
  rw [tail_v11]
  exact (cut3 b (G4 m c) n q).trans (v4_tab m c b q n)

theorem v13_at (n : Fin 20000) :
    (Pipeline.afterTail₀ cfgs (dats m) 0 (V0 m) [hostOps1] c main_v13 : FVec Ideal S8x20000 .f32) (ix2 b n)
      = Spec.lab2 20000 (tab m c b) (Spec.cnt (Spec.pos 20000 (tab m c b)) 20000) n.val := by
  rw [tail_v13]
  exact (cut5 b (G5 m c) n).trans (v5_tab m c b n)

theorem v15_at (n : Fin 20000) (h : ∀ k, (A2 m c (ix2 b k)).toInt < 2147483647) :
    (Pipeline.afterTail₀ cfgs (dats m) 0 (V0 m) [hostOps1] c main_v15 : IVec S8x20000 32) (ix2 b n)
      = Spec.cls (Spec.lab2 20000 (tab m c b) (Spec.cnt (Spec.pos 20000 (tab m c b)) 20000) n.val) (A2 m c (ix2 b (Spec.first (tab m c b n.val)))) := by
  rw [tail_v15]
  exact (cut5 b (G6 m c) n).trans (v6_tab m c b n h)

/-! ### The results when the program is over -/

/-- The boxes. -/
def out9 : FVec Ideal S8x20000x4 .f32 := Pipeline.afterTail₀ cfgs (dats m) 0 (V0 m) [hostOps1] c main_v9
/-- The deltas. -/
def out11 : FVec Ideal S8x20000x4 .f32 := Pipeline.afterTail₀ cfgs (dats m) 0 (V0 m) [hostOps1] c main_v11
/-- The labels. -/
def out13 : FVec Ideal S8x20000 .f32 := Pipeline.afterTail₀ cfgs (dats m) 0 (V0 m) [hostOps1] c main_v13
/-- The class labels. -/
def out15 : IVec S8x20000 32 := Pipeline.afterTail₀ cfgs (dats m) 0 (V0 m) [hostOps1] c main_v15

theorem run_out (ρ : Dev nD → PrngReg) : θ_run defs (onTc (τ := τ) (main (F := Ideal))) ⟨m, fun _ => 0, ρ⟩ (fun r => ∀ c : Dev nD,
      r.2.mem ((c.tc : Thread nD τ).loc main_v9) = out9 m c
      ∧ r.2.mem ((c.tc : Thread nD τ).loc main_v11) = out11 m c
      ∧ r.2.mem ((c.tc : Thread nD τ).loc main_v13) = out13 m c
      ∧ r.2.mem ((c.tc : Thread nD τ).loc main_v15) = out15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1 c).2 main_v9 (Pipeline.mem_restRefs_of main_v9 (by decide) (by decide)),
      (h.1.1 c).2 main_v11 (Pipeline.mem_restRefs_of main_v11 (by decide) (by decide)),
      (h.1.1 c).2 main_v13 (Pipeline.mem_restRefs_of main_v13 (by decide) (by decide)),
      (h.1.1 c).2 main_v15 (Pipeline.mem_restRefs_of main_v15 (by decide) (by decide)),
      (h.2.1 c).1, (h.2.1 c).2.1, (h.2.1 c).2.2⟩)
    (θ_run_and (run_main m ρ) (unchanged m ρ))

end Cert.KernelIdeal.Run

end
-- ==== Proof.RPure.lean ====
/- The reference's arithmetic read one element at a time over the extended reals: the overlaps, the reductions and
   the gathers. -/
module

public import proofs.«01_k».proof.Proof.RefRun
public import proofs.«01_k».proof.Proof.Spec
public import Idealize.ShloMosaic.Lib.Routing.Ops

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen
open Routing (shape0 shape2)

/-! ### Reductions along one axis -/

theorem drop_d2 (i : S8x20000x64.Idx) (b : Fin 8) (n : Fin 20000) : reducesTo_S8x20000x64_S8x20000_d2.drop i = ix2 b n ↔ ∃ k : Fin 64, i = ix3 b n k := by
  have e0 : (reducesTo_S8x20000x64_S8x20000_d2.drop i 0).val = (i 0).val := Shape.ReducesTo.drop_apply_val_of_eq _ _ _ _ (by decide)
  have e1 : (reducesTo_S8x20000x64_S8x20000_d2.drop i 1).val = (i 1).val := Shape.ReducesTo.drop_apply_val_of_eq _ _ _ _ (by decide)
  constructor
  · intro h
    rw [h] at e0 e1
    refine ⟨i 2, ?_⟩
    funext a; apply Fin.ext
    match a with
    | ⟨0, _⟩ => exact e0.symm
    | ⟨1, _⟩ => exact e1.symm
    | ⟨2, _⟩ => rfl
  · rintro ⟨k, rfl⟩
    funext a; apply Fin.ext
    match a with
    | ⟨0, _⟩ => exact e0
    | ⟨1, _⟩ => exact e1

theorem drop_d1 (i : S8x20000x64.Idx) (b : Fin 8) (k : Fin 64) : reducesTo_S8x20000x64_S8x64_d1.drop i = ix2 b k ↔ ∃ n : Fin 20000, i = ix3 b n k := by
  have e0 : (reducesTo_S8x20000x64_S8x64_d1.drop i 0).val = (i 0).val := Shape.ReducesTo.drop_apply_val_of_eq _ _ _ _ (by decide)
  have e1 : (reducesTo_S8x20000x64_S8x64_d1.drop i 1).val = (i 2).val := Shape.ReducesTo.drop_apply_val_of_eq _ _ _ _ (by decide)
  constructor
  · intro h
    rw [h] at e0 e1
    refine ⟨i 1, ?_⟩
    funext a; apply Fin.ext
    match a with
    | ⟨0, _⟩ => exact e0.symm
    | ⟨1, _⟩ => rfl
    | ⟨2, _⟩ => exact e1.symm
  · rintro ⟨n, rfl⟩
    funext a; apply Fin.ext
    match a with
    | ⟨0, _⟩ => exact e0
    | ⟨1, _⟩ => exact e1

theorem ix3_inj2 (b : Fin 8) (n : Fin 20000) : Function.Injective fun k : Fin 64 => (ix3 b n k : S8x20000x64.Idx) := fun k k' h => congrFun h 2
theorem ix3_inj1 (b : Fin 8) (k : Fin 64) : Function.Injective fun n : Fin 20000 => (ix3 b n k : S8x20000x64.Idx) := fun k k' h => congrFun h 1

theorem fold_filter {ι κ α : Type} [Fintype ι] [Fintype κ] (P : ι → Prop) [DecidablePred P] (e : κ ↪ ι) (h : ∀ i, P i ↔ ∃ k, i = e k)
    (f : α → α → α) [Std.Commutative f] [Std.Associative f] (c : α) (x : ι → α) :
    (Finset.univ.filter P).fold f c x = Finset.univ.fold f c fun k => x (e k) := by
  have hm : Finset.univ.filter P = Finset.univ.map e := by
    ext i
    simp [h, eq_comm]
  rw [hm, Finset.fold_map]
  rfl

theorem reduce_d2 {α : Type} (f : α → α → α) [Std.Commutative f] [Std.Associative f] (x : S8x20000x64.Idx → α) (init : S_.Idx → α) (b : Fin 8) (n : Fin 20000) :
    Host.reduce f x init reducesTo_S8x20000x64_S8x20000_d2 h_S_ (ix2 b n) = Finset.univ.fold f (init (Shape.Idx.first h_S_)) fun k : Fin 64 => x (ix3 b n k) := by
  rw [Host.reduce_eq_fold]
  exact fold_filter _ ⟨fun k : Fin 64 => ix3 b n k, ix3_inj2 b n⟩ (fun i => drop_d2 i b n) f _ x

theorem reduce_d1 {α : Type} (f : α → α → α) [Std.Commutative f] [Std.Associative f] (x : S8x20000x64.Idx → α) (init : S_.Idx → α) (b : Fin 8) (k : Fin 64) :
    Host.reduce f x init reducesTo_S8x20000x64_S8x64_d1 h_S_ (ix2 b k) = Finset.univ.fold f (init (Shape.Idx.first h_S_)) fun n : Fin 20000 => x (ix3 b n k) := by
  rw [Host.reduce_eq_fold]
  exact fold_filter _ ⟨fun n : Fin 20000 => ix3 b n k, ix3_inj1 b k⟩ (fun i => drop_d1 i b k) f _ x

theorem drop_n (i : S8x20000.Idx) (b : Fin 8) : reducesTo_S8x20000_S8_d1.drop i = ix1 b ↔ ∃ n : Fin 20000, i = ix2 b n := by
  have e0 : (reducesTo_S8x20000_S8_d1.drop i 0).val = (i 0).val := Shape.ReducesTo.drop_apply_val_of_eq _ _ _ _ (by decide)
  constructor
  · intro h
    rw [h] at e0
    refine ⟨i 1, ?_⟩
    funext a; apply Fin.ext
    match a with
    | ⟨0, _⟩ => exact e0.symm
    | ⟨1, _⟩ => rfl
  · rintro ⟨n, rfl⟩
    funext a; apply Fin.ext
    match a with
    | ⟨0, _⟩ => exact e0

theorem ix2_inj (b : Fin 8) : Function.Injective fun n : Fin 20000 => (ix2 b n : S8x20000.Idx) := fun k k' h => congrFun h 1

theorem reduce_n {α : Type} (f : α → α → α) [Std.Commutative f] [Std.Associative f] (x : S8x20000.Idx → α) (init : S_.Idx → α) (b : Fin 8) :
    Host.reduce f x init reducesTo_S8x20000_S8_d1 h_S_ (ix1 b) = Finset.univ.fold f (init (Shape.Idx.first h_S_)) fun n : Fin 20000 => x (ix2 b n) := by
  rw [Host.reduce_eq_fold]
  exact fold_filter _ ⟨fun n : Fin 20000 => ix2 b n, ix2_inj b⟩ (fun i => drop_n i b) f _ x

theorem drop_u (i : S8x20000x1.Idx) (b : Fin 8) (n : Fin 20000) : reducesTo_S8x20000x1_S8x20000_d2.drop i = ix2 b n ↔ ∃ k : Fin 1, i = ix3 b n k := by
  have e0 : (reducesTo_S8x20000x1_S8x20000_d2.drop i 0).val = (i 0).val := Shape.ReducesTo.drop_apply_val_of_eq _ _ _ _ (by decide)
  have e1 : (reducesTo_S8x20000x1_S8x20000_d2.drop i 1).val = (i 1).val := Shape.ReducesTo.drop_apply_val_of_eq _ _ _ _ (by decide)
  constructor
  · intro h
    rw [h] at e0 e1
    refine ⟨i 2, ?_⟩
    funext a; apply Fin.ext
    match a with
    | ⟨0, _⟩ => exact e0.symm
    | ⟨1, _⟩ => exact e1.symm
    | ⟨2, _⟩ => rfl
  · rintro ⟨k, rfl⟩
    funext a; apply Fin.ext
    match a with
    | ⟨0, _⟩ => exact e0
    | ⟨1, _⟩ => exact e1

theorem ix3_inju (b : Fin 8) (n : Fin 20000) : Function.Injective fun k : Fin 1 => (ix3 b n k : S8x20000x1.Idx) := fun k k' h => congrFun h 2

theorem reduce_u {α : Type} (f : α → α → α) [Std.Commutative f] [Std.Associative f] (x : S8x20000x1.Idx → α) (init : S_.Idx → α) (b : Fin 8) (n : Fin 20000) :
    Host.reduce f x init reducesTo_S8x20000x1_S8x20000_d2 h_S_ (ix2 b n) = f (x (ix3 b n 0)) (init (Shape.Idx.first h_S_)) := by
  rw [Host.reduce_eq_fold]
  refine (fold_filter _ ⟨fun k : Fin 1 => ix3 b n k, ix3_inju b n⟩ (fun i => drop_u i b n) f _ x).trans ?_
  simp

/-! ### The arg-max -/

theorem reducer_eq (a b : EReal × BitVec 32) : reducer_argmax_f32_i32 (F := Ideal) a b = Spec.pick a b := by
  obtain ⟨a1, a2⟩ := a
  obtain ⟨b1, b2⟩ := b
  unfold reducer_argmax_f32_i32 Spec.pick
  have e1 : FloatOps.cmpf (F := Ideal) (φ := .f32) .ogt a1 b1 = BitVec.ofBool (decide (b1 < a1)) := by
    pointwise []
  have e2 : FloatOps.cmpf (F := Ideal) (φ := .f32) .une a1 a1 = 0#1 := by
    simp [Ideal.cmpf_def, Ideal.cmp]
  have e3 : FloatOps.cmpf (F := Ideal) (φ := .f32) .oeq a1 b1 = BitVec.ofBool (decide (a1 = b1)) := by
    pointwise []
  have e4 : IntOp.cmpi .slt a2 b2 = BitVec.ofBool (decide (a2.toInt < b2.toInt)) := by
    unfold IntOp.cmpi
    simp only [BitVec.slt_eq_decide]
  dsimp only
  rw [e1, e2, e3, e4]
  by_cases h1 : b1 < a1
  · by_cases h2 : a1 = b1 <;> by_cases h3 : a2.toInt < b2.toInt <;> simp [h1, h2, h3, IntOp.ori, IntOp.andi, Scalar.select]
  · by_cases h2 : a1 = b1 <;> by_cases h3 : a2.toInt < b2.toInt <;> simp [h1, h2, h3, IntOp.ori, IntOp.andi, Scalar.select]

theorem arg_at (x : FVec Ideal S8x20000x64 .f32) (b : Fin 8) (n : Fin 20000) :
    (Host.argReduce reducer_argmax_f32_i32 x (iotaInDim S8x20000x64 32 2) (constant S_ .f32 0xFF800000#32) (constantI S_ 32 0#32) reducesTo_S8x20000x64_S8x20000_d2 h_S_ (ix2 b n)).2
      = BitVec.ofNat 32 (Spec.first fun k => x (ix3 b n k)).val := by
  rw [Ideal.argReduce_eq_reduce2, Host.reduce2_eq_foldl_fiber]
  have hf : reducer_argmax_f32_i32 (F := Ideal) = Spec.pick := funext fun a => funext fun c => reducer_eq a c
  have hc : ((constant S_ .f32 0xFF800000#32 : FVec Ideal S_ .f32) (Shape.Idx.first h_S_), (constantI S_ 32 0#32) (Shape.Idx.first h_S_)) = ((⊥ : EReal), 0#32) := by
    rw [← Spec.neg_inf_eq]; rfl
  rw [hf, hc]
  refine Spec.foldl_pick_first (fun k => x (ix3 b n k)) _ fun p => ?_
  unfold Host.argReduceFiber
  rw [List.mem_map]
  constructor
  · rintro ⟨m, hm, rfl⟩
    obtain ⟨k, hk⟩ := (drop_d2 _ b n).1 (of_decide_eq_true (List.mem_filter.1 hm).2)
    refine ⟨k, ?_⟩
    rw [hk]
    rfl
  · rintro ⟨k, rfl⟩
    refine ⟨S8x20000x64.rowMajor (ix3 b n k), List.mem_filter.2 ⟨List.mem_finRange _, decide_eq_true ?_⟩, ?_⟩
    · rw [Equiv.symm_apply_apply]
      exact (drop_d2 _ b n).2 ⟨k, rfl⟩
    · rw [Equiv.symm_apply_apply]
      rfl

/-! ### The gathers -/

theorem gather_box (x : S8x64x4.Idx → EReal) (idx : IVec S8x20000x1 32) (b : Fin 8) (n : Fin 20000) (q : Fin 4) (k : Fin 64)
    (h : idx (ix3 b n 0) = BitVec.ofNat 32 k.val) :
    Host.gather gather_S8x64x4_S8x20000x1_S8x20000x4_2_1_0_0_1_2_114 x idx (ix3 b n q) = x (ix3 b k q) := by
  unfold Host.gather
  refine congrArg x (funext fun a => Fin.ext ?_)
  have hk := k.isLt
  have hs : gather_S8x64x4_S8x20000x1_S8x20000x4_2_1_0_0_1_2_114.siIdx (ix3 b n q) ⟨0, by decide⟩ = ix3 b n 0 := by
    funext c; apply Fin.ext
    match c with
    | ⟨0, _⟩ => rfl
    | ⟨1, _⟩ => rfl
    | ⟨2, _⟩ => rfl
  match a with
  | ⟨0, _⟩ => show 0 + b.val + 0 = b.val; omega
  | ⟨1, _⟩ =>
    show min ((idx (gather_S8x64x4_S8x20000x1_S8x20000x4_2_1_0_0_1_2_114.siIdx (ix3 b n q) ⟨0, by decide⟩)).toInt).toNat 63 + 0 + 0 = k.val
    rw [hs, h, Spec.toInt_small]
    omega
  | ⟨2, _⟩ => show 0 + 0 + q.val = q.val; omega

theorem gather_lab (x : IVec S8x64 32) (idx : IVec S8x20000x1 32) (b : Fin 8) (n : Fin 20000) (k : Fin 64)
    (h : idx (ix3 b n 0) = BitVec.ofNat 32 k.val) :
    Host.gather gather_S8x64_S8x20000x1_S8x20000_n_1_0_0_1_2_11 x idx (ix2 b n) = x (ix2 b k) := by
  unfold Host.gather
  refine congrArg x (funext fun a => Fin.ext ?_)
  have hk := k.isLt
  have hs : gather_S8x64_S8x20000x1_S8x20000_n_1_0_0_1_2_11.siIdx (ix2 b n) ⟨0, by decide⟩ = ix3 b n 0 := by
    funext c; apply Fin.ext
    match c with
    | ⟨0, _⟩ => rfl
    | ⟨1, _⟩ => rfl
    | ⟨2, _⟩ => rfl
  match a with
  | ⟨0, _⟩ => show 0 + b.val + 0 = b.val; omega
  | ⟨1, _⟩ =>
    show min ((idx (gather_S8x64_S8x20000x1_S8x20000_n_1_0_0_1_2_11.siIdx (ix2 b n) ⟨0, by decide⟩)).toInt).toNat 63 + 0 + 0 = k.val
    rw [hs, h, Spec.toInt_small]
    omega

/-! ### The running count -/

/-- A running sum along the last axis reads its own row alone. -/
theorem cumsum_row {A N Nm1 : ℕ} (x : IVec (shape2 A N) 32) (init : IVec shape0 32) (h : (shape2 A N).ReduceWindows (![1, N] : Fin 2 → ℕ) ![1, 1] ![0, Nm1] ![0, 0] (shape2 A N))
    (h' : (shape2 1 N).ReduceWindows (![1, N] : Fin 2 → ℕ) ![1, 1] ![0, Nm1] ![0, 0] (shape2 1 N)) (hu : 0 < shape0.numel) (b : Fin A) (j : Fin N) :
    Host.reduceWindow IntOp.addi ![1, N] ![1, 1] ![0, Nm1] ![0, 0] x init h hu (ix2 b j)
      = Host.reduceWindow IntOp.addi ![1, N] ![1, 1] ![0, Nm1] ![0, 0] (fun i : (shape2 1 N).Idx => x (ix2 b (i 1))) init h' hu (ix2 (0 : Fin 1) j) := by
  unfold Host.reduceWindow
  refine congrArg (fun f => List.foldl f _ _) (funext fun r => funext fun n => congrArg (IntOp.addi r) ?_)
  have hw : ((shape2 1 N).rowMajor.symm n 0).val = 0 := by
    have := ((shape2 1 N).rowMajor.symm n 0).isLt
    change _ < 1 at this
    omega
  have hb := b.isLt
  by_cases hin : Nm1 ≤ j.val * 1 + ((shape2 1 N).rowMajor.symm n 1).val ∧ j.val * 1 + ((shape2 1 N).rowMajor.symm n 1).val - Nm1 < N
  · rw [dif_pos (fun a => by
      match a with
      | ⟨0, _⟩ =>
        show 0 ≤ b.val * 1 + ((shape2 1 N).rowMajor.symm n 0).val ∧ b.val * 1 + ((shape2 1 N).rowMajor.symm n 0).val - 0 < A
        rw [hw]; omega
      | ⟨1, _⟩ => exact hin), dif_pos (fun a => by
      match a with
      | ⟨0, _⟩ =>
        show 0 ≤ 0 * 1 + ((shape2 1 N).rowMajor.symm n 0).val ∧ 0 * 1 + ((shape2 1 N).rowMajor.symm n 0).val - 0 < 1
        rw [hw]; omega
      | ⟨1, _⟩ => exact hin)]
    refine congrArg x (funext fun a => Fin.ext ?_)
    match a with
    | ⟨0, _⟩ =>
      show b.val * 1 + ((shape2 1 N).rowMajor.symm n 0).val - 0 = b.val
      rw [hw]; omega
    | ⟨1, _⟩ => rfl
  · rw [dif_neg (fun hc => hin (hc 1)), dif_neg (fun hc => hin (hc 1))]

theorem cumsum_at (x : IVec S8x20000 32) (init : IVec S_ 32) (hinit : init ix0 = 0#32) (f : ℕ → ℕ) (b : Fin 8)
    (hx : ∀ n : Fin 20000, x (ix2 b n) = BitVec.ofNat 32 (f n.val)) (n : Fin 20000) :
    Host.reduceWindow IntOp.addi ![1, 20000] ![1, 1] ![0, 19999] ![0, 0] x init reduceWindows_S8x20000_S8x20000_w1s1p0_0_w20000s1p19999_0 h_S_ (ix2 b n)
      = BitVec.ofNat 32 (∑ i ∈ Finset.range (n.val + 1), f i) := by
  have h' : (shape2 1 20000).ReduceWindows (![1, 20000] : Fin 2 → ℕ) ![1, 1] ![0, 19999] ![0, 0] (shape2 1 20000) := by decide
  refine (cumsum_row (Nm1 := 19999) x init _ h' _ b n).trans ?_
  refine (Routing.cumsum2 (Nm1 := 19999) (by norm_num) (fun i : (shape2 1 20000).Idx => x (ix2 b (i 1))) f (fun i => hx i) init hinit h' _ n).trans ?_
  rfl

end Cert.RefRun

end
-- ==== Proof.RVal0.lean ====
/- The reference's overlaps in the common terms. -/
module

public import proofs.«01_k».proof.Proof.RPure

@[expose] public section

set_option maxRecDepth 16384

noncomputable section

namespace Cert.RefRun

open Idealize.ShloMosaic Idealize.ShloMosaic.TcCoe Idealize.SL.Sem
open Cert.ReferenceIdeal Cert.ReferenceIdeal.Gen
open Idealize.ShloMosaic.StableHlo
open scoped Classical

/-- Image `b`'s anchors. -/
def anc (V0 : Valuation τ sig (Elt Ideal)) (b : Fin 8) (n : Fin 20000) (q : Fin 4) : EReal := (V0 (Proc.devRef .tc main_arg0) : FVec Ideal S8x20000x4 .f32) (ix3 b n q)
/-- Image `b`'s boxes. -/
def box (V0 : Valuation τ sig (Elt Ideal)) (b : Fin 8) (k : Fin 64) (q : Fin 4) : EReal := (V0 (Proc.devRef .tc main_arg1) : FVec Ideal S8x64x4 .f32) (ix3 b k q)
/-- Image `b`'s overlaps. -/
def tab (V0 : Valuation τ sig (Elt Ideal)) (b : Fin 8) : ℕ → Fin 64 → EReal := Spec.U (anc V0 b) (box V0 b)
/-- Every anchor lies inside the image. -/
def AllIn (V0 : Valuation τ sig (Elt Ideal)) : Prop := ∀ (b : Fin 8) (n : Fin 20000), res_main_v18 (F := Ideal) V0 (ix2 b n) = 1#1

variable (V0 : Valuation τ sig (Elt Ideal))

theorem ious (hin : AllIn V0) (b : Fin 8) (n : Fin 20000) (k : Fin 64) : res_main_v76 (F := Ideal) V0 (ix3 b n k) = tab V0 b n.val k := by
  have h := hin b n
  unfold tab
  rw [Spec.U_of_lt]
  unfold Spec.ovl anc box res_main_v76
  generalize res_main_v18 (F := Ideal) V0 = p at h
  simp only [id_eq]
  pointwise [res_main_v39, res_main_v34, id_eq]
  rw [h]
  rfl

end Cert.RefRun

end
-- ==== Proof.RVal1.lean ====
/- The reference's overlaps, largest overlaps, first boxes and labels before sampling, in the common terms. -/
module

public import proofs.«01_k».proof.Proof.RVal0

@[expose] public section

set_option maxRecDepth 16384

noncomputable section

namespace Cert.RefRun

open Idealize.ShloMosaic Idealize.ShloMosaic.TcCoe Idealize.SL.Sem
open Cert.ReferenceIdeal Cert.ReferenceIdeal.Gen
open Idealize.ShloMosaic.StableHlo
open scoped Classical

variable (V0 : Valuation τ sig (Elt Ideal))

theorem max_d2 (x : FVec Ideal S8x20000x64 .f32) (b : Fin 8) (n : Fin 20000) (u : Fin 64 → EReal) (h : ∀ k, x (ix3 b n k) = u k) :
    Host.reduce FloatOps.maximumf x (constant (F := Ideal) S_ .f32 0xFF800000#32) reducesTo_S8x20000x64_S8x20000_d2 h_S_ (ix2 b n) = Spec.mx u := by
  refine (reduce_d2 (max : EReal → EReal → EReal) x _ b n).trans ?_
  unfold Spec.mx
  rw [← Spec.neg_inf_eq, show u = fun k => x (ix3 b n k) from funext fun k => (h k).symm]
  rfl

theorem max_d1 (x : FVec Ideal S8x20000x64 .f32) (b : Fin 8) (k : Fin 64) (u : ℕ → Fin 64 → EReal) (h : ∀ n : Fin 20000, x (ix3 b n k) = u n.val k) :
    Host.reduce FloatOps.maximumf x (constant (F := Ideal) S_ .f32 0xFF800000#32) reducesTo_S8x20000x64_S8x64_d1 h_S_ (ix2 b k) = Spec.gb 20000 u k := by
  refine (reduce_d1 (max : EReal → EReal → EReal) x _ b k).trans ?_
  unfold Spec.gb
  rw [← Spec.neg_inf_eq, show (fun n : Fin 20000 => u n.val k) = fun n => x (ix3 b n k) from funext fun n => (h n).symm]
  rfl

theorem maxes (hin : AllIn V0) (b : Fin 8) (n : Fin 20000) : res_main_v77 (F := Ideal) V0 (ix2 b n) = Spec.mx (tab V0 b n.val) := by
  have h := ious V0 hin b n
  unfold res_main_v77
  generalize res_main_v76 (F := Ideal) V0 = x at h
  exact max_d2 x b n _ h

theorem arg_at' (x : FVec Ideal S8x20000x64 .f32) (u : Fin 64 → EReal) (b : Fin 8) (n : Fin 20000) (h : ∀ k, x (ix3 b n k) = u k)
    (y : IVec S8x20000 32) (hy : y = fun j => (Host.argReduce reducer_argmax_f32_i32 x (iotaInDim S8x20000x64 32 2) (constant (F := Ideal) S_ .f32 0xFF800000#32) (constantI S_ 32 0#32) reducesTo_S8x20000x64_S8x20000_d2 h_S_ j).2) :
    y (ix2 b n) = BitVec.ofNat 32 (Spec.first u).val := by
  rw [hy, show u = fun k => x (ix3 b n k) from funext fun k => (h k).symm]
  exact arg_at x b n

theorem firsts (hin : AllIn V0) (b : Fin 8) (n : Fin 20000) : res_main_v78 (F := Ideal) V0 (ix2 b n) = BitVec.ofNat 32 (Spec.first (tab V0 b n.val)).val :=
  arg_at' (res_main_v76 (F := Ideal) V0) _ b n (ious V0 hin b n) _ (by unfold res_main_v78; rfl)

theorem gts (hin : AllIn V0) (b : Fin 8) (k : Fin 64) : res_main_v84 (F := Ideal) V0 (ix3 b 0 k) = Spec.gb 20000 (tab V0 b) k := by
  have h := fun n => ious V0 hin b n k
  unfold res_main_v84
  generalize res_main_v76 (F := Ideal) V0 = x at h
  have e : ∀ y : FVec Ideal S8x64 .f32, broadcastInDim S8x1x64 ![0, 2] bcast_S8x64_S8x1x64_0_2 y (ix3 b 0 k) = y (ix2 b k) := fun y => by pointwise []
  exact (e _).trans (max_d1 x b k _ h)

theorem fold_ori {ι : Type} [Fintype ι] (P : ι → Prop) (f : ι → BitVec 1) (hf : ∀ i, f i = BitVec.ofBool (decide (P i))) :
    Finset.univ.fold IntOp.ori 0#1 f = BitVec.ofBool (decide (∃ i, P i)) := by
  have key : ∀ s : Finset ι, s.fold IntOp.ori 0#1 f = BitVec.ofBool (decide (∃ i ∈ s, P i)) := fun s => by
    induction s using Finset.induction_on with
    | empty => simp
    | insert a s ha ih =>
      rw [Finset.fold_insert ha, ih, hf]
      by_cases h1 : P a <;> by_cases h2 : ∃ i ∈ s, P i <;> simp [h1, h2, IntOp.ori]
  rw [key]; simp

theorem any_at (y : IVec S8x20000x64 1) (b : Fin 8) (n : Fin 20000) (P : Fin 64 → Prop) (h : ∀ k, y (ix3 b n k) = BitVec.ofBool (decide (P k))) :
    Host.reduce IntOp.ori y (constantI S_ 1 0#1) reducesTo_S8x20000x64_S8x20000_d2 h_S_ (ix2 b n) = BitVec.ofBool (decide (∃ k, P k)) := by
  rw [reduce_d2]
  refine Eq.trans (fold_ori P (fun k => y (ix3 b n k)) fun k => (h k).trans (by congr!)) (by congr!)

theorem hit_at (x : FVec Ideal S8x20000x64 .f32) (g : FVec Ideal S8x1x64 .f32) (b : Fin 8) (n : Fin 20000) (k : Fin 64) :
    (andi (cmpf .oeq x (broadcastInDim S8x20000x64 ![0, 1, 2] bcast_S8x1x64_S8x20000x64_0_1_2 g)) (broadcastInDim S8x20000x64 ![0, 1, 2] bcast_S8x1x64_S8x20000x64_0_1_2 (cmpf .ogt g (broadcastInDim S8x1x64 ![] bcast_S_S8x1x64 (constant (F := Ideal) S_ .f32 0x00000000#32))))) (ix3 b n k)
      = BitVec.ofBool (decide (x (ix3 b n k) = g (ix3 b 0 k) ∧ 0 < g (ix3 b 0 k))) := by
  have e : (andi (cmpf .oeq x (broadcastInDim S8x20000x64 ![0, 1, 2] bcast_S8x1x64_S8x20000x64_0_1_2 g)) (broadcastInDim S8x20000x64 ![0, 1, 2] bcast_S8x1x64_S8x20000x64_0_1_2 (cmpf .ogt g (broadcastInDim S8x1x64 ![] bcast_S_S8x1x64 (constant (F := Ideal) S_ .f32 0x00000000#32))))) (ix3 b n k)
      = IntOp.andi (BitVec.ofBool (decide (x (ix3 b n k) = g (ix3 b 0 k)))) (BitVec.ofBool (decide (0 < g (ix3 b 0 k)))) := by
    pointwise []
  rw [e]
  by_cases h1 : x (ix3 b n k) = g (ix3 b 0 k) <;> by_cases h2 : 0 < g (ix3 b 0 k) <;> simp [h1, h2, IntOp.andi]

theorem pick_at (p : IVec S8x20000 1) (m : FVec Ideal S8x20000 .f32) (y : IVec S8x20000 1) (b : Fin 8) (n : Fin 20000) (u : EReal) (B : Prop)
    (h : p (ix2 b n) = 1#1) (hm : m (ix2 b n) = u) (hy : y (ix2 b n) = BitVec.ofBool (decide B)) :
    (select p (select (cmpf .oge m (broadcastInDim S8x20000 ![] bcast_S_S8x20000 (constant (F := Ideal) S_ .f32 0x3F333333#32))) (broadcastInDim S8x20000 ![] bcast_S_S8x20000 (constant (F := Ideal) S_ .f32 0x3F800000#32)) (select y (broadcastInDim S8x20000 ![] bcast_S_S8x20000 (constant (F := Ideal) S_ .f32 0x3F800000#32)) (select (cmpf .olt m (broadcastInDim S8x20000 ![] bcast_S_S8x20000 (constant (F := Ideal) S_ .f32 0x3E99999A#32))) (broadcastInDim S8x20000 ![] bcast_S_S8x20000 (constant (F := Ideal) S_ .f32 0x00000000#32)) (broadcastInDim S8x20000 ![] bcast_S_S8x20000 (constant (F := Ideal) S_ .f32 0xBF800000#32))))) (broadcastInDim S8x20000 ![] bcast_S_S8x20000 (constant (F := Ideal) S_ .f32 0xBF800000#32))) (ix2 b n) = Spec.lab0 u B := by
  simp only [id_eq]
  pointwise [id_eq]
  rw [h, hy, hm]
  unfold Spec.lab0
  by_cases hb : B <;> simp [hb, Scalar.select]

theorem labs0 (hin : AllIn V0) (b : Fin 8) (n : Fin 20000) :
    res_main_v96 (F := Ideal) V0 (ix2 b n) = Spec.lab0 (Spec.mx (tab V0 b n.val)) (Spec.best 20000 (tab V0 b) n.val) := by
  have hm := maxes V0 hin b n
  have hi := fun k => ious V0 hin b n k
  have hg := fun k => gts V0 hin b k
  have h := hin b n
  unfold res_main_v96
  generalize res_main_v18 (F := Ideal) V0 = p at h
  generalize res_main_v77 (F := Ideal) V0 = m at hm
  generalize res_main_v84 (F := Ideal) V0 = g at hg
  generalize res_main_v76 (F := Ideal) V0 = x at hi
  refine pick_at p m _ b n _ _ h hm ?_
  rw [any_at _ b n (fun k => tab V0 b n.val k = Spec.gb 20000 (tab V0 b) k ∧ 0 < Spec.gb 20000 (tab V0 b) k) fun k => by rw [hit_at, hi, hg]; congr!]
  unfold Spec.best
  congr!

end Cert.RefRun

end
-- ==== Proof.RVal2.lean ====
/- The reference's labels after both samplings, in the common terms. -/
module

public import proofs.«01_k».proof.Proof.RVal1
public import proofs.«01_k».proof.Proof.Cum

@[expose] public section

set_option maxRecDepth 16384

noncomputable section

namespace Cert.RefRun

open Idealize.ShloMosaic Idealize.ShloMosaic.TcCoe Idealize.SL.Sem
open Cert.ReferenceIdeal Cert.ReferenceIdeal.Gen
open Idealize.ShloMosaic.StableHlo
open scoped Classical

/-! ### One array at a time -/

theorem one_bits : Ideal.ofBits .f32 0x3F800000#32 = 1 := by
  simp [Ideal.ofBits, Ideal.ieee, -EReal.coe_mul]
  norm_num
theorem zero_bits : Ideal.ofBits .f32 0x00000000#32 = 0 := by
  simp [Ideal.ofBits, Ideal.ieee]

theorem eq_const_at (x : FVec Ideal S8x20000 .f32) (w : BitVec 32) (z : EReal) (hz : Ideal.ofBits .f32 w = z) (P : Prop) (b : Fin 8) (n : Fin 20000) (hP : x (ix2 b n) = z ↔ P) :
    cmpf .oeq x (broadcastInDim S8x20000 ![] bcast_S_S8x20000 (constant (F := Ideal) S_ .f32 w)) (ix2 b n) = BitVec.ofBool (decide P) := by
  show Ideal.cmp .oeq (x (ix2 b n)) (Ideal.ofBits .f32 w) = _
  rw [hz]
  by_cases h : P
  · have := hP.2 h
    simp [Ideal.cmp, this, h]
  · have h' : x (ix2 b n) ≠ z := fun e => h (hP.1 e)
    simp [Ideal.cmp, h', h]

theorem ext_at (p : IVec S8x20000 1) (P : Prop) (b : Fin 8) (n : Fin 20000) (h : p (ix2 b n) = BitVec.ofBool (decide P)) :
    extui 32 p natLt_1_32 (ix2 b n) = BitVec.ofNat 32 (if P then 1 else 0) := by
  show BitVec.setWidth 32 (p (ix2 b n)) = _
  rw [h]
  by_cases hP : P <;> simp [hP]

theorem rank_at (p : IVec S8x20000 1) (P : ℕ → Prop) (b : Fin 8) (h : ∀ n : Fin 20000, p (ix2 b n) = BitVec.ofBool (decide (P n.val))) (n : Fin 20000) :
    Host.reduceWindow IntOp.addi ![1, 20000] ![1, 1] ![0, 19999] ![0, 0] (extui 32 p natLt_1_32) (broadcastInDim S_ ![] bcast_S_S_ (constantI S_ 32 0#32)) reduceWindows_S8x20000_S8x20000_w1s1p0_0_w20000s1p19999_0 h_S_ (ix2 b n)
      = BitVec.ofNat 32 (Spec.cnt P (n.val + 1)) := by
  refine (cumsum_at (extui 32 p natLt_1_32) _ rfl (fun i => if P i then 1 else 0) b (fun n => ext_at p _ b n (h n)) n).trans ?_
  rfl

theorem cnt_sum (P : ℕ → Prop) (N : ℕ) : (∑ n : Fin N, if P n.val then 1 else 0) = Spec.cnt P N := by
  unfold Spec.cnt
  rw [Fin.sum_univ_eq_sum_range (fun i => if P i then 1 else 0) N]

theorem total_at (p : IVec S8x20000 1) (P : ℕ → Prop) (b : Fin 8) (h : ∀ n : Fin 20000, p (ix2 b n) = BitVec.ofBool (decide (P n.val))) :
    Host.reduce IntOp.addi (extui 32 p natLt_1_32) (constantI S_ 32 0#32) reducesTo_S8x20000_S8_d1 h_S_ (ix1 b) = BitVec.ofNat 32 (Spec.cnt P 20000) := by
  refine (reduce_n IntOp.addi (extui 32 p natLt_1_32) _ b).trans ?_
  refine (Cert.KernelIdeal.Cum.fold_addi_ofNat Finset.univ _ (fun n : Fin 20000 => if P n.val then 1 else 0) fun n => ext_at p _ b n (h n)).trans ?_
  exact congrArg (BitVec.ofNat 32) (cnt_sum P 20000)

theorem room_at (y : IVec S8 32) (b : Fin 8) (n : Fin 20000) (c : ℕ) (hc : c ≤ 20000) (h : y (ix1 b) = BitVec.ofNat 32 c) :
    (broadcastInDim S8x20000 ![0, 1] bcast_S8x1_S8x20000_0_1 (broadcastInDim S8x1 ![0] bcast_S8_S8x1_0 (subi (broadcastInDim S8 ![] bcast_S_S8 (constantI S_ 32 256#32)) (minsi y (broadcastInDim S8 ![] bcast_S_S8 (constantI S_ 32 128#32)))))) (ix2 b n)
      = BitVec.ofNat 32 (256 - min c 128) := by
  have e : (broadcastInDim S8x20000 ![0, 1] bcast_S8x1_S8x20000_0_1 (broadcastInDim S8x1 ![0] bcast_S8_S8x1_0 (subi (broadcastInDim S8 ![] bcast_S_S8 (constantI S_ 32 256#32)) (minsi y (broadcastInDim S8 ![] bcast_S_S8 (constantI S_ 32 128#32)))))) (ix2 b n)
      = IntOp.subi 256#32 (IntOp.minsi (y (ix1 b)) 128#32) := by
    pointwise []
  rw [e, h]
  have hm : IntOp.minsi (BitVec.ofNat 32 c) 128#32 = BitVec.ofNat 32 (min c 128) := by
    apply BitVec.eq_of_toInt_eq
    rw [Spec.toInt_minsi, Cert.KernelIdeal.Cum.toInt_nat c (by omega), Cert.KernelIdeal.Cum.toInt_nat (min c 128) (by omega), show (128#32).toInt = 128 by decide]
    norm_cast
  rw [hm]
  have hm' : min c 128 ≤ 128 := min_le_right _ _
  generalize min c 128 = d at hm'
  unfold IntOp.subi
  apply BitVec.eq_of_toNat_eq
  rw [BitVec.toNat_sub, BitVec.toNat_ofNat, BitVec.toNat_ofNat, BitVec.toNat_ofNat]
  omega

theorem sample_at (p : IVec S8x20000 1) (y w : IVec S8x20000 32) (x : FVec Ideal S8x20000 .f32) (b : Fin 8) (n : Fin 20000) (P : Prop) (c d : ℕ) (z : EReal)
    (hp : p (ix2 b n) = BitVec.ofBool (decide P)) (hy : y (ix2 b n) = BitVec.ofNat 32 c) (hw : w (ix2 b n) = BitVec.ofNat 32 d) (hx : x (ix2 b n) = z) (hc : c ≤ 20000) (hd : d ≤ 20000) :
    select (andi (id (cmpi .ne p (broadcastInDim S8x20000 ![] bcast_S_S8x20000 (constantI S_ 1 0#1)))) (cmpi .sgt y w)) (broadcastInDim S8x20000 ![] bcast_S_S8x20000 (constant (F := Ideal) S_ .f32 0xBF800000#32)) x (ix2 b n)
      = if P ∧ d < c then Spec.m1 else z := by
  have e : select (andi (id (cmpi .ne p (broadcastInDim S8x20000 ![] bcast_S_S8x20000 (constantI S_ 1 0#1)))) (cmpi .sgt y w)) (broadcastInDim S8x20000 ![] bcast_S_S8x20000 (constant (F := Ideal) S_ .f32 0xBF800000#32)) x (ix2 b n)
      = Scalar.select (IntOp.andi (IntOp.cmpi .ne (p (ix2 b n)) 0#1) (IntOp.cmpi .sgt (y (ix2 b n)) (w (ix2 b n)))) Spec.m1 (x (ix2 b n)) := rfl
  rw [e, hp, hy, hw, hx]
  have hg : IntOp.cmpi .sgt (BitVec.ofNat 32 c) (BitVec.ofNat 32 d) = BitVec.ofBool (decide (d < c)) := by
    unfold IntOp.cmpi
    simp only [BitVec.slt_eq_decide, Cert.KernelIdeal.Cum.toInt_nat c (by omega), Cert.KernelIdeal.Cum.toInt_nat d (by omega)]
    congr 1; simp
  rw [hg]
  by_cases h1 : P <;> by_cases h2 : d < c <;> simp [h1, h2, IntOp.andi, IntOp.cmpi, Scalar.select]

/-! ### The labels -/

variable (V0 : Valuation τ sig (Elt Ideal))

theorem poss (hin : AllIn V0) (b : Fin 8) (n : Fin 20000) : res_main_v98 (F := Ideal) V0 (ix2 b n) = BitVec.ofBool (decide (Spec.pos 20000 (tab V0 b) n.val)) := by
  have h := labs0 V0 hin b n
  unfold res_main_v98
  exact eq_const_at _ _ _ one_bits _ b n (by rw [h]; rfl)

theorem labs1 (hin : AllIn V0) (b : Fin 8) (n : Fin 20000) : res_main_v107 (F := Ideal) V0 (ix2 b n) = Spec.lab1 20000 (tab V0 b) n.val := by
  unfold res_main_v107 Spec.lab1
  refine (sample_at _ _ _ _ b n (Spec.pos 20000 (tab V0 b) n.val) _ 128 _ (poss V0 hin b n) (rank_at _ _ b (poss V0 hin b) n) rfl (labs0 V0 hin b n) ?_ (by norm_num)).trans ?_
  · exact (Spec.cnt_le _ _).trans (by have := n.isLt; omega)
  · congr!

theorem negs (hin : AllIn V0) (b : Fin 8) (n : Fin 20000) : res_main_v113 (F := Ideal) V0 (ix2 b n) = BitVec.ofBool (decide (Spec.neg 20000 (tab V0 b) n.val)) := by
  have h := labs1 V0 hin b n
  unfold res_main_v113
  exact eq_const_at _ _ _ zero_bits _ b n (by rw [h]; exact Spec.lab1_eq_zero _ _ _)

theorem labs2 (hin : AllIn V0) (b : Fin 8) (n : Fin 20000) :
    res_main_v125 (F := Ideal) V0 (ix2 b n) = Spec.lab2 20000 (tab V0 b) (Spec.cnt (Spec.pos 20000 (tab V0 b)) 20000) n.val := by
  unfold res_main_v125 Spec.lab2
  refine (sample_at _ _ _ _ b n (Spec.neg 20000 (tab V0 b) n.val) _ _ _ (negs V0 hin b n) (rank_at _ _ b (negs V0 hin b) n)
    (room_at _ b n _ (Spec.cnt_le _ _) (total_at _ _ b (poss V0 hin b))) (labs1 V0 hin b n) ?_ ?_).trans ?_
  · exact (Spec.cnt_le _ _).trans (by have := n.isLt; omega)
  · omega
  · congr!

end Cert.RefRun

end
-- ==== Proof.RVal3.lean ====
/- The reference's gathered boxes and labels and its deltas, in the common terms. -/
module

public import proofs.«01_k».proof.Proof.RVal2

@[expose] public section

set_option maxRecDepth 16384

noncomputable section

namespace Cert.RefRun

open Idealize.ShloMosaic Idealize.ShloMosaic.TcCoe Idealize.SL.Sem
open Cert.ReferenceIdeal Cert.ReferenceIdeal.Gen
open Idealize.ShloMosaic.StableHlo
open scoped Classical

/-! ### One array at a time -/

theorem wrap_small (k : Fin 64) (y : BitVec 32) : Scalar.select (IntOp.cmpi .slt (BitVec.ofNat 32 k.val) 0#32) y (BitVec.ofNat 32 k.val) = BitVec.ofNat 32 k.val := by
  have h : IntOp.cmpi .slt (BitVec.ofNat 32 k.val) 0#32 = 0#1 := by
    unfold IntOp.cmpi
    simp only [BitVec.slt_eq_decide, Spec.toInt_small, show (0#32).toInt = 0 by decide]
    rw [decide_eq_false (by omega)]; rfl
  rw [h]; rfl

theorem wrap3_at (y : IVec S8x20000 32) (b : Fin 8) (n : Fin 20000) (k : Fin 64) (h : y (ix2 b n) = BitVec.ofNat 32 k.val) :
    (select (cmpi .slt (broadcastInDim S8x20000x1 ![0, 1] bcast_S8x20000_S8x20000x1_0_1 y) (broadcastInDim S8x20000x1 ![] bcast_S_S8x20000x1 (constantI S_ 32 0#32))) (addi (broadcastInDim S8x20000x1 ![0, 1] bcast_S8x20000_S8x20000x1_0_1 y) (broadcastInDim S8x20000x1 ![] bcast_S_S8x20000x1 (constantI S_ 32 64#32))) (broadcastInDim S8x20000x1 ![0, 1] bcast_S8x20000_S8x20000x1_0_1 y)) (ix3 b n 0) = BitVec.ofNat 32 k.val := by
  pointwise []
  rw [h]
  exact wrap_small k _

theorem wrap2_at (y : IVec S8x20000 32) (b : Fin 8) (n : Fin 20000) (k : Fin 64) (h : y (ix2 b n) = BitVec.ofNat 32 k.val) :
    (shapeCast S8x20000x1 (select (cmpi .slt y (broadcastInDim S8x20000 ![] bcast_S_S8x20000 (constantI S_ 32 0#32))) (addi y (broadcastInDim S8x20000 ![] bcast_S_S8x20000 (constantI S_ 32 64#32))) y) shapeCasts_S8x20000_S8x20000x1) (ix3 b n 0) = BitVec.ofNat 32 k.val := by
  pointwise []
  rw [h]
  exact wrap_small k _

theorem mask_at (y : IVec S8x20000x1 32) (b : Fin 8) (n : Fin 20000) (k : Fin 64) (h : y (ix3 b n 0) = BitVec.ofNat 32 k.val) :
    (Host.reduce IntOp.andi (andi (cmpi .sge y (broadcastInDim S8x20000x1 ![] bcast_S_S8x20000x1 (constantI S_ 32 0#32))) (cmpi .sle y (broadcastInDim S8x20000x1 ![0, 1, 2] bcast_S1x1x1_S8x20000x1_0_1_2 (broadcastInDim S1x1x1 ![2] bcast_S1_S1x1x1_2 (constantI S1 32 63#32))))) (constantI S_ 1 1#1) reducesTo_S8x20000x1_S8x20000_d2 h_S_) (ix2 b n) = 1#1 := by
  refine (reduce_u IntOp.andi _ _ b n).trans ?_
  show IntOp.andi (IntOp.andi (IntOp.cmpi .sge (y (ix3 b n 0)) 0#32) (IntOp.cmpi .sle (y (ix3 b n 0)) 63#32)) 1#1 = 1#1
  rw [h]
  have hk := k.isLt
  have e1 : IntOp.cmpi .sge (BitVec.ofNat 32 k.val) 0#32 = 1#1 := by
    unfold IntOp.cmpi
    simp only [BitVec.sle_eq_decide, Spec.toInt_small, show (0#32).toInt = 0 by decide]
    rw [decide_eq_true (by omega)]; rfl
  have e2 : IntOp.cmpi .sle (BitVec.ofNat 32 k.val) 63#32 = 1#1 := by
    unfold IntOp.cmpi
    simp only [BitVec.sle_eq_decide, Spec.toInt_small, show (63#32).toInt = 63 by decide]
    rw [decide_eq_true (by omega)]; rfl
  rw [e1, e2]; rfl

theorem masked_box (p : IVec S8x20000 1) (g : FVec Ideal S8x20000x4 .f32) (b : Fin 8) (n : Fin 20000) (q : Fin 4) (hp : p (ix2 b n) = 1#1) :
    select (broadcastInDim S8x20000x4 ![0, 1] bcast_S8x20000_S8x20000x4_0_1 p) g (broadcastInDim S8x20000x4 ![] bcast_S_S8x20000x4 (constant (F := Ideal) S_ .f32 0x7FC00000#32)) (ix3 b n q) = g (ix3 b n q) := by
  pointwise []
  rw [hp]; rfl

theorem cls_at (l : FVec Ideal S8x20000 .f32) (p : IVec S8x20000 1) (g : IVec S8x20000 32) (b : Fin 8) (n : Fin 20000) (hp : p (ix2 b n) = 1#1) :
    select (cmpf .oeq l (broadcastInDim S8x20000 ![] bcast_S_S8x20000 (constant (F := Ideal) S_ .f32 0x3F800000#32))) (addi (select p g (broadcastInDim S8x20000 ![] bcast_S_S8x20000 (constantI S_ 32 2147483648#32))) (broadcastInDim S8x20000 ![] bcast_S_S8x20000 (constantI S_ 32 1#32))) (id (select (cmpf .oeq l (broadcastInDim S8x20000 ![] bcast_S_S8x20000 (constant (F := Ideal) S_ .f32 0x00000000#32))) (broadcastInDim S8x20000 ![] bcast_S_S8x20000 (constantI S_ 32 0#32)) (broadcastInDim S8x20000 ![] bcast_S_S8x20000 (constantI S_ 32 4294967295#32)))) (ix2 b n)
      = Spec.cls (l (ix2 b n)) (g (ix2 b n)) := by
  have e1 := eq_const_at l 0x3F800000#32 1 one_bits (l (ix2 b n) = 1) b n Iff.rfl
  have e0 := eq_const_at l 0x00000000#32 0 zero_bits (l (ix2 b n) = 0) b n Iff.rfl
  generalize cmpf .oeq l (broadcastInDim S8x20000 ![] bcast_S_S8x20000 (constant (F := Ideal) S_ .f32 0x3F800000#32)) = c1 at e1
  generalize cmpf .oeq l (broadcastInDim S8x20000 ![] bcast_S_S8x20000 (constant (F := Ideal) S_ .f32 0x00000000#32)) = c0 at e0
  show Scalar.select (c1 (ix2 b n)) (IntOp.addi (Scalar.select (p (ix2 b n)) (g (ix2 b n)) 2147483648#32) 1#32) (Scalar.select (c0 (ix2 b n)) 0#32 4294967295#32) = _
  rw [e1, e0, hp]
  unfold Spec.cls
  by_cases h1 : l (ix2 b n) = 1
  · simp [h1, Scalar.select, IntOp.addi]
  · by_cases h0 : l (ix2 b n) = 0 <;> simp [h1, h0, Scalar.select]

/-! ### The results -/

variable (V0 : Valuation τ sig (Elt Ideal))

/-- Image `b`'s box labels. -/
def lbl (V0 : Valuation τ sig (Elt Ideal)) (b : Fin 8) (k : Fin 64) : BitVec 32 := (V0 (Proc.devRef .tc main_arg2) : IVec S8x64 32) (ix2 b k)

theorem idx_box (hin : AllIn V0) (b : Fin 8) (n : Fin 20000) : res_main_call15_v4 (F := Ideal) V0 (ix3 b n 0) = BitVec.ofNat 32 (Spec.first (tab V0 b n.val)).val := by
  have h := firsts V0 hin b n
  unfold res_main_call15_v4 res_main_v126
  generalize res_main_v78 (F := Ideal) V0 = y at h
  exact wrap3_at y b n _ h

theorem idx_lab (hin : AllIn V0) (b : Fin 8) (n : Fin 20000) : res_main_call16_v5 (F := Ideal) V0 (ix3 b n 0) = BitVec.ofNat 32 (Spec.first (tab V0 b n.val)).val := by
  have h := firsts V0 hin b n
  unfold res_main_call16_v5
  generalize res_main_v78 (F := Ideal) V0 = y at h
  exact wrap2_at y b n _ h

theorem boxes (hin : AllIn V0) (b : Fin 8) (n : Fin 20000) (q : Fin 4) : res_main_v127 (F := Ideal) V0 (ix3 b n q) = box V0 b (Spec.first (tab V0 b n.val)) q := by
  have h := idx_box V0 hin b n
  unfold res_main_v127
  generalize res_main_call15_v4 (F := Ideal) V0 = y at h
  exact (masked_box _ _ b n q (mask_at y b n _ h)).trans (gather_box _ y b n q _ h)

theorem clss (hin : AllIn V0) (b : Fin 8) (n : Fin 20000) :
    res_main_v136 (F := Ideal) V0 (ix2 b n) = Spec.cls (Spec.lab2 20000 (tab V0 b) (Spec.cnt (Spec.pos 20000 (tab V0 b)) 20000) n.val) (lbl V0 b (Spec.first (tab V0 b n.val))) := by
  have h := idx_lab V0 hin b n
  have hl := labs2 V0 hin b n
  unfold res_main_v136
  generalize res_main_call16_v5 (F := Ideal) V0 = y at h
  generalize res_main_v125 (F := Ideal) V0 = l at hl
  refine (cls_at l _ _ b n (mask_at y b n _ h)).trans ?_
  rw [hl]
  congr 1
  exact gather_lab _ y b n _ h

end Cert.RefRun

end
-- ==== Proof.RVal4.lean ====
/- The reference's deltas, in the common terms. -/
module

public import proofs.«01_k».proof.Proof.RVal0

@[expose] public section

set_option maxRecDepth 16384

noncomputable section

namespace Cert.RefRun

open Idealize.ShloMosaic Idealize.ShloMosaic.TcCoe Idealize.SL.Sem
open Cert.ReferenceIdeal Cert.ReferenceIdeal.Gen
open Idealize.ShloMosaic.StableHlo
open scoped Classical

variable (V0 : Valuation τ sig (Elt Ideal))

theorem locs (b : Fin 8) (n : Fin 20000) (q : Fin 4) :
    res_main_v197 (F := Ideal) V0 (ix3 b n q) = Spec.loc (anc V0 b n) (fun q => (res_main_v127 (F := Ideal) V0 : FVec Ideal S8x20000x4 .f32) (ix3 b n q)) q := by
  unfold res_main_v197 res_main_v143 res_main_v150 res_main_v167 res_main_v174 Spec.loc Spec.shift Spec.scale Spec.side anc
  generalize res_main_v127 (F := Ideal) V0 = x
  generalize V0 (Proc.devRef .tc main_arg0) = a
  pointwise []
  fin_cases q <;> rfl

end Cert.RefRun

end
-- ==== Proof.Agree.lean ====
/- The two programs' results are one: from memories agreeing on the arguments, under the precondition, every result of
   the kernel is the reference's, on every device. -/
module

public import proofs.«01_k».proof.Defs
public import proofs.«01_k».proof.Proof.KVal
public import proofs.«01_k».proof.Proof.RVal3
public import proofs.«01_k».proof.Proof.RVal4

@[expose] public section

set_option maxRecDepth 16384

noncomputable section

namespace Cert.Agree

open Cert
open Idealize.ShloMosaic Idealize.ShloMosaic.TcCoe Idealize.SL.Sem
open Idealize.ShloMosaic.StableHlo

/-- The side conditions the precondition's text states. -/
theorem pre_facts : Cert.Pre_inside_image.Facts where
  slices_S8x20000x4_S8x20000x1_0_0_0 := Cert.ReferenceIdeal.Gen.slices_S8x20000x4_S8x20000x1_0_0_0
  shapeCasts_S8x20000x1_S8x20000 := Cert.ReferenceIdeal.Gen.shapeCasts_S8x20000x1_S8x20000
  bcast_S_S8x20000 := Cert.ReferenceIdeal.Gen.bcast_S_S8x20000
  slices_S8x20000x4_S8x20000x1_0_0_1 := Cert.ReferenceIdeal.Gen.slices_S8x20000x4_S8x20000x1_0_0_1
  slices_S8x20000x4_S8x20000x1_0_0_2 := Cert.ReferenceIdeal.Gen.slices_S8x20000x4_S8x20000x1_0_0_2
  slices_S8x20000x4_S8x20000x1_0_0_3 := Cert.ReferenceIdeal.Gen.slices_S8x20000x4_S8x20000x1_0_0_3
  bcast_S_S8x64 := by decide

attribute [local instance] pre_facts

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The reference's launch memory on a device. -/
abbrev V (c : Dev ReferenceIdeal.nD) : Valuation ReferenceIdeal.τ ReferenceIdeal.sig (Elt Ideal) := launchContents m' c

section
variable (c : Dev KernelIdeal.nD)
variable (h0 : (V m' c (Proc.devRef .tc ReferenceIdeal.main_arg0) : FVec Ideal ReferenceIdeal.S8x20000x4 .f32) = KernelIdeal.Run.A0 m c)
variable (h1 : (V m' c (Proc.devRef .tc ReferenceIdeal.main_arg1) : FVec Ideal ReferenceIdeal.S8x64x4 .f32) = KernelIdeal.Run.A1 m c)
variable (h2 : (V m' c (Proc.devRef .tc ReferenceIdeal.main_arg2) : IVec ReferenceIdeal.S8x64 32) = KernelIdeal.Run.A2 m c)
variable (pre : Pre_KernelIdeal_inside_image m)

include h0 in
theorem anc_eq (b : Fin 8) : RefRun.anc (V m' c) b = fun n q => KernelIdeal.Run.A0 m c (ix3 b n q) := by
  unfold RefRun.anc; rw [h0]
include h1 in
theorem box_eq (b : Fin 8) : RefRun.box (V m' c) b = fun k q => KernelIdeal.Run.A1 m c (ix3 b k q) := by
  unfold RefRun.box; rw [h1]
include h0 h1 in
theorem tab_eq (b : Fin 8) : RefRun.tab (V m' c) b = KernelIdeal.Run.tab m c b := by
  unfold RefRun.tab KernelIdeal.Run.tab; rw [anc_eq m m' c h0, box_eq m m' c h1]

include h0 pre in
theorem all_in : RefRun.AllIn (V m' c) := fun b n => by
  have h := congrFun (pre c).1 (ix2 b n)
  rw [← h]
  unfold RefRun.res_main_v18
  rw [h0]
  rfl

include pre in
theorem small (b : Fin 8) (k : Fin 64) : (KernelIdeal.Run.A2 m c (ix2 b k)).toInt < 2147483647 := by
  have h := congrFun (pre c).2 (ix2 b k)
  have e : (Cert.Pre_inside_image.fn (F := Ideal) (KernelIdeal.Run.A0 m c) (KernelIdeal.Run.A1 m c) (KernelIdeal.Run.A2 m c)).2 (ix2 b k)
      = IntOp.cmpi .slt (KernelIdeal.Run.A2 m c (ix2 b k)) 2147483647#32 := rfl
  have h' := e.symm.trans h
  unfold IntOp.cmpi at h'
  simp only [BitVec.slt_eq_decide, show (2147483647#32).toInt = 2147483647 by decide] at h'
  by_contra hn
  rw [decide_eq_false hn] at h'
  exact absurd h' (by decide)

include h0 h1 pre in
theorem eq_boxes : KernelIdeal.Run.out9 m c = RefRun.res_main_v127 (V m' c) := by
  funext i
  obtain ⟨b, n, q, rfl⟩ : ∃ b n q, i = ix3 b n q := ⟨i 0, i 1, i 2, by idx_ext⟩
  refine (KernelIdeal.Run.v9_at m c b n q).trans ?_
  refine Eq.trans ?_ (RefRun.boxes (V m' c) (all_in m m' c h0 pre) b n q).symm
  rw [tab_eq m m' c h0 h1, box_eq m m' c h1]

include h0 h1 pre in
theorem eq_locs : KernelIdeal.Run.out11 m c = RefRun.res_main_v197 (V m' c) := by
  funext i
  obtain ⟨b, n, q, rfl⟩ : ∃ b n q, i = ix3 b n q := ⟨i 0, i 1, i 2, by idx_ext⟩
  refine (KernelIdeal.Run.v11_at m c b n q).trans ?_
  refine Eq.trans ?_ (RefRun.locs (V m' c) b n q).symm
  have e : (fun q => RefRun.res_main_v127 (F := Ideal) (V m' c) (ix3 b n q)) = fun q => KernelIdeal.Run.A1 m c (ix3 b (Spec.first (KernelIdeal.Run.tab m c b n.val)) q) := by
    funext q
    rw [RefRun.boxes (V m' c) (all_in m m' c h0 pre) b n q, tab_eq m m' c h0 h1, box_eq m m' c h1]
  rw [e, anc_eq m m' c h0]

include h0 h1 pre in
theorem eq_labs : KernelIdeal.Run.out13 m c = RefRun.res_main_v125 (V m' c) := by
  funext i
  obtain ⟨b, n, rfl⟩ : ∃ b n, i = ix2 b n := ⟨i 0, i 1, by idx_ext⟩
  refine (KernelIdeal.Run.v13_at m c b n).trans ?_
  refine Eq.trans ?_ (RefRun.labs2 (V m' c) (all_in m m' c h0 pre) b n).symm
  rw [tab_eq m m' c h0 h1]

include h0 h1 h2 pre in
theorem eq_clss : KernelIdeal.Run.out15 m c = RefRun.res_main_v136 (V m' c) := by
  funext i
  obtain ⟨b, n, rfl⟩ : ∃ b n, i = ix2 b n := ⟨i 0, i 1, by idx_ext⟩
  refine (KernelIdeal.Run.v15_at m c b n (small m c pre b)).trans ?_
  refine Eq.trans ?_ (RefRun.clss (V m' c) (all_in m m' c h0 pre) b n).symm
  rw [tab_eq m m' c h0 h1]
  unfold RefRun.lbl
  rw [h2]

end

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.MachineRun
public import proofs.«01_k».proof.Proof.Run
public import proofs.«01_k».proof.Proof.RefRun
public import proofs.«01_k».proof.Proof.Agree
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

attribute [local instance] Cert.Agree.pre_facts

/-- The reference keeps its arguments, and having no semaphores leaves them all at zero. -/
theorem reference_unchanged (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2, sem_eq_zero_of_no_sems rfl r.2⟩) (Cert.RefRun.run m g)

/-- The two programs agree: the value claim. -/
theorem results : Cert.algebraic_KernelIdeal_ReferenceIdeal_pre_inside_image := fun m g m' g' pre hag =>
  ⟨fun c => Cert.RefRun.res_main_v127 (Cert.Agree.V m' c), fun c => Cert.RefRun.res_main_v197 (Cert.Agree.V m' c),
    fun c => Cert.RefRun.res_main_v125 (Cert.Agree.V m' c), fun c => Cert.RefRun.res_main_v136 (Cert.Agree.V m' c),
    (θ_run _ _ _).mono (fun r h c =>
      ⟨(h c).1.trans (Cert.Agree.eq_boxes m m' c (hag c).1 (hag c).2.1 pre),
        (h c).2.1.trans (Cert.Agree.eq_locs m m' c (hag c).1 (hag c).2.1 pre),
        (h c).2.2.1.trans (Cert.Agree.eq_labs m m' c (hag c).1 (hag c).2.1 pre),
        (h c).2.2.2.1.trans (Cert.Agree.eq_clss m m' c (hag c).1 (hag c).2.1 (hag c).2.2 pre),
        (h c).2.2.2.2⟩) (Cert.KernelIdeal.Run.run_out m g),
    Cert.RefRun.run m' g'⟩

theorem claim : Cert.Claim :=
  ⟨Cert.Kernel.Gen.facts, Cert.KernelIdeal.Gen.facts, Cert.ReferenceIdeal.Gen.facts, Cert.Agree.pre_facts,
    fun m g _ => Cert.Kernel.Run.unchanged m g, fun m g _ => Cert.KernelIdeal.Run.unchanged m g,
    fun m g _ => Cert.KernelIdeal.Run.unchanged m g, fun m g _ => reference_unchanged m g,
    fun m g _ => reference_unchanged m g, trivial, results⟩

end Cert.Proof

end
